-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rates [hPre_rates : Cert.Pre_rates.Facts] (m : (ℓ : Loc Cert.KernelIdeal.nD Cert.KernelIdeal.τ Cert.KernelIdeal.sig) → Buf (Elt Ideal) ℓ) : Prop :=
  ∀ c : Dev Cert.KernelIdeal.nD,
    (Cert.Pre_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.1 = (fun _ => 1#1)
    ∧ (Cert.Pre_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.1 = (fun _ => 1#1)
    ∧ (Cert.Pre_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.1 = (fun _ => 1#1)
    ∧ (Cert.Pre_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.1 = (fun _ => 1#1)
    ∧ (Cert.Pre_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.1 = (fun _ => 1#1)
    ∧ (Cert.Pre_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.1 = (fun _ => 1#1)
    ∧ (Cert.Pre_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.1 = (fun _ => 1#1)
    ∧ (Cert.Pre_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.1 = (fun _ => 1#1)
    ∧ (Cert.Pre_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.2.1 = (fun _ => 1#1)
    ∧ (Cert.Pre_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.2.2.1 = (fun _ => 1#1)
    ∧ (Cert.Pre_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rates [hPre_rates : Cert.Pre_rates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.1 = (fun _ => 1#1)
    ∧ (Cert.Pre_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.1 = (fun _ => 1#1)
    ∧ (Cert.Pre_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.1 = (fun _ => 1#1)
    ∧ (Cert.Pre_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.1 = (fun _ => 1#1)
    ∧ (Cert.Pre_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.1 = (fun _ => 1#1)
    ∧ (Cert.Pre_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.1 = (fun _ => 1#1)
    ∧ (Cert.Pre_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.1 = (fun _ => 1#1)
    ∧ (Cert.Pre_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.1 = (fun _ => 1#1)
    ∧ (Cert.Pre_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.2.1 = (fun _ => 1#1)
    ∧ (Cert.Pre_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.2.2.1 = (fun _ => 1#1)
    ∧ (Cert.Pre_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_rates [hKernelIdeal : Cert.KernelIdeal.Facts] [hPre_rates : Cert.Pre_rates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_rates [hReferenceIdeal : Cert.ReferenceIdeal.Facts] [hPre_rates : Cert.Pre_rates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_rates [hKernelIdeal : Cert.KernelIdeal.Facts] [hReferenceIdeal : Cert.ReferenceIdeal.Facts] [hPre_rates : Cert.Pre_rates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1275) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_rates : Cert.Pre_rates.Facts),
    quiescent_Kernel (hKernel := hKernel)
    ∧ quiescent_KernelIdeal (hKernelIdeal := hKernelIdeal)
    ∧ quiescent_KernelIdeal_pre_rates (hKernelIdeal := hKernelIdeal) (hPre_rates := hPre_rates)
    ∧ quiescent_ReferenceIdeal (hReferenceIdeal := hReferenceIdeal)
    ∧ quiescent_ReferenceIdeal_pre_rates (hReferenceIdeal := hReferenceIdeal) (hPre_rates := hPre_rates)
    ∧ preserves_Kernel_KernelIdeal
    ∧ algebraic_KernelIdeal_ReferenceIdeal_pre_rates (hKernelIdeal := hKernelIdeal) (hReferenceIdeal := hReferenceIdeal) (hPre_rates := hPre_rates)
-- ==== Pre_rates.lean ====
abbrev S16x1024 : Shape := ⟨2, ![16, 1024]⟩
abbrev S3x1024x1024 : Shape := ⟨3, ![3, 1024, 1024]⟩
abbrev S3x1024 : Shape := ⟨2, ![3, 1024]⟩
abbrev S_ : Shape := ⟨0, ![]⟩

class Facts : Prop where
  bcast_S_S16x1024 : S_.BroadcastsInDim S16x1024 (![] : Fin 0 → Fin S16x1024.rank)
  bcast_S_S3x1024x1024 : S_.BroadcastsInDim S3x1024x1024 (![] : Fin 0 → Fin S3x1024x1024.rank)
  bcast_S_S3x1024 : S_.BroadcastsInDim S3x1024 (![] : Fin 0 → Fin S3x1024.rank)

variable [Facts]

def fn_part1 {F : FTy → Type} [FloatOps F] (main_arg8 : FVec F S3x1024 .f32) (main_arg9 : FVec F S3x1024 .f32) (main_arg10 : FVec F S3x1024 .f32) (main_arg11 : FVec F S3x1024 .f32) (main_arg12 : FVec F S3x1024x1024 .f32) (main_arg13 : FVec F S3x1024x1024 .f32) (main_arg14 : FVec F S3x1024x1024 .f32) (main_arg16 : FVec F S_ .f32) (main_v1 : IVec S16x1024 1) (main_v3 : IVec S3x1024x1024 1) (main_v5 : IVec S3x1024x1024 1) (main_v7 : IVec S3x1024x1024 1) (main_v9 : IVec S3x1024x1024 1) (main_v11 : IVec S3x1024x1024 1) (main_v13 : IVec S3x1024x1024 1) (main_v15 : IVec S3x1024 1) : IVec S16x1024 1 × IVec S3x1024x1024 1 × IVec S3x1024x1024 1 × IVec S3x1024x1024 1 × IVec S3x1024x1024 1 × IVec S3x1024x1024 1 × IVec S3x1024x1024 1 × IVec S3x1024 1 × IVec S3x1024 1 × IVec S3x1024 1 × IVec S3x1024 1 × IVec S3x1024 1 × IVec S3x1024x1024 1 × IVec S3x1024x1024 1 × IVec S3x1024x1024 1 × IVec S_ 1 :=
  let main_cst_7 : FVec F S_ .f32 := constant S_ .f32 0x00000000#32
  let main_v16 : FVec F S3x1024 .f32 := broadcastInDim S3x1024 ![] bcast_S_S3x1024 main_cst_7
  let main_v17 : IVec S3x1024 1 := cmpf .oge main_arg8 main_v16
  let main_cst_8 : FVec F S_ .f32 := constant S_ .f32 0x00000000#32
  let main_v18 : FVec F S3x1024 .f32 := broadcastInDim S3x1024 ![] bcast_S_S3x1024 main_cst_8
  let main_v19 : IVec S3x1024 1 := cmpf .oge main_arg9 main_v18
  let main_cst_9 : FVec F S_ .f32 := constant S_ .f32 0x00000000#32
  let main_v20 : FVec F S3x1024 .f32 := broadcastInDim S3x1024 ![] bcast_S_S3x1024 main_cst_9
  let main_v21 : IVec S3x1024 1 := cmpf .oge main_arg10 main_v20
  let main_cst_10 : FVec F S_ .f32 := constant S_ .f32 0x00000000#32
  let main_v22 : FVec F S3x1024 .f32 := broadcastInDim S3x1024 ![] bcast_S_S3x1024 main_cst_10
  let main_v23 : IVec S3x1024 1 := cmpf .oge main_arg11 main_v22
  let main_cst_11 : FVec F S_ .f32 := constant S_ .f32 0x00000000#32
  let main_v24 : FVec F S3x1024x1024 .f32 := broadcastInDim S3x1024x1024 ![] bcast_S_S3x1024x1024 main_cst_11
  let main_v25 : IVec S3x1024x1024 1 := cmpf .oge main_arg12 main_v24
  let main_cst_12 : FVec F S_ .f32 := constant S_ .f32 0x00000000#32
  let main_v26 : FVec F S3x1024x1024 .f32 := broadcastInDim S3x1024x1024 ![] bcast_S_S3x1024x1024 main_cst_12
  let main_v27 : IVec S3x1024x1024 1 := cmpf .oge main_arg13 main_v26
  let main_cst_13 : FVec F S_ .f32 := constant S_ .f32 0x00000000#32
  let main_v28 : FVec F S3x1024x1024 .f32 := broadcastInDim S3x1024x1024 ![] bcast_S_S3x1024x1024 main_cst_13
  let main_v29 : IVec S3x1024x1024 1 := cmpf .oge main_arg14 main_v28
  let main_cst_14 : FVec F S_ .f32 := constant S_ .f32 0x00000000#32
  let main_v30 : IVec S_ 1 := cmpf .oge main_arg16 main_cst_14
  (main_v1, main_v3, main_v5, main_v7, main_v9, main_v11, main_v13, main_v15, main_v17, main_v19, main_v21, main_v23, main_v25, main_v27, main_v29, main_v30)

def fn {F : FTy → Type} [FloatOps F] (main_arg0 : FVec F S16x1024 .f32) (main_arg1 : FVec F S3x1024x1024 .f32) (main_arg2 : FVec F S3x1024x1024 .f32) (main_arg3 : FVec F S3x1024x1024 .f32) (main_arg4 : FVec F S3x1024x1024 .f32) (main_arg5 : FVec F S3x1024x1024 .f32) (main_arg6 : FVec F S3x1024x1024 .f32) (main_arg7 : FVec F S3x1024 .f32) (main_arg8 : FVec F S3x1024 .f32) (main_arg9 : FVec F S3x1024 .f32) (main_arg10 : FVec F S3x1024 .f32) (main_arg11 : FVec F S3x1024 .f32) (main_arg12 : FVec F S3x1024x1024 .f32) (main_arg13 : FVec F S3x1024x1024 .f32) (main_arg14 : FVec F S3x1024x1024 .f32) (main_arg15 : IVec S3x1024x1024 32) (main_arg16 : FVec F S_ .f32) : IVec S16x1024 1 × IVec S3x1024x1024 1 × IVec S3x1024x1024 1 × IVec S3x1024x1024 1 × IVec S3x1024x1024 1 × IVec S3x1024x1024 1 × IVec S3x1024x1024 1 × IVec S3x1024 1 × IVec S3x1024 1 × IVec S3x1024 1 × IVec S3x1024 1 × IVec S3x1024 1 × IVec S3x1024x1024 1 × IVec S3x1024x1024 1 × IVec S3x1024x1024 1 × IVec S_ 1 :=
  let main_cst : FVec F S_ .f32 := constant S_ .f32 0x00000000#32
  let main_v0 : FVec F S16x1024 .f32 := broadcastInDim S16x1024 ![] bcast_S_S16x1024 main_cst
  let main_v1 : IVec S16x1024 1 := cmpf .oge main_arg0 main_v0
  let main_cst_0 : FVec F S_ .f32 := constant S_ .f32 0x00000000#32
  let main_v2 : FVec F S3x1024x1024 .f32 := broadcastInDim S3x1024x1024 ![] bcast_S_S3x1024x1024 main_cst_0
  let main_v3 : IVec S3x1024x1024 1 := cmpf .oge main_arg1 main_v2
  let main_cst_1 : FVec F S_ .f32 := constant S_ .f32 0x00000000#32
  let main_v4 : FVec F S3x1024x1024 .f32 := broadcastInDim S3x1024x1024 ![] bcast_S_S3x1024x1024 main_cst_1
  let main_v5 : IVec S3x1024x1024 1 := cmpf .oge main_arg2 main_v4
  let main_cst_2 : FVec F S_ .f32 := constant S_ .f32 0x00000000#32
  let main_v6 : FVec F S3x1024x1024 .f32 := broadcastInDim S3x1024x1024 ![] bcast_S_S3x1024x1024 main_cst_2
  let main_v7 : IVec S3x1024x1024 1 := cmpf .oge main_arg3 main_v6
  let main_cst_3 : FVec F S_ .f32 := constant S_ .f32 0x00000000#32
  let main_v8 : FVec F S3x1024x1024 .f32 := broadcastInDim S3x1024x1024 ![] bcast_S_S3x1024x1024 main_cst_3
  let main_v9 : IVec S3x1024x1024 1 := cmpf .oge main_arg4 main_v8
  let main_cst_4 : FVec F S_ .f32 := constant S_ .f32 0x00000000#32
  let main_v10 : FVec F S3x1024x1024 .f32 := broadcastInDim S3x1024x1024 ![] bcast_S_S3x1024x1024 main_cst_4
  let main_v11 : IVec S3x1024x1024 1 := cmpf .oge main_arg5 main_v10
  let main_cst_5 : FVec F S_ .f32 := constant S_ .f32 0x00000000#32
  let main_v12 : FVec F S3x1024x1024 .f32 := broadcastInDim S3x1024x1024 ![] bcast_S_S3x1024x1024 main_cst_5
  let main_v13 : IVec S3x1024x1024 1 := cmpf .oge main_arg6 main_v12
  let main_cst_6 : FVec F S_ .f32 := constant S_ .f32 0x00000000#32
  let main_v14 : FVec F S3x1024 .f32 := broadcastInDim S3x1024 ![] bcast_S_S3x1024 main_cst_6
  let main_v15 : IVec S3x1024 1 := cmpf .oge main_arg7 main_v14
  fn_part1 (F := F) main_arg8 main_arg9 main_arg10 main_arg11 main_arg12 main_arg13 main_arg14 main_arg16 main_v1 main_v3 main_v5 main_v7 main_v9 main_v11 main_v13 main_v15
-- ==== Kernel.lean ====
abbrev S16x1024 : Shape := ⟨2, ![16, 1024]⟩
abbrev S3x1024x1024 : Shape := ⟨3, ![3, 1024, 1024]⟩
abbrev S3x1024 : Shape := ⟨2, ![3, 1024]⟩
abbrev S_ : Shape := ⟨0, ![]⟩
abbrev S3x1x1024 : Shape := ⟨3, ![3, 1, 1024]⟩
abbrev S16x1 : Shape := ⟨2, ![16, 1]⟩
abbrev S1x256x1024 : Shape := ⟨3, ![1, 256, 1024]⟩
abbrev S3x2048x1024 : Shape := ⟨3, ![3, 2048, 1024]⟩
abbrev S256x1024 : Shape := ⟨2, ![256, 1024]⟩
abbrev S1024 : Shape := ⟨1, ![1024]⟩
abbrev S1x1024 : Shape := ⟨2, ![1, 1024]⟩
abbrev S1x1x1024 : Shape := ⟨3, ![1, 1, 1024]⟩
abbrev S16 : Shape := ⟨1, ![16]⟩
abbrev S1x2048x1024 : Shape := ⟨3, ![1, 2048, 1024]⟩
abbrev S2048x1024 : Shape := ⟨2, ![2048, 1024]⟩
abbrev S16x2048 : Shape := ⟨2, ![16, 2048]⟩

abbrev nBuf : Space → Nat
  | .hbm => 34
  | .vmem => 29
  | .smem => 0
  | _ => 0

abbrev bufTy : (tb : Table) → Fin (tcTables nBuf tb) → BufTy
  | .hbm, ⟨0, _⟩ => ⟨S16x1024, .f32⟩
  | .hbm, ⟨1, _⟩ => ⟨S3x1024x1024, .f32⟩
  | .hbm, ⟨2, _⟩ => ⟨S3x1024x1024, .f32⟩
  | .hbm, ⟨3, _⟩ => ⟨S3x1024x1024, .f32⟩
  | .hbm, ⟨4, _⟩ => ⟨S3x1024x1024, .f32⟩
  | .hbm, ⟨5, _⟩ => ⟨S3x1024x1024, .f32⟩
  | .hbm, ⟨6, _⟩ => ⟨S3x1024x1024, .f32⟩
  | .hbm, ⟨7, _⟩ => ⟨S3x1024, .f32⟩
  | .hbm, ⟨8, _⟩ => ⟨S3x1024, .f32⟩
  | .hbm, ⟨9, _⟩ => ⟨S3x1024, .f32⟩
  | .hbm, ⟨10, _⟩ => ⟨S3x1024, .f32⟩
  | .hbm, ⟨11, _⟩ => ⟨S3x1024, .f32⟩
  | .hbm, ⟨12, _⟩ => ⟨S3x1024x1024, .f32⟩
  | .hbm, ⟨13, _⟩ => ⟨S3x1024x1024, .f32⟩
  | .hbm, ⟨14, _⟩ => ⟨S3x1024x1024, .f32⟩
  | .hbm, ⟨15, _⟩ => ⟨S3x1024x1024, .i32⟩
  | .hbm, ⟨16, _⟩ => ⟨S_, .f32⟩
  | .hbm, ⟨17, _⟩ => ⟨S3x1024, .f32⟩
  | .hbm, ⟨18, _⟩ => ⟨S3x1024, .f32⟩
  | .hbm, ⟨19, _⟩ => ⟨S3x1024, .f32⟩
  | .hbm, ⟨20, _⟩ => ⟨S3x1024, .f32⟩
  | .hbm, ⟨21, _⟩ => ⟨S3x1x1024, .f32⟩
  | .hbm, ⟨22, _⟩ => ⟨S3x1024, .f32⟩
  | .hbm, ⟨23, _⟩ => ⟨S3x1024, .f32⟩
  | .hbm, ⟨24, _⟩ => ⟨S_, .f32⟩
  | .hbm, ⟨25, _⟩ => ⟨S3x1024, .f32⟩
  | .hbm, ⟨26, _⟩ => ⟨S3x1024, .f32⟩
  | .hbm, ⟨27, _⟩ => ⟨S3x1024, .f32⟩
  | .hbm, ⟨28, _⟩ => ⟨S3x1x1024, .f32⟩
  | .hbm, ⟨29, _⟩ => ⟨S_, .f32⟩
  | .hbm, ⟨30, _⟩ => ⟨S3x1024, .f32⟩
  | .hbm, ⟨31, _⟩ => ⟨S3x1024, .f32⟩
  | .hbm, ⟨32, _⟩ => ⟨S3x1x1024, .f32⟩
  | .hbm, ⟨33, _⟩ => ⟨S16x1, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .i32⟩
  | .local _ .vmem, ⟨19, _⟩ => ⟨S1x256x1024, .i32⟩
  | .local _ .vmem, ⟨20, _⟩ => ⟨S16x1024, .f32⟩
  | .local _ .vmem, ⟨21, _⟩ => ⟨S3x1x1024, .f32⟩
  | .local _ .vmem, ⟨22, _⟩ => ⟨S3x1x1024, .f32⟩
  | .local _ .vmem, ⟨23, _⟩ => ⟨S3x1x1024, .f32⟩
  | .local _ .vmem, ⟨24, _⟩ => ⟨S16x1, .f32⟩
  | .local _ .vmem, ⟨25, _⟩ => ⟨S3x2048x1024, .f32⟩
  | .local _ .vmem, ⟨26, _⟩ => ⟨S3x1x1024, .f32⟩
  | .local _ .vmem, ⟨27, _⟩ => ⟨S16x1024, .f32⟩
  | .local _ .vmem, ⟨28, _⟩ => ⟨S16x1, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24

abbrev nD : Nat := 1
abbrev τ : Topo := Topo.v7x

variable {F : FTy → Type} [FloatOps F]

abbrev grid0 : Pipeline.Grid := ⟨2, ![3, 4], ![false, false]⟩

def k0_off1 (i : grid0.Coords) : Fin 3 → Nat :=
  let arg0 : BitVec 32 := BitVec.ofNat 32 (i 0).val
  let v36 : Index := Scalar.indexCast arg0
  let arg1 : BitVec 32 := BitVec.ofNat 32 (i 1).val
  let c256_i32 : BitVec 32 := 256#32
  let v35 : BitVec 32 := Scalar.muli arg1 c256_i32
  let v37 : Index := Scalar.indexCast v35
  let c0_31 : Index := 0#32
  ![v36.toNat, v37.toNat, 0]
def k0_off2 (i : grid0.Coords) : Fin 3 → Nat :=
  let arg0 : BitVec 32 := BitVec.ofNat 32 (i 0).val
  let v46 : Index := Scalar.indexCast arg0
  let c1024_i32 : BitVec 32 := 1024#32
  let arg1 : BitVec 32 := BitVec.ofNat 32 (i 1).val
  let c256_i32_35 : BitVec 32 := 256#32
  let v44 : BitVec 32 := Scalar.muli arg1 c256_i32_35
  let v45 : BitVec 32 := Scalar.addi c1024_i32 v44
  let v47 : Index := Scalar.indexCast v45
  let c0_36 : Index := 0#32
  ![v46.toNat, v47.toNat, 0]
def k0_cond1 (i : grid0.Coords) : BitVec 1 :=
  let arg1 : BitVec 32 := BitVec.ofNat 32 (i 1).val
  let c0_i32_38 : BitVec 32 := 0#32
  let v54 : BitVec 1 := Scalar.cmpi .eq arg1 c0_i32_38
  let v55 : BitVec 32 := Scalar.extui v54
  let c0_i32_39 : BitVec 32 := 0#32
  let v56 : BitVec 1 := Scalar.cmpi .ne v55 c0_i32_39
  v56

def k0_off3 (i : grid0.Coords) : Fin 3 → Nat :=
  let arg0 : BitVec 32 := BitVec.ofNat 32 (i 0).val
  let v75 : Index := Scalar.indexCast arg0
  let c0_50 : Index := 0#32
  let c0_51 : Index := 0#32
  ![v75.toNat, 0, 0]
def k0_cond2 (i : grid0.Coords) : BitVec 1 :=
  let arg1 : BitVec 32 := BitVec.ofNat 32 (i 1).val
  let c0_i32_40 : BitVec 32 := 0#32
  let v57 : BitVec 1 := Scalar.cmpi .ne arg1 c0_i32_40
  let v58 : BitVec 32 := Scalar.extui v57
  let c0_i32_41 : BitVec 32 := 0#32
  let v59 : BitVec 1 := Scalar.cmpi .ne v58 c0_i32_41
  v59

def k0_off4 (i : grid0.Coords) : Fin 3 → Nat :=
  let arg0 : BitVec 32 := BitVec.ofNat 32 (i 0).val
  let v75 : Index := Scalar.indexCast arg0
  let c0_50 : Index := 0#32
  let c0_51 : Index := 0#32
  ![v75.toNat, 0, 0]
def k0_cond5 (i : grid0.Coords) : BitVec 1 :=
  let arg0 : BitVec 32 := BitVec.ofNat 32 (i 0).val
  let c2_i32_48 : BitVec 32 := 2#32
  let v70 : BitVec 1 := Scalar.cmpi .eq arg0 c2_i32_48
  let arg1 : BitVec 32 := BitVec.ofNat 32 (i 1).val
  let c3_i32 : BitVec 32 := 3#32
  let v71 : BitVec 1 := Scalar.cmpi .eq arg1 c3_i32
  let v72 : BitVec 1 := Scalar.andi v70 v71
  let v73 : BitVec 32 := Scalar.extui v72
  let c0_i32_49 : BitVec 32 := 0#32
  let v74 : BitVec 1 := Scalar.cmpi .ne v73 c0_i32_49
  v74

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S16x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S3x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S3x1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S3x1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S16x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== ReferenceIdeal.lean ====
abbrev S16x1024 : Shape := ⟨2, ![16, 1024]⟩
abbrev S3x1024x1024 : Shape := ⟨3, ![3, 1024, 1024]⟩
abbrev S3x1024 : Shape := ⟨2, ![3, 1024]⟩
abbrev S_ : Shape := ⟨0, ![]⟩
abbrev S16x1 : Shape := ⟨2, ![16, 1]⟩
abbrev S1x1024x1024 : Shape := ⟨3, ![1, 1024, 1024]⟩
abbrev S1024x1024 : Shape := ⟨2, ![1024, 1024]⟩
abbrev S1024 : Shape := ⟨1, ![1024]⟩
abbrev S16 : Shape := ⟨1, ![16]⟩
abbrev S1x1024 : Shape := ⟨2, ![1, 1024]⟩

abbrev nBuf : Space → Nat
  | .hbm => 1514
  | .vmem => 0
  | .smem => 0
  | _ => 0

abbrev hbmTy0_0 (i : Nat) : BufTy := match i % 128 with
  | 0 => ⟨S16x1024, .f32⟩
  | 1 => ⟨S3x1024x1024, .f32⟩
  | 2 => ⟨S3x1024x1024, .f32⟩
  | 3 => ⟨S3x1024x1024, .f32⟩
  | 4 => ⟨S3x1024x1024, .f32⟩
  | 5 => ⟨S3x1024x1024, .f32⟩
  | 6 => ⟨S3x1024x1024, .f32⟩
  | 7 => ⟨S3x1024, .f32⟩
  | 8 => ⟨S3x1024, .f32⟩
  | 9 => ⟨S3x1024, .f32⟩
  | 10 => ⟨S3x1024, .f32⟩
  | 11 => ⟨S3x1024, .f32⟩
  | 12 => ⟨S3x1024x1024, .f32⟩
  | 13 => ⟨S3x1024x1024, .f32⟩
  | 14 => ⟨S3x1024x1024, .f32⟩
  | 15 => ⟨S3x1024x1024, .i32⟩
  | 16 => ⟨S_, .f32⟩
  | 17 => ⟨S_, .f32⟩
  | 18 => ⟨S16x1, .f32⟩
  | 19 => ⟨S_, .f32⟩
  | 20 => ⟨S16x1, .f32⟩
  | 21 => ⟨S1x1024x1024, .i32⟩
  | 22 => ⟨S1024x1024, .i32⟩
  | 23 => ⟨S_, .i32⟩
  | 24 => ⟨S1024x1024, .i32⟩
  | 25 => ⟨S1024x1024, .i1⟩
  | 26 => ⟨S1x1024x1024, .f32⟩
  | 27 => ⟨S1024x1024, .f32⟩
  | 28 => ⟨S1x1024x1024, .f32⟩
  | 29 => ⟨S1024x1024, .f32⟩
  | 30 => ⟨S1x1024x1024, .f32⟩
  | 31 => ⟨S1024x1024, .f32⟩
  | 32 => ⟨S1024x1024, .f32⟩
  | 33 => ⟨S1024x1024, .f32⟩
  | 34 => ⟨S1x1024x1024, .f32⟩
  | 35 => ⟨S1024x1024, .f32⟩
  | 36 => ⟨S1024x1024, .f32⟩
  | 37 => ⟨S_, .f32⟩
  | 38 => ⟨S_, .f32⟩
  | 39 => ⟨S1024x1024, .f32⟩
  | 40 => ⟨S1024x1024, .f32⟩
  | 41 => ⟨S1x1024x1024, .i32⟩
  | 42 => ⟨S1024x1024, .i32⟩
  | 43 => ⟨S_, .i32⟩
  | 44 => ⟨S1024x1024, .i32⟩
  | 45 => ⟨S1024x1024, .i1⟩
  | 46 => ⟨S1x1024x1024, .f32⟩
  | 47 => ⟨S1024x1024, .f32⟩
  | 48 => ⟨S1x1024x1024, .f32⟩
  | 49 => ⟨S1024x1024, .f32⟩
  | 50 => ⟨S1x1024x1024, .f32⟩
  | 51 => ⟨S1024x1024, .f32⟩
  | 52 => ⟨S1024x1024, .f32⟩
  | 53 => ⟨S1024x1024, .f32⟩
  | 54 => ⟨S1x1024x1024, .f32⟩
  | 55 => ⟨S1024x1024, .f32⟩
  | 56 => ⟨S1024x1024, .f32⟩
  | 57 => ⟨S_, .f32⟩
  | 58 => ⟨S_, .f32⟩
  | 59 => ⟨S1024x1024, .f32⟩
  | 60 => ⟨S1024x1024, .f32⟩
  | 61 => ⟨S1024x1024, .f32⟩
  | 62 => ⟨S_, .f32⟩
  | 63 => ⟨S1024, .f32⟩
  | 64 => ⟨S16, .f32⟩
  | 65 => ⟨S16x1, .f32⟩
  | 66 => ⟨S16x1, .f32⟩
  | 67 => ⟨S16x1, .f32⟩
  | 68 => ⟨S1x1024, .f32⟩
  | 69 => ⟨S1024, .f32⟩
  | 70 => ⟨S1x1024, .f32⟩
  | 71 => ⟨S1024, .f32⟩
  | 72 => ⟨S1x1024, .f32⟩
  | 73 => ⟨S1024, .f32⟩
  | 74 => ⟨S1024, .f32⟩
  | 75 => ⟨S1024, .f32⟩
  | 76 => ⟨S1x1024, .f32⟩
  | 77 => ⟨S1x1024x1024, .f32⟩
  | 78 => ⟨S1024x1024, .f32⟩
  | 79 => ⟨S1024x1024, .f32⟩
  | 80 => ⟨S1024x1024, .f32⟩
  | 81 => ⟨S16x1024, .f32⟩
  | 82 => ⟨S16x1024, .f32⟩
  | 83 => ⟨S16x1024, .f32⟩
  | 84 => ⟨S16x1024, .f32⟩
  | 85 => ⟨S16x1024, .f32⟩
  | 86 => ⟨S16x1024, .f32⟩
  | 87 => ⟨S16x1024, .f32⟩
  | 88 => ⟨S1x1024x1024, .f32⟩
  | 89 => ⟨S1024x1024, .f32⟩
  | 90 => ⟨S1024x1024, .f32⟩
  | 91 => ⟨S1024x1024, .f32⟩
  | 92 => ⟨S16x1024, .f32⟩
  | 93 => ⟨S16x1024, .f32⟩
  | 94 => ⟨S16x1024, .f32⟩
  | 95 => ⟨S16x1, .f32⟩
  | 96 => ⟨S16x1024, .f32⟩
  | 97 => ⟨S16x1024, .f32⟩
  | 98 => ⟨S1x1024, .f32⟩
  | 99 => ⟨S1024, .f32⟩
  | 100 => ⟨S1x1024, .f32⟩
  | 101 => ⟨S1x1024, .f32⟩
  | 102 => ⟨S1024, .f32⟩
  | 103 => ⟨S1x1024, .f32⟩
  | 104 => ⟨S16x1024, .f32⟩
  | 105 => ⟨S16x1024, .f32⟩
  | 106 => ⟨S1x1024, .f32⟩
  | 107 => ⟨S1024, .f32⟩
  | 108 => ⟨S1x1024, .f32⟩
  | 109 => ⟨S_, .f32⟩
  | 110 => ⟨S1x1024, .f32⟩
  | 111 => ⟨S1x1024, .f32⟩
  | 112 => ⟨S16x1024, .f32⟩
  | 113 => ⟨S16x1024, .f32⟩
  | 114 => ⟨S16x1024, .f32⟩
  | 115 => ⟨S16x1024, .f32⟩
  | 116 => ⟨S_, .f32⟩
  | 117 => ⟨S16x1024, .f32⟩
  | 118 => ⟨S16x1024, .f32⟩
  | 119 => ⟨S16x1024, .f32⟩
  | 120 => ⟨S1x1024x1024, .i32⟩
  | 121 => ⟨S1024x1024, .i32⟩
  | 122 => ⟨S_, .i32⟩
  | 123 => ⟨S1024x1024, .i32⟩
  | 124 => ⟨S1024x1024, .i1⟩
  | 125 => ⟨S1x1024x1024, .f32⟩
  | 126 => ⟨S1024x1024, .f32⟩
  | 127 => ⟨S1x1024x1024, .f32⟩
  | _ => ⟨S16x1024, .f32⟩

abbrev hbmTy0_1 (i : Nat) : BufTy := match i % 128 with
  | 0 => ⟨S1024x1024, .f32⟩
  | 1 => ⟨S1x1024x1024, .f32⟩
  | 2 => ⟨S1024x1024, .f32⟩
  | 3 => ⟨S1024x1024, .f32⟩
  | 4 => ⟨S1024x1024, .f32⟩
  | 5 => ⟨S1x1024x1024, .f32⟩
  | 6 => ⟨S1024x1024, .f32⟩
  | 7 => ⟨S1024x1024, .f32⟩
  | 8 => ⟨S_, .f32⟩
  | 9 => ⟨S_, .f32⟩
  | 10 => ⟨S1024x1024, .f32⟩
  | 11 => ⟨S1024x1024, .f32⟩
  | 12 => ⟨S1x1024x1024, .i32⟩
  | 13 => ⟨S1024x1024, .i32⟩
  | 14 => ⟨S_, .i32⟩
  | 15 => ⟨S1024x1024, .i32⟩
  | 16 => ⟨S1024x1024, .i1⟩
  | 17 => ⟨S1x1024x1024, .f32⟩
  | 18 => ⟨S1024x1024, .f32⟩
  | 19 => ⟨S1x1024x1024, .f32⟩
  | 20 => ⟨S1024x1024, .f32⟩
  | 21 => ⟨S1x1024x1024, .f32⟩
  | 22 => ⟨S1024x1024, .f32⟩
  | 23 => ⟨S1024x1024, .f32⟩
  | 24 => ⟨S1024x1024, .f32⟩
  | 25 => ⟨S1x1024x1024, .f32⟩
  | 26 => ⟨S1024x1024, .f32⟩
  | 27 => ⟨S1024x1024, .f32⟩
  | 28 => ⟨S_, .f32⟩
  | 29 => ⟨S_, .f32⟩
  | 30 => ⟨S1024x1024, .f32⟩
  | 31 => ⟨S1024x1024, .f32⟩
  | 32 => ⟨S1024x1024, .f32⟩
  | 33 => ⟨S_, .f32⟩
  | 34 => ⟨S1024, .f32⟩
  | 35 => ⟨S16, .f32⟩
  | 36 => ⟨S16x1, .f32⟩
  | 37 => ⟨S16x1, .f32⟩
  | 38 => ⟨S16x1, .f32⟩
  | 39 => ⟨S1x1024, .f32⟩
  | 40 => ⟨S1024, .f32⟩
  | 41 => ⟨S1x1024, .f32⟩
  | 42 => ⟨S1024, .f32⟩
  | 43 => ⟨S1x1024, .f32⟩
  | 44 => ⟨S1024, .f32⟩
  | 45 => ⟨S1024, .f32⟩
  | 46 => ⟨S1024, .f32⟩
  | 47 => ⟨S1x1024, .f32⟩
  | 48 => ⟨S1x1024x1024, .f32⟩
  | 49 => ⟨S1024x1024, .f32⟩
  | 50 => ⟨S1024x1024, .f32⟩
  | 51 => ⟨S1024x1024, .f32⟩
  | 52 => ⟨S16x1024, .f32⟩
  | 53 => ⟨S16x1024, .f32⟩
  | 54 => ⟨S16x1024, .f32⟩
  | 55 => ⟨S16x1024, .f32⟩
  | 56 => ⟨S16x1024, .f32⟩
  | 57 => ⟨S16x1024, .f32⟩
  | 58 => ⟨S16x1024, .f32⟩
  | 59 => ⟨S1x1024x1024, .f32⟩
  | 60 => ⟨S1024x1024, .f32⟩
  | 61 => ⟨S1024x1024, .f32⟩
  | 62 => ⟨S1024x1024, .f32⟩
  | 63 => ⟨S16x1024, .f32⟩
  | 64 => ⟨S16x1024, .f32⟩
  | 65 => ⟨S16x1024, .f32⟩
  | 66 => ⟨S16x1, .f32⟩
  | 67 => ⟨S16x1024, .f32⟩
  | 68 => ⟨S16x1024, .f32⟩
  | 69 => ⟨S1x1024, .f32⟩
  | 70 => ⟨S1024, .f32⟩
  | 71 => ⟨S1x1024, .f32⟩
  | 72 => ⟨S1x1024, .f32⟩
  | 73 => ⟨S1024, .f32⟩
  | 74 => ⟨S1x1024, .f32⟩
  | 75 => ⟨S16x1024, .f32⟩
  | 76 => ⟨S16x1024, .f32⟩
  | 77 => ⟨S1x1024, .f32⟩
  | 78 => ⟨S1024, .f32⟩
  | 79 => ⟨S1x1024, .f32⟩
  | 80 => ⟨S_, .f32⟩
  | 81 => ⟨S1x1024, .f32⟩
  | 82 => ⟨S1x1024, .f32⟩
  | 83 => ⟨S16x1024, .f32⟩
  | 84 => ⟨S16x1024, .f32⟩
  | 85 => ⟨S16x1024, .f32⟩
  | 86 => ⟨S16x1024, .f32⟩
  | 87 => ⟨S_, .f32⟩
  | 88 => ⟨S16x1024, .f32⟩
  | 89 => ⟨S16x1024, .f32⟩
  | 90 => ⟨S16x1024, .f32⟩
  | 91 => ⟨S1x1024x1024, .i32⟩
  | 92 => ⟨S1024x1024, .i32⟩
  | 93 => ⟨S_, .i32⟩
  | 94 => ⟨S1024x1024, .i32⟩
  | 95 => ⟨S1024x1024, .i1⟩
  | 96 => ⟨S1x1024x1024, .f32⟩
  | 97 => ⟨S1024x1024, .f32⟩
  | 98 => ⟨S1x1024x1024, .f32⟩
  | 99 => ⟨S1024x1024, .f32⟩
  | 100 => ⟨S1x1024x1024, .f32⟩
  | 101 => ⟨S1024x1024, .f32⟩
  | 102 => ⟨S1024x1024, .f32⟩
  | 103 => ⟨S1024x1024, .f32⟩
  | 104 => ⟨S1x1024x1024, .f32⟩
  | 105 => ⟨S1024x1024, .f32⟩
  | 106 => ⟨S1024x1024, .f32⟩
  | 107 => ⟨S_, .f32⟩
  | 108 => ⟨S_, .f32⟩
  | 109 => ⟨S1024x1024, .f32⟩
  | 110 => ⟨S1024x1024, .f32⟩
  | 111 => ⟨S1x1024x1024, .i32⟩
  | 112 => ⟨S1024x1024, .i32⟩
  | 113 => ⟨S_, .i32⟩
  | 114 => ⟨S1024x1024, .i32⟩
  | 115 => ⟨S1024x1024, .i1⟩
  | 116 => ⟨S1x1024x1024, .f32⟩
  | 117 => ⟨S1024x1024, .f32⟩
  | 118 => ⟨S1x1024x1024, .f32⟩
  | 119 => ⟨S1024x1024, .f32⟩
  | 120 => ⟨S1x1024x1024, .f32⟩
  | 121 => ⟨S1024x1024, .f32⟩
  | 122 => ⟨S1024x1024, .f32⟩
  | 123 => ⟨S1024x1024, .f32⟩
  | 124 => ⟨S1x1024x1024, .f32⟩
  | 125 => ⟨S1024x1024, .f32⟩
  | 126 => ⟨S1024x1024, .f32⟩
  | 127 => ⟨S_, .f32⟩
  | _ => ⟨S16x1024, .f32⟩

abbrev hbmTy0_2 (i : Nat) : BufTy := match i % 128 with
  | 0 => ⟨S_, .f32⟩
  | 1 => ⟨S1024x1024, .f32⟩
  | 2 => ⟨S1024x1024, .f32⟩
  | 3 => ⟨S1024x1024, .f32⟩
  | 4 => ⟨S_, .f32⟩
  | 5 => ⟨S1024, .f32⟩
  | 6 => ⟨S16, .f32⟩
  | 7 => ⟨S16x1, .f32⟩
  | 8 => ⟨S16x1, .f32⟩
  | 9 => ⟨S16x1, .f32⟩
  | 10 => ⟨S1x1024, .f32⟩
  | 11 => ⟨S1024, .f32⟩
  | 12 => ⟨S1x1024, .f32⟩
  | 13 => ⟨S1024, .f32⟩
  | 14 => ⟨S1x1024, .f32⟩
  | 15 => ⟨S1024, .f32⟩
  | 16 => ⟨S1024, .f32⟩
  | 17 => ⟨S1024, .f32⟩
  | 18 => ⟨S1x1024, .f32⟩
  | 19 => ⟨S1x1024x1024, .f32⟩
  | 20 => ⟨S1024x1024, .f32⟩
  | 21 => ⟨S1024x1024, .f32⟩
  | 22 => ⟨S1024x1024, .f32⟩
  | 23 => ⟨S16x1024, .f32⟩
  | 24 => ⟨S16x1024, .f32⟩
  | 25 => ⟨S16x1024, .f32⟩
  | 26 => ⟨S16x1024, .f32⟩
  | 27 => ⟨S16x1024, .f32⟩
  | 28 => ⟨S16x1024, .f32⟩
  | 29 => ⟨S16x1024, .f32⟩
  | 30 => ⟨S1x1024x1024, .f32⟩
  | 31 => ⟨S1024x1024, .f32⟩
  | 32 => ⟨S1024x1024, .f32⟩
  | 33 => ⟨S1024x1024, .f32⟩
  | 34 => ⟨S16x1024, .f32⟩
  | 35 => ⟨S16x1024, .f32⟩
  | 36 => ⟨S16x1024, .f32⟩
  | 37 => ⟨S16x1, .f32⟩
  | 38 => ⟨S16x1024, .f32⟩
  | 39 => ⟨S16x1024, .f32⟩
  | 40 => ⟨S1x1024, .f32⟩
  | 41 => ⟨S1024, .f32⟩
  | 42 => ⟨S1x1024, .f32⟩
  | 43 => ⟨S1x1024, .f32⟩
  | 44 => ⟨S1024, .f32⟩
  | 45 => ⟨S1x1024, .f32⟩
  | 46 => ⟨S16x1024, .f32⟩
  | 47 => ⟨S16x1024, .f32⟩
  | 48 => ⟨S1x1024, .f32⟩
  | 49 => ⟨S1024, .f32⟩
  | 50 => ⟨S1x1024, .f32⟩
  | 51 => ⟨S_, .f32⟩
  | 52 => ⟨S1x1024, .f32⟩
  | 53 => ⟨S1x1024, .f32⟩
  | 54 => ⟨S16x1024, .f32⟩
  | 55 => ⟨S16x1024, .f32⟩
  | 56 => ⟨S16x1024, .f32⟩
  | 57 => ⟨S16x1024, .f32⟩
  | 58 => ⟨S_, .f32⟩
  | 59 => ⟨S16x1024, .f32⟩
  | 60 => ⟨S16x1024, .f32⟩
  | 61 => ⟨S16x1024, .f32⟩
  | 62 => ⟨S_, .f32⟩
  | 63 => ⟨S16x1, .f32⟩
  | 64 => ⟨S1x1024x1024, .i32⟩
  | 65 => ⟨S1024x1024, .i32⟩
  | 66 => ⟨S_, .i32⟩
  | 67 => ⟨S1024x1024, .i32⟩
  | 68 => ⟨S1024x1024, .i1⟩
  | 69 => ⟨S1x1024x1024, .f32⟩
  | 70 => ⟨S1024x1024, .f32⟩
  | 71 => ⟨S1x1024x1024, .f32⟩
  | 72 => ⟨S1024x1024, .f32⟩
  | 73 => ⟨S1x1024x1024, .f32⟩
  | 74 => ⟨S1024x1024, .f32⟩
  | 75 => ⟨S1024x1024, .f32⟩
  | 76 => ⟨S1024x1024, .f32⟩
  | 77 => ⟨S1x1024x1024, .f32⟩
  | 78 => ⟨S1024x1024, .f32⟩
  | 79 => ⟨S1024x1024, .f32⟩
  | 80 => ⟨S_, .f32⟩
  | 81 => ⟨S_, .f32⟩
  | 82 => ⟨S1024x1024, .f32⟩
  | 83 => ⟨S1024x1024, .f32⟩
  | 84 => ⟨S1x1024x1024, .i32⟩
  | 85 => ⟨S1024x1024, .i32⟩
  | 86 => ⟨S_, .i32⟩
  | 87 => ⟨S1024x1024, .i32⟩
  | 88 => ⟨S1024x1024, .i1⟩
  | 89 => ⟨S1x1024x1024, .f32⟩
  | 90 => ⟨S1024x1024, .f32⟩
  | 91 => ⟨S1x1024x1024, .f32⟩
  | 92 => ⟨S1024x1024, .f32⟩
  | 93 => ⟨S1x1024x1024, .f32⟩
  | 94 => ⟨S1024x1024, .f32⟩
  | 95 => ⟨S1024x1024, .f32⟩
  | 96 => ⟨S1024x1024, .f32⟩
  | 97 => ⟨S1x1024x1024, .f32⟩
  | 98 => ⟨S1024x1024, .f32⟩
  | 99 => ⟨S1024x1024, .f32⟩
  | 100 => ⟨S_, .f32⟩
  | 101 => ⟨S_, .f32⟩
  | 102 => ⟨S1024x1024, .f32⟩
  | 103 => ⟨S1024x1024, .f32⟩
  | 104 => ⟨S1024x1024, .f32⟩
  | 105 => ⟨S_, .f32⟩
  | 106 => ⟨S1024, .f32⟩
  | 107 => ⟨S16, .f32⟩
  | 108 => ⟨S16x1, .f32⟩
  | 109 => ⟨S16x1, .f32⟩
  | 110 => ⟨S16x1, .f32⟩
  | 111 => ⟨S1x1024, .f32⟩
  | 112 => ⟨S1024, .f32⟩
  | 113 => ⟨S1x1024, .f32⟩
  | 114 => ⟨S1024, .f32⟩
  | 115 => ⟨S1x1024, .f32⟩
  | 116 => ⟨S1024, .f32⟩
  | 117 => ⟨S1024, .f32⟩
  | 118 => ⟨S1024, .f32⟩
  | 119 => ⟨S1x1024, .f32⟩
  | 120 => ⟨S1x1024x1024, .f32⟩
  | 121 => ⟨S1024x1024, .f32⟩
  | 122 => ⟨S1024x1024, .f32⟩
  | 123 => ⟨S1024x1024, .f32⟩
  | 124 => ⟨S16x1024, .f32⟩
  | 125 => ⟨S16x1024, .f32⟩
  | 126 => ⟨S16x1024, .f32⟩
  | 127 => ⟨S16x1024, .f32⟩
  | _ => ⟨S16x1024, .f32⟩

abbrev hbmTy0_3 (i : Nat) : BufTy := match i % 128 with
  | 0 => ⟨S16x1024, .f32⟩
  | 1 => ⟨S16x1024, .f32⟩
  | 2 => ⟨S16x1024, .f32⟩
  | 3 => ⟨S1x1024x1024, .f32⟩
  | 4 => ⟨S1024x1024, .f32⟩
  | 5 => ⟨S1024x1024, .f32⟩
  | 6 => ⟨S1024x1024, .f32⟩
  | 7 => ⟨S16x1024, .f32⟩
  | 8 => ⟨S16x1024, .f32⟩
  | 9 => ⟨S16x1024, .f32⟩
  | 10 => ⟨S16x1, .f32⟩
  | 11 => ⟨S16x1024, .f32⟩
  | 12 => ⟨S16x1024, .f32⟩
  | 13 => ⟨S1x1024, .f32⟩
  | 14 => ⟨S1024, .f32⟩
  | 15 => ⟨S1x1024, .f32⟩
  | 16 => ⟨S1x1024, .f32⟩
  | 17 => ⟨S1024, .f32⟩
  | 18 => ⟨S1x1024, .f32⟩
  | 19 => ⟨S16x1024, .f32⟩
  | 20 => ⟨S16x1024, .f32⟩
  | 21 => ⟨S1x1024, .f32⟩
  | 22 => ⟨S1024, .f32⟩
  | 23 => ⟨S1x1024, .f32⟩
  | 24 => ⟨S_, .f32⟩
  | 25 => ⟨S1x1024, .f32⟩
  | 26 => ⟨S1x1024, .f32⟩
  | 27 => ⟨S16x1024, .f32⟩
  | 28 => ⟨S16x1024, .f32⟩
  | 29 => ⟨S16x1024, .f32⟩
  | 30 => ⟨S16x1024, .f32⟩
  | 31 => ⟨S_, .f32⟩
  | 32 => ⟨S16x1024, .f32⟩
  | 33 => ⟨S16x1024, .f32⟩
  | 34 => ⟨S16x1024, .f32⟩
  | 35 => ⟨S1x1024x1024, .i32⟩
  | 36 => ⟨S1024x1024, .i32⟩
  | 37 => ⟨S_, .i32⟩
  | 38 => ⟨S1024x1024, .i32⟩
  | 39 => ⟨S1024x1024, .i1⟩
  | 40 => ⟨S1x1024x1024, .f32⟩
  | 41 => ⟨S1024x1024, .f32⟩
  | 42 => ⟨S1x1024x1024, .f32⟩
  | 43 => ⟨S1024x1024, .f32⟩
  | 44 => ⟨S1x1024x1024, .f32⟩
  | 45 => ⟨S1024x1024, .f32⟩
  | 46 => ⟨S1024x1024, .f32⟩
  | 47 => ⟨S1024x1024, .f32⟩
  | 48 => ⟨S1x1024x1024, .f32⟩
  | 49 => ⟨S1024x1024, .f32⟩
  | 50 => ⟨S1024x1024, .f32⟩
  | 51 => ⟨S_, .f32⟩
  | 52 => ⟨S_, .f32⟩
  | 53 => ⟨S1024x1024, .f32⟩
  | 54 => ⟨S1024x1024, .f32⟩
  | 55 => ⟨S1x1024x1024, .i32⟩
  | 56 => ⟨S1024x1024, .i32⟩
  | 57 => ⟨S_, .i32⟩
  | 58 => ⟨S1024x1024, .i32⟩
  | 59 => ⟨S1024x1024, .i1⟩
  | 60 => ⟨S1x1024x1024, .f32⟩
  | 61 => ⟨S1024x1024, .f32⟩
  | 62 => ⟨S1x1024x1024, .f32⟩
  | 63 => ⟨S1024x1024, .f32⟩
  | 64 => ⟨S1x1024x1024, .f32⟩
  | 65 => ⟨S1024x1024, .f32⟩
  | 66 => ⟨S1024x1024, .f32⟩
  | 67 => ⟨S1024x1024, .f32⟩
  | 68 => ⟨S1x1024x1024, .f32⟩
  | 69 => ⟨S1024x1024, .f32⟩
  | 70 => ⟨S1024x1024, .f32⟩
  | 71 => ⟨S_, .f32⟩
  | 72 => ⟨S_, .f32⟩
  | 73 => ⟨S1024x1024, .f32⟩
  | 74 => ⟨S1024x1024, .f32⟩
  | 75 => ⟨S1024x1024, .f32⟩
  | 76 => ⟨S_, .f32⟩
  | 77 => ⟨S1024, .f32⟩
  | 78 => ⟨S16, .f32⟩
  | 79 => ⟨S16x1, .f32⟩
  | 80 => ⟨S16x1, .f32⟩
  | 81 => ⟨S16x1, .f32⟩
  | 82 => ⟨S1x1024, .f32⟩
  | 83 => ⟨S1024, .f32⟩
  | 84 => ⟨S1x1024, .f32⟩
  | 85 => ⟨S1024, .f32⟩
  | 86 => ⟨S1x1024, .f32⟩
  | 87 => ⟨S1024, .f32⟩
  | 88 => ⟨S1024, .f32⟩
  | 89 => ⟨S1024, .f32⟩
  | 90 => ⟨S1x1024, .f32⟩
  | 91 => ⟨S1x1024x1024, .f32⟩
  | 92 => ⟨S1024x1024, .f32⟩
  | 93 => ⟨S1024x1024, .f32⟩
  | 94 => ⟨S1024x1024, .f32⟩
  | 95 => ⟨S16x1024, .f32⟩
  | 96 => ⟨S16x1024, .f32⟩
  | 97 => ⟨S16x1024, .f32⟩
  | 98 => ⟨S16x1024, .f32⟩
  | 99 => ⟨S16x1024, .f32⟩
  | 100 => ⟨S16x1024, .f32⟩
  | 101 => ⟨S16x1024, .f32⟩
  | 102 => ⟨S1x1024x1024, .f32⟩
  | 103 => ⟨S1024x1024, .f32⟩
  | 104 => ⟨S1024x1024, .f32⟩
  | 105 => ⟨S1024x1024, .f32⟩
  | 106 => ⟨S16x1024, .f32⟩
  | 107 => ⟨S16x1024, .f32⟩
  | 108 => ⟨S16x1024, .f32⟩
  | 109 => ⟨S16x1, .f32⟩
  | 110 => ⟨S16x1024, .f32⟩
  | 111 => ⟨S16x1024, .f32⟩
  | 112 => ⟨S1x1024, .f32⟩
  | 113 => ⟨S1024, .f32⟩
  | 114 => ⟨S1x1024, .f32⟩
  | 115 => ⟨S1x1024, .f32⟩
  | 116 => ⟨S1024, .f32⟩
  | 117 => ⟨S1x1024, .f32⟩
  | 118 => ⟨S16x1024, .f32⟩
  | 119 => ⟨S16x1024, .f32⟩
  | 120 => ⟨S1x1024, .f32⟩
  | 121 => ⟨S1024, .f32⟩
  | 122 => ⟨S1x1024, .f32⟩
  | 123 => ⟨S_, .f32⟩
  | 124 => ⟨S1x1024, .f32⟩
  | 125 => ⟨S1x1024, .f32⟩
  | 126 => ⟨S16x1024, .f32⟩
  | 127 => ⟨S16x1024, .f32⟩
  | _ => ⟨S16x1024, .f32⟩

abbrev hbmTy0_4 (i : Nat) : BufTy := match i % 128 with
  | 0 => ⟨S16x1024, .f32⟩
  | 1 => ⟨S16x1024, .f32⟩
  | 2 => ⟨S_, .f32⟩
  | 3 => ⟨S16x1024, .f32⟩
  | 4 => ⟨S16x1024, .f32⟩
  | 5 => ⟨S16x1024, .f32⟩
  | 6 => ⟨S1x1024x1024, .i32⟩
  | 7 => ⟨S1024x1024, .i32⟩
  | 8 => ⟨S_, .i32⟩
  | 9 => ⟨S1024x1024, .i32⟩
  | 10 => ⟨S1024x1024, .i1⟩
  | 11 => ⟨S1x1024x1024, .f32⟩
  | 12 => ⟨S1024x1024, .f32⟩
  | 13 => ⟨S1x1024x1024, .f32⟩
  | 14 => ⟨S1024x1024, .f32⟩
  | 15 => ⟨S1x1024x1024, .f32⟩
  | 16 => ⟨S1024x1024, .f32⟩
  | 17 => ⟨S1024x1024, .f32⟩
  | 18 => ⟨S1024x1024, .f32⟩
  | 19 => ⟨S1x1024x1024, .f32⟩
  | 20 => ⟨S1024x1024, .f32⟩
  | 21 => ⟨S1024x1024, .f32⟩
  | 22 => ⟨S_, .f32⟩
  | 23 => ⟨S_, .f32⟩
  | 24 => ⟨S1024x1024, .f32⟩
  | 25 => ⟨S1024x1024, .f32⟩
  | 26 => ⟨S1x1024x1024, .i32⟩
  | 27 => ⟨S1024x1024, .i32⟩
  | 28 => ⟨S_, .i32⟩
  | 29 => ⟨S1024x1024, .i32⟩
  | 30 => ⟨S1024x1024, .i1⟩
  | 31 => ⟨S1x1024x1024, .f32⟩
  | 32 => ⟨S1024x1024, .f32⟩
  | 33 => ⟨S1x1024x1024, .f32⟩
  | 34 => ⟨S1024x1024, .f32⟩
  | 35 => ⟨S1x1024x1024, .f32⟩
  | 36 => ⟨S1024x1024, .f32⟩
  | 37 => ⟨S1024x1024, .f32⟩
  | 38 => ⟨S1024x1024, .f32⟩
  | 39 => ⟨S1x1024x1024, .f32⟩
  | 40 => ⟨S1024x1024, .f32⟩
  | 41 => ⟨S1024x1024, .f32⟩
  | 42 => ⟨S_, .f32⟩
  | 43 => ⟨S_, .f32⟩
  | 44 => ⟨S1024x1024, .f32⟩
  | 45 => ⟨S1024x1024, .f32⟩
  | 46 => ⟨S1024x1024, .f32⟩
  | 47 => ⟨S_, .f32⟩
  | 48 => ⟨S1024, .f32⟩
  | 49 => ⟨S16, .f32⟩
  | 50 => ⟨S16x1, .f32⟩
  | 51 => ⟨S16x1, .f32⟩
  | 52 => ⟨S16x1, .f32⟩
  | 53 => ⟨S1x1024, .f32⟩
  | 54 => ⟨S1024, .f32⟩
  | 55 => ⟨S1x1024, .f32⟩
  | 56 => ⟨S1024, .f32⟩
  | 57 => ⟨S1x1024, .f32⟩
  | 58 => ⟨S1024, .f32⟩
  | 59 => ⟨S1024, .f32⟩
  | 60 => ⟨S1024, .f32⟩
  | 61 => ⟨S1x1024, .f32⟩
  | 62 => ⟨S1x1024x1024, .f32⟩
  | 63 => ⟨S1024x1024, .f32⟩
  | 64 => ⟨S1024x1024, .f32⟩
  | 65 => ⟨S1024x1024, .f32⟩
  | 66 => ⟨S16x1024, .f32⟩
  | 67 => ⟨S16x1024, .f32⟩
  | 68 => ⟨S16x1024, .f32⟩
  | 69 => ⟨S16x1024, .f32⟩
  | 70 => ⟨S16x1024, .f32⟩
  | 71 => ⟨S16x1024, .f32⟩
  | 72 => ⟨S16x1024, .f32⟩
  | 73 => ⟨S1x1024x1024, .f32⟩
  | 74 => ⟨S1024x1024, .f32⟩
  | 75 => ⟨S1024x1024, .f32⟩
  | 76 => ⟨S1024x1024, .f32⟩
  | 77 => ⟨S16x1024, .f32⟩
  | 78 => ⟨S16x1024, .f32⟩
  | 79 => ⟨S16x1024, .f32⟩
  | 80 => ⟨S16x1, .f32⟩
  | 81 => ⟨S16x1024, .f32⟩
  | 82 => ⟨S16x1024, .f32⟩
  | 83 => ⟨S1x1024, .f32⟩
  | 84 => ⟨S1024, .f32⟩
  | 85 => ⟨S1x1024, .f32⟩
  | 86 => ⟨S1x1024, .f32⟩
  | 87 => ⟨S1024, .f32⟩
  | 88 => ⟨S1x1024, .f32⟩
  | 89 => ⟨S16x1024, .f32⟩
  | 90 => ⟨S16x1024, .f32⟩
  | 91 => ⟨S1x1024, .f32⟩
  | 92 => ⟨S1024, .f32⟩
  | 93 => ⟨S1x1024, .f32⟩
  | 94 => ⟨S_, .f32⟩
  | 95 => ⟨S1x1024, .f32⟩
  | 96 => ⟨S1x1024, .f32⟩
  | 97 => ⟨S16x1024, .f32⟩
  | 98 => ⟨S16x1024, .f32⟩
  | 99 => ⟨S16x1024, .f32⟩
  | 100 => ⟨S16x1024, .f32⟩
  | 101 => ⟨S_, .f32⟩
  | 102 => ⟨S16x1024, .f32⟩
  | 103 => ⟨S16x1024, .f32⟩
  | 104 => ⟨S16x1024, .f32⟩
  | 105 => ⟨S_, .f32⟩
  | 106 => ⟨S16x1, .f32⟩
  | 107 => ⟨S1x1024x1024, .i32⟩
  | 108 => ⟨S1024x1024, .i32⟩
  | 109 => ⟨S_, .i32⟩
  | 110 => ⟨S1024x1024, .i32⟩
  | 111 => ⟨S1024x1024, .i1⟩
  | 112 => ⟨S1x1024x1024, .f32⟩
  | 113 => ⟨S1024x1024, .f32⟩
  | 114 => ⟨S1x1024x1024, .f32⟩
  | 115 => ⟨S1024x1024, .f32⟩
  | 116 => ⟨S1x1024x1024, .f32⟩
  | 117 => ⟨S1024x1024, .f32⟩
  | 118 => ⟨S1024x1024, .f32⟩
  | 119 => ⟨S1024x1024, .f32⟩
  | 120 => ⟨S1x1024x1024, .f32⟩
  | 121 => ⟨S1024x1024, .f32⟩
  | 122 => ⟨S1024x1024, .f32⟩
  | 123 => ⟨S_, .f32⟩
  | 124 => ⟨S_, .f32⟩
  | 125 => ⟨S1024x1024, .f32⟩
  | 126 => ⟨S1024x1024, .f32⟩
  | 127 => ⟨S1x1024x1024, .i32⟩
  | _ => ⟨S16x1024, .f32⟩

abbrev hbmTy0_5 (i : Nat) : BufTy := match i % 128 with
  | 0 => ⟨S1024x1024, .i32⟩
  | 1 => ⟨S_, .i32⟩
  | 2 => ⟨S1024x1024, .i32⟩
  | 3 => ⟨S1024x1024, .i1⟩
  | 4 => ⟨S1x1024x1024, .f32⟩
  | 5 => ⟨S1024x1024, .f32⟩
  | 6 => ⟨S1x1024x1024, .f32⟩
  | 7 => ⟨S1024x1024, .f32⟩
  | 8 => ⟨S1x1024x1024, .f32⟩
  | 9 => ⟨S1024x1024, .f32⟩
  | 10 => ⟨S1024x1024, .f32⟩
  | 11 => ⟨S1024x1024, .f32⟩
  | 12 => ⟨S1x1024x1024, .f32⟩
  | 13 => ⟨S1024x1024, .f32⟩
  | 14 => ⟨S1024x1024, .f32⟩
  | 15 => ⟨S_, .f32⟩
  | 16 => ⟨S_, .f32⟩
  | 17 => ⟨S1024x1024, .f32⟩
  | 18 => ⟨S1024x1024, .f32⟩
  | 19 => ⟨S1024x1024, .f32⟩
  | 20 => ⟨S_, .f32⟩
  | 21 => ⟨S1024, .f32⟩
  | 22 => ⟨S16, .f32⟩
  | 23 => ⟨S16x1, .f32⟩
  | 24 => ⟨S16x1, .f32⟩
  | 25 => ⟨S16x1, .f32⟩
  | 26 => ⟨S1x1024, .f32⟩
  | 27 => ⟨S1024, .f32⟩
  | 28 => ⟨S1x1024, .f32⟩
  | 29 => ⟨S1024, .f32⟩
  | 30 => ⟨S1x1024, .f32⟩
  | 31 => ⟨S1024, .f32⟩
  | 32 => ⟨S1024, .f32⟩
  | 33 => ⟨S1024, .f32⟩
  | 34 => ⟨S1x1024, .f32⟩
  | 35 => ⟨S1x1024x1024, .f32⟩
  | 36 => ⟨S1024x1024, .f32⟩
  | 37 => ⟨S1024x1024, .f32⟩
  | 38 => ⟨S1024x1024, .f32⟩
  | 39 => ⟨S16x1024, .f32⟩
  | 40 => ⟨S16x1024, .f32⟩
  | 41 => ⟨S16x1024, .f32⟩
  | 42 => ⟨S16x1024, .f32⟩
  | 43 => ⟨S16x1024, .f32⟩
  | 44 => ⟨S16x1024, .f32⟩
  | 45 => ⟨S16x1024, .f32⟩
  | 46 => ⟨S1x1024x1024, .f32⟩
  | 47 => ⟨S1024x1024, .f32⟩
  | 48 => ⟨S1024x1024, .f32⟩
  | 49 => ⟨S1024x1024, .f32⟩
  | 50 => ⟨S16x1024, .f32⟩
  | 51 => ⟨S16x1024, .f32⟩
  | 52 => ⟨S16x1024, .f32⟩
  | 53 => ⟨S16x1, .f32⟩
  | 54 => ⟨S16x1024, .f32⟩
  | 55 => ⟨S16x1024, .f32⟩
  | 56 => ⟨S1x1024, .f32⟩
  | 57 => ⟨S1024, .f32⟩
  | 58 => ⟨S1x1024, .f32⟩
  | 59 => ⟨S1x1024, .f32⟩
  | 60 => ⟨S1024, .f32⟩
  | 61 => ⟨S1x1024, .f32⟩
  | 62 => ⟨S16x1024, .f32⟩
  | 63 => ⟨S16x1024, .f32⟩
  | 64 => ⟨S1x1024, .f32⟩
  | 65 => ⟨S1024, .f32⟩
  | 66 => ⟨S1x1024, .f32⟩
  | 67 => ⟨S_, .f32⟩
  | 68 => ⟨S1x1024, .f32⟩
  | 69 => ⟨S1x1024, .f32⟩
  | 70 => ⟨S16x1024, .f32⟩
  | 71 => ⟨S16x1024, .f32⟩
  | 72 => ⟨S16x1024, .f32⟩
  | 73 => ⟨S16x1024, .f32⟩
  | 74 => ⟨S_, .f32⟩
  | 75 => ⟨S16x1024, .f32⟩
  | 76 => ⟨S16x1024, .f32⟩
  | 77 => ⟨S16x1024, .f32⟩
  | 78 => ⟨S1x1024x1024, .i32⟩
  | 79 => ⟨S1024x1024, .i32⟩
  | 80 => ⟨S_, .i32⟩
  | 81 => ⟨S1024x1024, .i32⟩
  | 82 => ⟨S1024x1024, .i1⟩
  | 83 => ⟨S1x1024x1024, .f32⟩
  | 84 => ⟨S1024x1024, .f32⟩
  | 85 => ⟨S1x1024x1024, .f32⟩
  | 86 => ⟨S1024x1024, .f32⟩
  | 87 => ⟨S1x1024x1024, .f32⟩
  | 88 => ⟨S1024x1024, .f32⟩
  | 89 => ⟨S1024x1024, .f32⟩
  | 90 => ⟨S1024x1024, .f32⟩
  | 91 => ⟨S1x1024x1024, .f32⟩
  | 92 => ⟨S1024x1024, .f32⟩
  | 93 => ⟨S1024x1024, .f32⟩
  | 94 => ⟨S_, .f32⟩
  | 95 => ⟨S_, .f32⟩
  | 96 => ⟨S1024x1024, .f32⟩
  | 97 => ⟨S1024x1024, .f32⟩
  | 98 => ⟨S1x1024x1024, .i32⟩
  | 99 => ⟨S1024x1024, .i32⟩
  | 100 => ⟨S_, .i32⟩
  | 101 => ⟨S1024x1024, .i32⟩
  | 102 => ⟨S1024x1024, .i1⟩
  | 103 => ⟨S1x1024x1024, .f32⟩
  | 104 => ⟨S1024x1024, .f32⟩
  | 105 => ⟨S1x1024x1024, .f32⟩
  | 106 => ⟨S1024x1024, .f32⟩
  | 107 => ⟨S1x1024x1024, .f32⟩
  | 108 => ⟨S1024x1024, .f32⟩
  | 109 => ⟨S1024x1024, .f32⟩
  | 110 => ⟨S1024x1024, .f32⟩
  | 111 => ⟨S1x1024x1024, .f32⟩
  | 112 => ⟨S1024x1024, .f32⟩
  | 113 => ⟨S1024x1024, .f32⟩
  | 114 => ⟨S_, .f32⟩
  | 115 => ⟨S_, .f32⟩
  | 116 => ⟨S1024x1024, .f32⟩
  | 117 => ⟨S1024x1024, .f32⟩
  | 118 => ⟨S1024x1024, .f32⟩
  | 119 => ⟨S_, .f32⟩
  | 120 => ⟨S1024, .f32⟩
  | 121 => ⟨S16, .f32⟩
  | 122 => ⟨S16x1, .f32⟩
  | 123 => ⟨S16x1, .f32⟩
  | 124 => ⟨S16x1, .f32⟩
  | 125 => ⟨S1x1024, .f32⟩
  | 126 => ⟨S1024, .f32⟩
  | 127 => ⟨S1x1024, .f32⟩
  | _ => ⟨S16x1024, .f32⟩

abbrev hbmTy0_6 (i : Nat) : BufTy := match i % 128 with
  | 0 => ⟨S1024, .f32⟩
  | 1 => ⟨S1x1024, .f32⟩
  | 2 => ⟨S1024, .f32⟩
  | 3 => ⟨S1024, .f32⟩
  | 4 => ⟨S1024, .f32⟩
  | 5 => ⟨S1x1024, .f32⟩
  | 6 => ⟨S1x1024x1024, .f32⟩
  | 7 => ⟨S1024x1024, .f32⟩
  | 8 => ⟨S1024x1024, .f32⟩
  | 9 => ⟨S1024x1024, .f32⟩
  | 10 => ⟨S16x1024, .f32⟩
  | 11 => ⟨S16x1024, .f32⟩
  | 12 => ⟨S16x1024, .f32⟩
  | 13 => ⟨S16x1024, .f32⟩
  | 14 => ⟨S16x1024, .f32⟩
  | 15 => ⟨S16x1024, .f32⟩
  | 16 => ⟨S16x1024, .f32⟩
  | 17 => ⟨S1x1024x1024, .f32⟩
  | 18 => ⟨S1024x1024, .f32⟩
  | 19 => ⟨S1024x1024, .f32⟩
  | 20 => ⟨S1024x1024, .f32⟩
  | 21 => ⟨S16x1024, .f32⟩
  | 22 => ⟨S16x1024, .f32⟩
  | 23 => ⟨S16x1024, .f32⟩
  | 24 => ⟨S16x1, .f32⟩
  | 25 => ⟨S16x1024, .f32⟩
  | 26 => ⟨S16x1024, .f32⟩
  | 27 => ⟨S1x1024, .f32⟩
  | 28 => ⟨S1024, .f32⟩
  | 29 => ⟨S1x1024, .f32⟩
  | 30 => ⟨S1x1024, .f32⟩
  | 31 => ⟨S1024, .f32⟩
  | 32 => ⟨S1x1024, .f32⟩
  | 33 => ⟨S16x1024, .f32⟩
  | 34 => ⟨S16x1024, .f32⟩
  | 35 => ⟨S1x1024, .f32⟩
  | 36 => ⟨S1024, .f32⟩
  | 37 => ⟨S1x1024, .f32⟩
  | 38 => ⟨S_, .f32⟩
  | 39 => ⟨S1x1024, .f32⟩
  | 40 => ⟨S1x1024, .f32⟩
  | 41 => ⟨S16x1024, .f32⟩
  | 42 => ⟨S16x1024, .f32⟩
  | 43 => ⟨S16x1024, .f32⟩
  | 44 => ⟨S16x1024, .f32⟩
  | 45 => ⟨S_, .f32⟩
  | 46 => ⟨S16x1024, .f32⟩
  | 47 => ⟨S16x1024, .f32⟩
  | 48 => ⟨S16x1024, .f32⟩
  | 49 => ⟨S1x1024x1024, .i32⟩
  | 50 => ⟨S1024x1024, .i32⟩
  | 51 => ⟨S_, .i32⟩
  | 52 => ⟨S1024x1024, .i32⟩
  | 53 => ⟨S1024x1024, .i1⟩
  | 54 => ⟨S1x1024x1024, .f32⟩
  | 55 => ⟨S1024x1024, .f32⟩
  | 56 => ⟨S1x1024x1024, .f32⟩
  | 57 => ⟨S1024x1024, .f32⟩
  | 58 => ⟨S1x1024x1024, .f32⟩
  | 59 => ⟨S1024x1024, .f32⟩
  | 60 => ⟨S1024x1024, .f32⟩
  | 61 => ⟨S1024x1024, .f32⟩
  | 62 => ⟨S1x1024x1024, .f32⟩
  | 63 => ⟨S1024x1024, .f32⟩
  | 64 => ⟨S1024x1024, .f32⟩
  | 65 => ⟨S_, .f32⟩
  | 66 => ⟨S_, .f32⟩
  | 67 => ⟨S1024x1024, .f32⟩
  | 68 => ⟨S1024x1024, .f32⟩
  | 69 => ⟨S1x1024x1024, .i32⟩
  | 70 => ⟨S1024x1024, .i32⟩
  | 71 => ⟨S_, .i32⟩
  | 72 => ⟨S1024x1024, .i32⟩
  | 73 => ⟨S1024x1024, .i1⟩
  | 74 => ⟨S1x1024x1024, .f32⟩
  | 75 => ⟨S1024x1024, .f32⟩
  | 76 => ⟨S1x1024x1024, .f32⟩
  | 77 => ⟨S1024x1024, .f32⟩
  | 78 => ⟨S1x1024x1024, .f32⟩
  | 79 => ⟨S1024x1024, .f32⟩
  | 80 => ⟨S1024x1024, .f32⟩
  | 81 => ⟨S1024x1024, .f32⟩
  | 82 => ⟨S1x1024x1024, .f32⟩
  | 83 => ⟨S1024x1024, .f32⟩
  | 84 => ⟨S1024x1024, .f32⟩
  | 85 => ⟨S_, .f32⟩
  | 86 => ⟨S_, .f32⟩
  | 87 => ⟨S1024x1024, .f32⟩
  | 88 => ⟨S1024x1024, .f32⟩
  | 89 => ⟨S1024x1024, .f32⟩
  | 90 => ⟨S_, .f32⟩
  | 91 => ⟨S1024, .f32⟩
  | 92 => ⟨S16, .f32⟩
  | 93 => ⟨S16x1, .f32⟩
  | 94 => ⟨S16x1, .f32⟩
  | 95 => ⟨S16x1, .f32⟩
  | 96 => ⟨S1x1024, .f32⟩
  | 97 => ⟨S1024, .f32⟩
  | 98 => ⟨S1x1024, .f32⟩
  | 99 => ⟨S1024, .f32⟩
  | 100 => ⟨S1x1024, .f32⟩
  | 101 => ⟨S1024, .f32⟩
  | 102 => ⟨S1024, .f32⟩
  | 103 => ⟨S1024, .f32⟩
  | 104 => ⟨S1x1024, .f32⟩
  | 105 => ⟨S1x1024x1024, .f32⟩
  | 106 => ⟨S1024x1024, .f32⟩
  | 107 => ⟨S1024x1024, .f32⟩
  | 108 => ⟨S1024x1024, .f32⟩
  | 109 => ⟨S16x1024, .f32⟩
  | 110 => ⟨S16x1024, .f32⟩
  | 111 => ⟨S16x1024, .f32⟩
  | 112 => ⟨S16x1024, .f32⟩
  | 113 => ⟨S16x1024, .f32⟩
  | 114 => ⟨S16x1024, .f32⟩
  | 115 => ⟨S16x1024, .f32⟩
  | 116 => ⟨S1x1024x1024, .f32⟩
  | 117 => ⟨S1024x1024, .f32⟩
  | 118 => ⟨S1024x1024, .f32⟩
  | 119 => ⟨S1024x1024, .f32⟩
  | 120 => ⟨S16x1024, .f32⟩
  | 121 => ⟨S16x1024, .f32⟩
  | 122 => ⟨S16x1024, .f32⟩
  | 123 => ⟨S16x1, .f32⟩
  | 124 => ⟨S16x1024, .f32⟩
  | 125 => ⟨S16x1024, .f32⟩
  | 126 => ⟨S1x1024, .f32⟩
  | 127 => ⟨S1024, .f32⟩
  | _ => ⟨S16x1024, .f32⟩

abbrev hbmTy0_7 (i : Nat) : BufTy := match i % 128 with
  | 0 => ⟨S1x1024, .f32⟩
  | 1 => ⟨S1x1024, .f32⟩
  | 2 => ⟨S1024, .f32⟩
  | 3 => ⟨S1x1024, .f32⟩
  | 4 => ⟨S16x1024, .f32⟩
  | 5 => ⟨S16x1024, .f32⟩
  | 6 => ⟨S1x1024, .f32⟩
  | 7 => ⟨S1024, .f32⟩
  | 8 => ⟨S1x1024, .f32⟩
  | 9 => ⟨S_, .f32⟩
  | 10 => ⟨S1x1024, .f32⟩
  | 11 => ⟨S1x1024, .f32⟩
  | 12 => ⟨S16x1024, .f32⟩
  | 13 => ⟨S16x1024, .f32⟩
  | 14 => ⟨S16x1024, .f32⟩
  | 15 => ⟨S16x1024, .f32⟩
  | 16 => ⟨S_, .f32⟩
  | 17 => ⟨S16x1024, .f32⟩
  | 18 => ⟨S16x1024, .f32⟩
  | 19 => ⟨S16x1024, .f32⟩
  | 20 => ⟨S_, .f32⟩
  | 21 => ⟨S16x1, .f32⟩
  | 22 => ⟨S1x1024x1024, .i32⟩
  | 23 => ⟨S1024x1024, .i32⟩
  | 24 => ⟨S_, .i32⟩
  | 25 => ⟨S1024x1024, .i32⟩
  | 26 => ⟨S1024x1024, .i1⟩
  | 27 => ⟨S1x1024x1024, .f32⟩
  | 28 => ⟨S1024x1024, .f32⟩
  | 29 => ⟨S1x1024x1024, .f32⟩
  | 30 => ⟨S1024x1024, .f32⟩
  | 31 => ⟨S1x1024x1024, .f32⟩
  | 32 => ⟨S1024x1024, .f32⟩
  | 33 => ⟨S1024x1024, .f32⟩
  | 34 => ⟨S1024x1024, .f32⟩
  | 35 => ⟨S1x1024x1024, .f32⟩
  | 36 => ⟨S1024x1024, .f32⟩
  | 37 => ⟨S1024x1024, .f32⟩
  | 38 => ⟨S_, .f32⟩
  | 39 => ⟨S_, .f32⟩
  | 40 => ⟨S1024x1024, .f32⟩
  | 41 => ⟨S1024x1024, .f32⟩
  | 42 => ⟨S1x1024x1024, .i32⟩
  | 43 => ⟨S1024x1024, .i32⟩
  | 44 => ⟨S_, .i32⟩
  | 45 => ⟨S1024x1024, .i32⟩
  | 46 => ⟨S1024x1024, .i1⟩
  | 47 => ⟨S1x1024x1024, .f32⟩
  | 48 => ⟨S1024x1024, .f32⟩
  | 49 => ⟨S1x1024x1024, .f32⟩
  | 50 => ⟨S1024x1024, .f32⟩
  | 51 => ⟨S1x1024x1024, .f32⟩
  | 52 => ⟨S1024x1024, .f32⟩
  | 53 => ⟨S1024x1024, .f32⟩
  | 54 => ⟨S1024x1024, .f32⟩
  | 55 => ⟨S1x1024x1024, .f32⟩
  | 56 => ⟨S1024x1024, .f32⟩
  | 57 => ⟨S1024x1024, .f32⟩
  | 58 => ⟨S_, .f32⟩
  | 59 => ⟨S_, .f32⟩
  | 60 => ⟨S1024x1024, .f32⟩
  | 61 => ⟨S1024x1024, .f32⟩
  | 62 => ⟨S1024x1024, .f32⟩
  | 63 => ⟨S_, .f32⟩
  | 64 => ⟨S1024, .f32⟩
  | 65 => ⟨S16, .f32⟩
  | 66 => ⟨S16x1, .f32⟩
  | 67 => ⟨S16x1, .f32⟩
  | 68 => ⟨S16x1, .f32⟩
  | 69 => ⟨S1x1024, .f32⟩
  | 70 => ⟨S1024, .f32⟩
  | 71 => ⟨S1x1024, .f32⟩
  | 72 => ⟨S1024, .f32⟩
  | 73 => ⟨S1x1024, .f32⟩
  | 74 => ⟨S1024, .f32⟩
  | 75 => ⟨S1024, .f32⟩
  | 76 => ⟨S1024, .f32⟩
  | 77 => ⟨S1x1024, .f32⟩
  | 78 => ⟨S1x1024x1024, .f32⟩
  | 79 => ⟨S1024x1024, .f32⟩
  | 80 => ⟨S1024x1024, .f32⟩
  | 81 => ⟨S1024x1024, .f32⟩
  | 82 => ⟨S16x1024, .f32⟩
  | 83 => ⟨S16x1024, .f32⟩
  | 84 => ⟨S16x1024, .f32⟩
  | 85 => ⟨S16x1024, .f32⟩
  | 86 => ⟨S16x1024, .f32⟩
  | 87 => ⟨S16x1024, .f32⟩
  | 88 => ⟨S16x1024, .f32⟩
  | 89 => ⟨S1x1024x1024, .f32⟩
  | 90 => ⟨S1024x1024, .f32⟩
  | 91 => ⟨S1024x1024, .f32⟩
  | 92 => ⟨S1024x1024, .f32⟩
  | 93 => ⟨S16x1024, .f32⟩
  | 94 => ⟨S16x1024, .f32⟩
  | 95 => ⟨S16x1024, .f32⟩
  | 96 => ⟨S16x1, .f32⟩
  | 97 => ⟨S16x1024, .f32⟩
  | 98 => ⟨S16x1024, .f32⟩
  | 99 => ⟨S1x1024, .f32⟩
  | 100 => ⟨S1024, .f32⟩
  | 101 => ⟨S1x1024, .f32⟩
  | 102 => ⟨S1x1024, .f32⟩
  | 103 => ⟨S1024, .f32⟩
  | 104 => ⟨S1x1024, .f32⟩
  | 105 => ⟨S16x1024, .f32⟩
  | 106 => ⟨S16x1024, .f32⟩
  | 107 => ⟨S1x1024, .f32⟩
  | 108 => ⟨S1024, .f32⟩
  | 109 => ⟨S1x1024, .f32⟩
  | 110 => ⟨S_, .f32⟩
  | 111 => ⟨S1x1024, .f32⟩
  | 112 => ⟨S1x1024, .f32⟩
  | 113 => ⟨S16x1024, .f32⟩
  | 114 => ⟨S16x1024, .f32⟩
  | 115 => ⟨S16x1024, .f32⟩
  | 116 => ⟨S16x1024, .f32⟩
  | 117 => ⟨S_, .f32⟩
  | 118 => ⟨S16x1024, .f32⟩
  | 119 => ⟨S16x1024, .f32⟩
  | 120 => ⟨S16x1024, .f32⟩
  | 121 => ⟨S1x1024x1024, .i32⟩
  | 122 => ⟨S1024x1024, .i32⟩
  | 123 => ⟨S_, .i32⟩
  | 124 => ⟨S1024x1024, .i32⟩
  | 125 => ⟨S1024x1024, .i1⟩
  | 126 => ⟨S1x1024x1024, .f32⟩
  | 127 => ⟨S1024x1024, .f32⟩
  | _ => ⟨S16x1024, .f32⟩

abbrev hbmTy0_8 (i : Nat) : BufTy := match i % 128 with
  | 0 => ⟨S1x1024x1024, .f32⟩
  | 1 => ⟨S1024x1024, .f32⟩
  | 2 => ⟨S1x1024x1024, .f32⟩
  | 3 => ⟨S1024x1024, .f32⟩
  | 4 => ⟨S1024x1024, .f32⟩
  | 5 => ⟨S1024x1024, .f32⟩
  | 6 => ⟨S1x1024x1024, .f32⟩
  | 7 => ⟨S1024x1024, .f32⟩
  | 8 => ⟨S1024x1024, .f32⟩
  | 9 => ⟨S_, .f32⟩
  | 10 => ⟨S_, .f32⟩
  | 11 => ⟨S1024x1024, .f32⟩
  | 12 => ⟨S1024x1024, .f32⟩
  | 13 => ⟨S1x1024x1024, .i32⟩
  | 14 => ⟨S1024x1024, .i32⟩
  | 15 => ⟨S_, .i32⟩
  | 16 => ⟨S1024x1024, .i32⟩
  | 17 => ⟨S1024x1024, .i1⟩
  | 18 => ⟨S1x1024x1024, .f32⟩
  | 19 => ⟨S1024x1024, .f32⟩
  | 20 => ⟨S1x1024x1024, .f32⟩
  | 21 => ⟨S1024x1024, .f32⟩
  | 22 => ⟨S1x1024x1024, .f32⟩
  | 23 => ⟨S1024x1024, .f32⟩
  | 24 => ⟨S1024x1024, .f32⟩
  | 25 => ⟨S1024x1024, .f32⟩
  | 26 => ⟨S1x1024x1024, .f32⟩
  | 27 => ⟨S1024x1024, .f32⟩
  | 28 => ⟨S1024x1024, .f32⟩
  | 29 => ⟨S_, .f32⟩
  | 30 => ⟨S_, .f32⟩
  | 31 => ⟨S1024x1024, .f32⟩
  | 32 => ⟨S1024x1024, .f32⟩
  | 33 => ⟨S1024x1024, .f32⟩
  | 34 => ⟨S_, .f32⟩
  | 35 => ⟨S1024, .f32⟩
  | 36 => ⟨S16, .f32⟩
  | 37 => ⟨S16x1, .f32⟩
  | 38 => ⟨S16x1, .f32⟩
  | 39 => ⟨S16x1, .f32⟩
  | 40 => ⟨S1x1024, .f32⟩
  | 41 => ⟨S1024, .f32⟩
  | 42 => ⟨S1x1024, .f32⟩
  | 43 => ⟨S1024, .f32⟩
  | 44 => ⟨S1x1024, .f32⟩
  | 45 => ⟨S1024, .f32⟩
  | 46 => ⟨S1024, .f32⟩
  | 47 => ⟨S1024, .f32⟩
  | 48 => ⟨S1x1024, .f32⟩
  | 49 => ⟨S1x1024x1024, .f32⟩
  | 50 => ⟨S1024x1024, .f32⟩
  | 51 => ⟨S1024x1024, .f32⟩
  | 52 => ⟨S1024x1024, .f32⟩
  | 53 => ⟨S16x1024, .f32⟩
  | 54 => ⟨S16x1024, .f32⟩
  | 55 => ⟨S16x1024, .f32⟩
  | 56 => ⟨S16x1024, .f32⟩
  | 57 => ⟨S16x1024, .f32⟩
  | 58 => ⟨S16x1024, .f32⟩
  | 59 => ⟨S16x1024, .f32⟩
  | 60 => ⟨S1x1024x1024, .f32⟩
  | 61 => ⟨S1024x1024, .f32⟩
  | 62 => ⟨S1024x1024, .f32⟩
  | 63 => ⟨S1024x1024, .f32⟩
  | 64 => ⟨S16x1024, .f32⟩
  | 65 => ⟨S16x1024, .f32⟩
  | 66 => ⟨S16x1024, .f32⟩
  | 67 => ⟨S16x1, .f32⟩
  | 68 => ⟨S16x1024, .f32⟩
  | 69 => ⟨S16x1024, .f32⟩
  | 70 => ⟨S1x1024, .f32⟩
  | 71 => ⟨S1024, .f32⟩
  | 72 => ⟨S1x1024, .f32⟩
  | 73 => ⟨S1x1024, .f32⟩
  | 74 => ⟨S1024, .f32⟩
  | 75 => ⟨S1x1024, .f32⟩
  | 76 => ⟨S16x1024, .f32⟩
  | 77 => ⟨S16x1024, .f32⟩
  | 78 => ⟨S1x1024, .f32⟩
  | 79 => ⟨S1024, .f32⟩
  | 80 => ⟨S1x1024, .f32⟩
  | 81 => ⟨S_, .f32⟩
  | 82 => ⟨S1x1024, .f32⟩
  | 83 => ⟨S1x1024, .f32⟩
  | 84 => ⟨S16x1024, .f32⟩
  | 85 => ⟨S16x1024, .f32⟩
  | 86 => ⟨S16x1024, .f32⟩
  | 87 => ⟨S16x1024, .f32⟩
  | 88 => ⟨S_, .f32⟩
  | 89 => ⟨S16x1024, .f32⟩
  | 90 => ⟨S16x1024, .f32⟩
  | 91 => ⟨S16x1024, .f32⟩
  | 92 => ⟨S1x1024x1024, .i32⟩
  | 93 => ⟨S1024x1024, .i32⟩
  | 94 => ⟨S_, .i32⟩
  | 95 => ⟨S1024x1024, .i32⟩
  | 96 => ⟨S1024x1024, .i1⟩
  | 97 => ⟨S1x1024x1024, .f32⟩
  | 98 => ⟨S1024x1024, .f32⟩
  | 99 => ⟨S1x1024x1024, .f32⟩
  | 100 => ⟨S1024x1024, .f32⟩
  | 101 => ⟨S1x1024x1024, .f32⟩
  | 102 => ⟨S1024x1024, .f32⟩
  | 103 => ⟨S1024x1024, .f32⟩
  | 104 => ⟨S1024x1024, .f32⟩
  | 105 => ⟨S1x1024x1024, .f32⟩
  | 106 => ⟨S1024x1024, .f32⟩
  | 107 => ⟨S1024x1024, .f32⟩
  | 108 => ⟨S_, .f32⟩
  | 109 => ⟨S_, .f32⟩
  | 110 => ⟨S1024x1024, .f32⟩
  | 111 => ⟨S1024x1024, .f32⟩
  | 112 => ⟨S1x1024x1024, .i32⟩
  | 113 => ⟨S1024x1024, .i32⟩
  | 114 => ⟨S_, .i32⟩
  | 115 => ⟨S1024x1024, .i32⟩
  | 116 => ⟨S1024x1024, .i1⟩
  | 117 => ⟨S1x1024x1024, .f32⟩
  | 118 => ⟨S1024x1024, .f32⟩
  | 119 => ⟨S1x1024x1024, .f32⟩
  | 120 => ⟨S1024x1024, .f32⟩
  | 121 => ⟨S1x1024x1024, .f32⟩
  | 122 => ⟨S1024x1024, .f32⟩
  | 123 => ⟨S1024x1024, .f32⟩
  | 124 => ⟨S1024x1024, .f32⟩
  | 125 => ⟨S1x1024x1024, .f32⟩
  | 126 => ⟨S1024x1024, .f32⟩
  | 127 => ⟨S1024x1024, .f32⟩
  | _ => ⟨S16x1024, .f32⟩

abbrev hbmTy0_9 (i : Nat) : BufTy := match i % 128 with
  | 0 => ⟨S_, .f32⟩
  | 1 => ⟨S_, .f32⟩
  | 2 => ⟨S1024x1024, .f32⟩
  | 3 => ⟨S1024x1024, .f32⟩
  | 4 => ⟨S1024x1024, .f32⟩
  | 5 => ⟨S_, .f32⟩
  | 6 => ⟨S1024, .f32⟩
  | 7 => ⟨S16, .f32⟩
  | 8 => ⟨S16x1, .f32⟩
  | 9 => ⟨S16x1, .f32⟩
  | 10 => ⟨S16x1, .f32⟩
  | 11 => ⟨S1x1024, .f32⟩
  | 12 => ⟨S1024, .f32⟩
  | 13 => ⟨S1x1024, .f32⟩
  | 14 => ⟨S1024, .f32⟩
  | 15 => ⟨S1x1024, .f32⟩
  | 16 => ⟨S1024, .f32⟩
  | 17 => ⟨S1024, .f32⟩
  | 18 => ⟨S1024, .f32⟩
  | 19 => ⟨S1x1024, .f32⟩
  | 20 => ⟨S1x1024x1024, .f32⟩
  | 21 => ⟨S1024x1024, .f32⟩
  | 22 => ⟨S1024x1024, .f32⟩
  | 23 => ⟨S1024x1024, .f32⟩
  | 24 => ⟨S16x1024, .f32⟩
  | 25 => ⟨S16x1024, .f32⟩
  | 26 => ⟨S16x1024, .f32⟩
  | 27 => ⟨S16x1024, .f32⟩
  | 28 => ⟨S16x1024, .f32⟩
  | 29 => ⟨S16x1024, .f32⟩
  | 30 => ⟨S16x1024, .f32⟩
  | 31 => ⟨S1x1024x1024, .f32⟩
  | 32 => ⟨S1024x1024, .f32⟩
  | 33 => ⟨S1024x1024, .f32⟩
  | 34 => ⟨S1024x1024, .f32⟩
  | 35 => ⟨S16x1024, .f32⟩
  | 36 => ⟨S16x1024, .f32⟩
  | 37 => ⟨S16x1024, .f32⟩
  | 38 => ⟨S16x1, .f32⟩
  | 39 => ⟨S16x1024, .f32⟩
  | 40 => ⟨S16x1024, .f32⟩
  | 41 => ⟨S1x1024, .f32⟩
  | 42 => ⟨S1024, .f32⟩
  | 43 => ⟨S1x1024, .f32⟩
  | 44 => ⟨S1x1024, .f32⟩
  | 45 => ⟨S1024, .f32⟩
  | 46 => ⟨S1x1024, .f32⟩
  | 47 => ⟨S16x1024, .f32⟩
  | 48 => ⟨S16x1024, .f32⟩
  | 49 => ⟨S1x1024, .f32⟩
  | 50 => ⟨S1024, .f32⟩
  | 51 => ⟨S1x1024, .f32⟩
  | 52 => ⟨S_, .f32⟩
  | 53 => ⟨S1x1024, .f32⟩
  | 54 => ⟨S1x1024, .f32⟩
  | 55 => ⟨S16x1024, .f32⟩
  | 56 => ⟨S16x1024, .f32⟩
  | 57 => ⟨S16x1024, .f32⟩
  | 58 => ⟨S16x1024, .f32⟩
  | 59 => ⟨S_, .f32⟩
  | 60 => ⟨S16x1024, .f32⟩
  | 61 => ⟨S16x1024, .f32⟩
  | 62 => ⟨S16x1024, .f32⟩
  | 63 => ⟨S_, .f32⟩
  | 64 => ⟨S16x1, .f32⟩
  | 65 => ⟨S1x1024x1024, .i32⟩
  | 66 => ⟨S1024x1024, .i32⟩
  | 67 => ⟨S_, .i32⟩
  | 68 => ⟨S1024x1024, .i32⟩
  | 69 => ⟨S1024x1024, .i1⟩
  | 70 => ⟨S1x1024x1024, .f32⟩
  | 71 => ⟨S1024x1024, .f32⟩
  | 72 => ⟨S1x1024x1024, .f32⟩
  | 73 => ⟨S1024x1024, .f32⟩
  | 74 => ⟨S1x1024x1024, .f32⟩
  | 75 => ⟨S1024x1024, .f32⟩
  | 76 => ⟨S1024x1024, .f32⟩
  | 77 => ⟨S1024x1024, .f32⟩
  | 78 => ⟨S1x1024x1024, .f32⟩
  | 79 => ⟨S1024x1024, .f32⟩
  | 80 => ⟨S1024x1024, .f32⟩
  | 81 => ⟨S_, .f32⟩
  | 82 => ⟨S_, .f32⟩
  | 83 => ⟨S1024x1024, .f32⟩
  | 84 => ⟨S1024x1024, .f32⟩
  | 85 => ⟨S1x1024x1024, .i32⟩
  | 86 => ⟨S1024x1024, .i32⟩
  | 87 => ⟨S_, .i32⟩
  | 88 => ⟨S1024x1024, .i32⟩
  | 89 => ⟨S1024x1024, .i1⟩
  | 90 => ⟨S1x1024x1024, .f32⟩
  | 91 => ⟨S1024x1024, .f32⟩
  | 92 => ⟨S1x1024x1024, .f32⟩
  | 93 => ⟨S1024x1024, .f32⟩
  | 94 => ⟨S1x1024x1024, .f32⟩
  | 95 => ⟨S1024x1024, .f32⟩
  | 96 => ⟨S1024x1024, .f32⟩
  | 97 => ⟨S1024x1024, .f32⟩
  | 98 => ⟨S1x1024x1024, .f32⟩
  | 99 => ⟨S1024x1024, .f32⟩
  | 100 => ⟨S1024x1024, .f32⟩
  | 101 => ⟨S_, .f32⟩
  | 102 => ⟨S_, .f32⟩
  | 103 => ⟨S1024x1024, .f32⟩
  | 104 => ⟨S1024x1024, .f32⟩
  | 105 => ⟨S1024x1024, .f32⟩
  | 106 => ⟨S_, .f32⟩
  | 107 => ⟨S1024, .f32⟩
  | 108 => ⟨S16, .f32⟩
  | 109 => ⟨S16x1, .f32⟩
  | 110 => ⟨S16x1, .f32⟩
  | 111 => ⟨S16x1, .f32⟩
  | 112 => ⟨S1x1024, .f32⟩
  | 113 => ⟨S1024, .f32⟩
  | 114 => ⟨S1x1024, .f32⟩
  | 115 => ⟨S1024, .f32⟩
  | 116 => ⟨S1x1024, .f32⟩
  | 117 => ⟨S1024, .f32⟩
  | 118 => ⟨S1024, .f32⟩
  | 119 => ⟨S1024, .f32⟩
  | 120 => ⟨S1x1024, .f32⟩
  | 121 => ⟨S1x1024x1024, .f32⟩
  | 122 => ⟨S1024x1024, .f32⟩
  | 123 => ⟨S1024x1024, .f32⟩
  | 124 => ⟨S1024x1024, .f32⟩
  | 125 => ⟨S16x1024, .f32⟩
  | 126 => ⟨S16x1024, .f32⟩
  | 127 => ⟨S16x1024, .f32⟩
  | _ => ⟨S16x1024, .f32⟩

abbrev hbmTy0_10 (i : Nat) : BufTy := match i % 128 with
  | 0 => ⟨S16x1024, .f32⟩
  | 1 => ⟨S16x1024, .f32⟩
  | 2 => ⟨S16x1024, .f32⟩
  | 3 => ⟨S16x1024, .f32⟩
  | 4 => ⟨S1x1024x1024, .f32⟩
  | 5 => ⟨S1024x1024, .f32⟩
  | 6 => ⟨S1024x1024, .f32⟩
  | 7 => ⟨S1024x1024, .f32⟩
  | 8 => ⟨S16x1024, .f32⟩
  | 9 => ⟨S16x1024, .f32⟩
  | 10 => ⟨S16x1024, .f32⟩
  | 11 => ⟨S16x1, .f32⟩
  | 12 => ⟨S16x1024, .f32⟩
  | 13 => ⟨S16x1024, .f32⟩
  | 14 => ⟨S1x1024, .f32⟩
  | 15 => ⟨S1024, .f32⟩
  | 16 => ⟨S1x1024, .f32⟩
  | 17 => ⟨S1x1024, .f32⟩
  | 18 => ⟨S1024, .f32⟩
  | 19 => ⟨S1x1024, .f32⟩
  | 20 => ⟨S16x1024, .f32⟩
  | 21 => ⟨S16x1024, .f32⟩
  | 22 => ⟨S1x1024, .f32⟩
  | 23 => ⟨S1024, .f32⟩
  | 24 => ⟨S1x1024, .f32⟩
  | 25 => ⟨S_, .f32⟩
  | 26 => ⟨S1x1024, .f32⟩
  | 27 => ⟨S1x1024, .f32⟩
  | 28 => ⟨S16x1024, .f32⟩
  | 29 => ⟨S16x1024, .f32⟩
  | 30 => ⟨S16x1024, .f32⟩
  | 31 => ⟨S16x1024, .f32⟩
  | 32 => ⟨S_, .f32⟩
  | 33 => ⟨S16x1024, .f32⟩
  | 34 => ⟨S16x1024, .f32⟩
  | 35 => ⟨S16x1024, .f32⟩
  | 36 => ⟨S1x1024x1024, .i32⟩
  | 37 => ⟨S1024x1024, .i32⟩
  | 38 => ⟨S_, .i32⟩
  | 39 => ⟨S1024x1024, .i32⟩
  | 40 => ⟨S1024x1024, .i1⟩
  | 41 => ⟨S1x1024x1024, .f32⟩
  | 42 => ⟨S1024x1024, .f32⟩
  | 43 => ⟨S1x1024x1024, .f32⟩
  | 44 => ⟨S1024x1024, .f32⟩
  | 45 => ⟨S1x1024x1024, .f32⟩
  | 46 => ⟨S1024x1024, .f32⟩
  | 47 => ⟨S1024x1024, .f32⟩
  | 48 => ⟨S1024x1024, .f32⟩
  | 49 => ⟨S1x1024x1024, .f32⟩
  | 50 => ⟨S1024x1024, .f32⟩
  | 51 => ⟨S1024x1024, .f32⟩
  | 52 => ⟨S_, .f32⟩
  | 53 => ⟨S_, .f32⟩
  | 54 => ⟨S1024x1024, .f32⟩
  | 55 => ⟨S1024x1024, .f32⟩
  | 56 => ⟨S1x1024x1024, .i32⟩
  | 57 => ⟨S1024x1024, .i32⟩
  | 58 => ⟨S_, .i32⟩
  | 59 => ⟨S1024x1024, .i32⟩
  | 60 => ⟨S1024x1024, .i1⟩
  | 61 => ⟨S1x1024x1024, .f32⟩
  | 62 => ⟨S1024x1024, .f32⟩
  | 63 => ⟨S1x1024x1024, .f32⟩
  | 64 => ⟨S1024x1024, .f32⟩
  | 65 => ⟨S1x1024x1024, .f32⟩
  | 66 => ⟨S1024x1024, .f32⟩
  | 67 => ⟨S1024x1024, .f32⟩
  | 68 => ⟨S1024x1024, .f32⟩
  | 69 => ⟨S1x1024x1024, .f32⟩
  | 70 => ⟨S1024x1024, .f32⟩
  | 71 => ⟨S1024x1024, .f32⟩
  | 72 => ⟨S_, .f32⟩
  | 73 => ⟨S_, .f32⟩
  | 74 => ⟨S1024x1024, .f32⟩
  | 75 => ⟨S1024x1024, .f32⟩
  | 76 => ⟨S1024x1024, .f32⟩
  | 77 => ⟨S_, .f32⟩
  | 78 => ⟨S1024, .f32⟩
  | 79 => ⟨S16, .f32⟩
  | 80 => ⟨S16x1, .f32⟩
  | 81 => ⟨S16x1, .f32⟩
  | 82 => ⟨S16x1, .f32⟩
  | 83 => ⟨S1x1024, .f32⟩
  | 84 => ⟨S1024, .f32⟩
  | 85 => ⟨S1x1024, .f32⟩
  | 86 => ⟨S1024, .f32⟩
  | 87 => ⟨S1x1024, .f32⟩
  | 88 => ⟨S1024, .f32⟩
  | 89 => ⟨S1024, .f32⟩
  | 90 => ⟨S1024, .f32⟩
  | 91 => ⟨S1x1024, .f32⟩
  | 92 => ⟨S1x1024x1024, .f32⟩
  | 93 => ⟨S1024x1024, .f32⟩
  | 94 => ⟨S1024x1024, .f32⟩
  | 95 => ⟨S1024x1024, .f32⟩
  | 96 => ⟨S16x1024, .f32⟩
  | 97 => ⟨S16x1024, .f32⟩
  | 98 => ⟨S16x1024, .f32⟩
  | 99 => ⟨S16x1024, .f32⟩
  | 100 => ⟨S16x1024, .f32⟩
  | 101 => ⟨S16x1024, .f32⟩
  | 102 => ⟨S16x1024, .f32⟩
  | 103 => ⟨S1x1024x1024, .f32⟩
  | 104 => ⟨S1024x1024, .f32⟩
  | 105 => ⟨S1024x1024, .f32⟩
  | 106 => ⟨S1024x1024, .f32⟩
  | 107 => ⟨S16x1024, .f32⟩
  | 108 => ⟨S16x1024, .f32⟩
  | 109 => ⟨S16x1024, .f32⟩
  | 110 => ⟨S16x1, .f32⟩
  | 111 => ⟨S16x1024, .f32⟩
  | 112 => ⟨S16x1024, .f32⟩
  | 113 => ⟨S1x1024, .f32⟩
  | 114 => ⟨S1024, .f32⟩
  | 115 => ⟨S1x1024, .f32⟩
  | 116 => ⟨S1x1024, .f32⟩
  | 117 => ⟨S1024, .f32⟩
  | 118 => ⟨S1x1024, .f32⟩
  | 119 => ⟨S16x1024, .f32⟩
  | 120 => ⟨S16x1024, .f32⟩
  | 121 => ⟨S1x1024, .f32⟩
  | 122 => ⟨S1024, .f32⟩
  | 123 => ⟨S1x1024, .f32⟩
  | 124 => ⟨S_, .f32⟩
  | 125 => ⟨S1x1024, .f32⟩
  | 126 => ⟨S1x1024, .f32⟩
  | 127 => ⟨S16x1024, .f32⟩
  | _ => ⟨S16x1024, .f32⟩

abbrev hbmTy0_11 (i : Nat) : BufTy := match i % 128 with
  | 0 => ⟨S16x1024, .f32⟩
  | 1 => ⟨S16x1024, .f32⟩
  | 2 => ⟨S16x1024, .f32⟩
  | 3 => ⟨S_, .f32⟩
  | 4 => ⟨S16x1024, .f32⟩
  | 5 => ⟨S16x1024, .f32⟩
  | 6 => ⟨S16x1024, .f32⟩
  | 7 => ⟨S1x1024x1024, .i32⟩
  | 8 => ⟨S1024x1024, .i32⟩
  | 9 => ⟨S_, .i32⟩
  | 10 => ⟨S1024x1024, .i32⟩
  | 11 => ⟨S1024x1024, .i1⟩
  | 12 => ⟨S1x1024x1024, .f32⟩
  | 13 => ⟨S1024x1024, .f32⟩
  | 14 => ⟨S1x1024x1024, .f32⟩
  | 15 => ⟨S1024x1024, .f32⟩
  | 16 => ⟨S1x1024x1024, .f32⟩
  | 17 => ⟨S1024x1024, .f32⟩
  | 18 => ⟨S1024x1024, .f32⟩
  | 19 => ⟨S1024x1024, .f32⟩
  | 20 => ⟨S1x1024x1024, .f32⟩
  | 21 => ⟨S1024x1024, .f32⟩
  | 22 => ⟨S1024x1024, .f32⟩
  | 23 => ⟨S_, .f32⟩
  | 24 => ⟨S_, .f32⟩
  | 25 => ⟨S1024x1024, .f32⟩
  | 26 => ⟨S1024x1024, .f32⟩
  | 27 => ⟨S1x1024x1024, .i32⟩
  | 28 => ⟨S1024x1024, .i32⟩
  | 29 => ⟨S_, .i32⟩
  | 30 => ⟨S1024x1024, .i32⟩
  | 31 => ⟨S1024x1024, .i1⟩
  | 32 => ⟨S1x1024x1024, .f32⟩
  | 33 => ⟨S1024x1024, .f32⟩
  | 34 => ⟨S1x1024x1024, .f32⟩
  | 35 => ⟨S1024x1024, .f32⟩
  | 36 => ⟨S1x1024x1024, .f32⟩
  | 37 => ⟨S1024x1024, .f32⟩
  | 38 => ⟨S1024x1024, .f32⟩
  | 39 => ⟨S1024x1024, .f32⟩
  | 40 => ⟨S1x1024x1024, .f32⟩
  | 41 => ⟨S1024x1024, .f32⟩
  | 42 => ⟨S1024x1024, .f32⟩
  | 43 => ⟨S_, .f32⟩
  | 44 => ⟨S_, .f32⟩
  | 45 => ⟨S1024x1024, .f32⟩
  | 46 => ⟨S1024x1024, .f32⟩
  | 47 => ⟨S1024x1024, .f32⟩
  | 48 => ⟨S_, .f32⟩
  | 49 => ⟨S1024, .f32⟩
  | 50 => ⟨S16, .f32⟩
  | 51 => ⟨S16x1, .f32⟩
  | 52 => ⟨S16x1, .f32⟩
  | 53 => ⟨S16x1, .f32⟩
  | 54 => ⟨S1x1024, .f32⟩
  | 55 => ⟨S1024, .f32⟩
  | 56 => ⟨S1x1024, .f32⟩
  | 57 => ⟨S1024, .f32⟩
  | 58 => ⟨S1x1024, .f32⟩
  | 59 => ⟨S1024, .f32⟩
  | 60 => ⟨S1024, .f32⟩
  | 61 => ⟨S1024, .f32⟩
  | 62 => ⟨S1x1024, .f32⟩
  | 63 => ⟨S1x1024x1024, .f32⟩
  | 64 => ⟨S1024x1024, .f32⟩
  | 65 => ⟨S1024x1024, .f32⟩
  | 66 => ⟨S1024x1024, .f32⟩
  | 67 => ⟨S16x1024, .f32⟩
  | 68 => ⟨S16x1024, .f32⟩
  | 69 => ⟨S16x1024, .f32⟩
  | 70 => ⟨S16x1024, .f32⟩
  | 71 => ⟨S16x1024, .f32⟩
  | 72 => ⟨S16x1024, .f32⟩
  | 73 => ⟨S16x1024, .f32⟩
  | 74 => ⟨S1x1024x1024, .f32⟩
  | 75 => ⟨S1024x1024, .f32⟩
  | 76 => ⟨S1024x1024, .f32⟩
  | 77 => ⟨S1024x1024, .f32⟩
  | 78 => ⟨S16x1024, .f32⟩
  | 79 => ⟨S16x1024, .f32⟩
  | 80 => ⟨S16x1024, .f32⟩
  | 81 => ⟨S16x1, .f32⟩
  | 82 => ⟨S16x1024, .f32⟩
  | 83 => ⟨S16x1024, .f32⟩
  | 84 => ⟨S1x1024, .f32⟩
  | 85 => ⟨S1024, .f32⟩
  | 86 => ⟨S1x1024, .f32⟩
  | 87 => ⟨S1x1024, .f32⟩
  | 88 => ⟨S1024, .f32⟩
  | 89 => ⟨S1x1024, .f32⟩
  | 90 => ⟨S16x1024, .f32⟩
  | 91 => ⟨S16x1024, .f32⟩
  | 92 => ⟨S1x1024, .f32⟩
  | 93 => ⟨S1024, .f32⟩
  | 94 => ⟨S1x1024, .f32⟩
  | 95 => ⟨S_, .f32⟩
  | 96 => ⟨S1x1024, .f32⟩
  | 97 => ⟨S1x1024, .f32⟩
  | 98 => ⟨S16x1024, .f32⟩
  | 99 => ⟨S16x1024, .f32⟩
  | 100 => ⟨S16x1024, .f32⟩
  | 101 => ⟨S16x1024, .f32⟩
  | 102 => ⟨S_, .f32⟩
  | 103 => ⟨S16x1024, .f32⟩
  | 104 => ⟨S16x1024, .f32⟩
  | 105 => ⟨S16x1024, .f32⟩
  | _ => ⟨S16x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S16x1024, .f32⟩

abbrev bufTy : (tb : Table) → Fin (tcTables nBuf tb) → BufTy
  | .hbm, ⟨i, _⟩ => hbmTy i
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_1 : Ref sig .tc := ⟨.hbm, 37, rfl⟩
abbrev main_call0_v0 : Ref sig .tc := ⟨.hbm, 38, rfl⟩
abbrev main_call0_v1 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_2 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_3 : Ref sig .tc := ⟨.hbm, 57, rfl⟩
abbrev main_call1_v0 : Ref sig .tc := ⟨.hbm, 58, rfl⟩
abbrev main_call1_v1 : Ref sig .tc := ⟨.hbm, 59, rfl⟩
abbrev main_v33 : Ref sig .tc := ⟨.hbm, 60, rfl⟩
abbrev main_v34 : Ref sig .tc := ⟨.hbm, 61, rfl⟩
abbrev main_cst_4 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_5 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_6 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_c_7 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_8 : Ref sig .tc := ⟨.hbm, 136, rfl⟩
abbrev main_call2_v0 : Ref sig .tc := ⟨.hbm, 137, rfl⟩
abbrev main_call2_v1 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_c_9 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_cst_10 : Ref sig .tc := ⟨.hbm, 156, rfl⟩
abbrev main_call3_v0 : Ref sig .tc := ⟨.hbm, 157, rfl⟩
abbrev main_call3_v1 : Ref sig .tc := ⟨.hbm, 158, rfl⟩
abbrev main_v121 : Ref sig .tc := ⟨.hbm, 159, rfl⟩
abbrev main_v122 : Ref sig .tc := ⟨.hbm, 160, rfl⟩
abbrev main_cst_11 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_cst_12 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_cst_13 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_c_14 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_cst_15 : Ref sig .tc := ⟨.hbm, 235, rfl⟩
abbrev main_call4_v0 : Ref sig .tc := ⟨.hbm, 236, rfl⟩
abbrev main_call4_v1 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_c_16 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_cst_17 : Ref sig .tc := ⟨.hbm, 255, rfl⟩
abbrev main_call5_v0 : Ref sig .tc := ⟨.hbm, 256, rfl⟩
abbrev main_call5_v1 : Ref sig .tc := ⟨.hbm, 257, rfl⟩
abbrev main_v209 : Ref sig .tc := ⟨.hbm, 258, rfl⟩
abbrev main_v210 : Ref sig .tc := ⟨.hbm, 259, rfl⟩
abbrev main_cst_18 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_v226 : Ref sig .tc := ⟨.hbm, 276, rfl⟩
abbrev main_v227 : Ref sig .tc := ⟨.hbm, 277, rfl⟩
abbrev main_v228 : Ref sig .tc := ⟨.hbm, 278, rfl⟩
abbrev main_v229 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_v242 : Ref sig .tc := ⟨.hbm, 292, rfl⟩
abbrev main_v243 : Ref sig .tc := ⟨.hbm, 293, rfl⟩
abbrev main_v244 : Ref sig .tc := ⟨.hbm, 294, rfl⟩
abbrev main_v245 : Ref sig .tc := ⟨.hbm, 295, rfl⟩
abbrev main_v246 : Ref sig .tc := ⟨.hbm, 296, rfl⟩
abbrev main_v247 : Ref sig .tc := ⟨.hbm, 297, rfl⟩
abbrev main_v248 : Ref sig .tc := ⟨.hbm, 298, rfl⟩
abbrev main_v249 : Ref sig .tc := ⟨.hbm, 299, rfl⟩
abbrev main_v250 : Ref sig .tc := ⟨.hbm, 300, rfl⟩
abbrev main_v251 : Ref sig .tc := ⟨.hbm, 301, rfl⟩
abbrev main_v252 : Ref sig .tc := ⟨.hbm, 302, rfl⟩
abbrev main_v253 : Ref sig .tc := ⟨.hbm, 303, rfl⟩
abbrev main_v254 : Ref sig .tc := ⟨.hbm, 304, rfl⟩
abbrev main_v255 : Ref sig .tc := ⟨.hbm, 305, rfl⟩
abbrev main_v256 : Ref sig .tc := ⟨.hbm, 306, rfl⟩
abbrev main_cst_19 : Ref sig .tc := ⟨.hbm, 307, rfl⟩
abbrev main_v257 : Ref sig .tc := ⟨.hbm, 308, rfl⟩
abbrev main_v258 : Ref sig .tc := ⟨.hbm, 309, rfl⟩
abbrev main_v259 : Ref sig .tc := ⟨.hbm, 310, rfl⟩
abbrev main_v260 : Ref sig .tc := ⟨.hbm, 311, rfl⟩
abbrev main_v261 : Ref sig .tc := ⟨.hbm, 312, rfl⟩
abbrev main_v262 : Ref sig .tc := ⟨.hbm, 313, rfl⟩
abbrev main_cst_20 : Ref sig .tc := ⟨.hbm, 314, rfl⟩
abbrev main_v263 : Ref sig .tc := ⟨.hbm, 315, rfl⟩
abbrev main_v264 : Ref sig .tc := ⟨.hbm, 316, rfl⟩
abbrev main_v265 : Ref sig .tc := ⟨.hbm, 317, rfl⟩
abbrev main_cst_21 : Ref sig .tc := ⟨.hbm, 318, rfl⟩
abbrev main_v266 : Ref sig .tc := ⟨.hbm, 319, rfl⟩
abbrev main_v267 : Ref sig .tc := ⟨.hbm, 320, rfl⟩
abbrev main_v268 : Ref sig .tc := ⟨.hbm, 321, rfl⟩
abbrev main_c_22 : Ref sig .tc := ⟨.hbm, 322, rfl⟩
abbrev main_v269 : Ref sig .tc := ⟨.hbm, 323, rfl⟩
abbrev main_v270 : Ref sig .tc := ⟨.hbm, 324, rfl⟩
abbrev main_v271 : Ref sig .tc := ⟨.hbm, 325, rfl⟩
abbrev main_v272 : Ref sig .tc := ⟨.hbm, 326, rfl⟩
abbrev main_v273 : Ref sig .tc := ⟨.hbm, 327, rfl⟩
abbrev main_v274 : Ref sig .tc := ⟨.hbm, 328, rfl⟩
abbrev main_v275 : Ref sig .tc := ⟨.hbm, 329, rfl⟩
abbrev main_v276 : Ref sig .tc := ⟨.hbm, 330, rfl⟩
abbrev main_v277 : Ref sig .tc := ⟨.hbm, 331, rfl⟩
abbrev main_v278 : Ref sig .tc := ⟨.hbm, 332, rfl⟩
abbrev main_v279 : Ref sig .tc := ⟨.hbm, 333, rfl⟩
abbrev main_v280 : Ref sig .tc := ⟨.hbm, 334, rfl⟩
abbrev main_v281 : Ref sig .tc := ⟨.hbm, 335, rfl⟩
abbrev main_cst_23 : Ref sig .tc := ⟨.hbm, 336, rfl⟩
abbrev main_call6_v0 : Ref sig .tc := ⟨.hbm, 337, rfl⟩
abbrev main_call6_v1 : Ref sig .tc := ⟨.hbm, 338, rfl⟩
abbrev main_v282 : Ref sig .tc := ⟨.hbm, 339, rfl⟩
abbrev main_v283 : Ref sig .tc := ⟨.hbm, 340, rfl⟩
abbrev main_v284 : Ref sig .tc := ⟨.hbm, 341, rfl⟩
abbrev main_c_24 : Ref sig .tc := ⟨.hbm, 342, rfl⟩
abbrev main_v285 : Ref sig .tc := ⟨.hbm, 343, rfl⟩
abbrev main_v286 : Ref sig .tc := ⟨.hbm, 344, rfl⟩
abbrev main_v287 : Ref sig .tc := ⟨.hbm, 345, rfl⟩
abbrev main_v288 : Ref sig .tc := ⟨.hbm, 346, rfl⟩
abbrev main_v289 : Ref sig .tc := ⟨.hbm, 347, rfl⟩
abbrev main_v290 : Ref sig .tc := ⟨.hbm, 348, rfl⟩
abbrev main_v291 : Ref sig .tc := ⟨.hbm, 349, rfl⟩
abbrev main_v292 : Ref sig .tc := ⟨.hbm, 350, rfl⟩
abbrev main_v293 : Ref sig .tc := ⟨.hbm, 351, rfl⟩
abbrev main_v294 : Ref sig .tc := ⟨.hbm, 352, rfl⟩
abbrev main_v295 : Ref sig .tc := ⟨.hbm, 353, rfl⟩
abbrev main_v296 : Ref sig .tc := ⟨.hbm, 354, rfl⟩
abbrev main_v297 : Ref sig .tc := ⟨.hbm, 355, rfl⟩
abbrev main_cst_25 : Ref sig .tc := ⟨.hbm, 356, rfl⟩
abbrev main_call7_v0 : Ref sig .tc := ⟨.hbm, 357, rfl⟩
abbrev main_call7_v1 : Ref sig .tc := ⟨.hbm, 358, rfl⟩
abbrev main_v298 : Ref sig .tc := ⟨.hbm, 359, rfl⟩
abbrev main_v299 : Ref sig .tc := ⟨.hbm, 360, rfl⟩
abbrev main_cst_26 : Ref sig .tc := ⟨.hbm, 361, rfl⟩
abbrev main_v300 : Ref sig .tc := ⟨.hbm, 362, rfl⟩
abbrev main_v301 : Ref sig .tc := ⟨.hbm, 363, rfl⟩
abbrev main_v302 : Ref sig .tc := ⟨.hbm, 364, rfl⟩
abbrev main_v303 : Ref sig .tc := ⟨.hbm, 365, rfl⟩
abbrev main_v304 : Ref sig .tc := ⟨.hbm, 366, rfl⟩
abbrev main_v305 : Ref sig .tc := ⟨.hbm, 367, rfl⟩
abbrev main_v306 : Ref sig .tc := ⟨.hbm, 368, rfl⟩
abbrev main_v307 : Ref sig .tc := ⟨.hbm, 369, rfl⟩
abbrev main_v308 : Ref sig .tc := ⟨.hbm, 370, rfl⟩
abbrev main_v309 : Ref sig .tc := ⟨.hbm, 371, rfl⟩
abbrev main_v310 : Ref sig .tc := ⟨.hbm, 372, rfl⟩
abbrev main_v311 : Ref sig .tc := ⟨.hbm, 373, rfl⟩
abbrev main_v312 : Ref sig .tc := ⟨.hbm, 374, rfl⟩
abbrev main_v313 : Ref sig .tc := ⟨.hbm, 375, rfl⟩
abbrev main_v314 : Ref sig .tc := ⟨.hbm, 376, rfl⟩
abbrev main_v315 : Ref sig .tc := ⟨.hbm, 377, rfl⟩
abbrev main_v316 : Ref sig .tc := ⟨.hbm, 378, rfl⟩
abbrev main_v317 : Ref sig .tc := ⟨.hbm, 379, rfl⟩
abbrev main_v318 : Ref sig .tc := ⟨.hbm, 380, rfl⟩
abbrev main_v319 : Ref sig .tc := ⟨.hbm, 381, rfl⟩
abbrev main_v320 : Ref sig .tc := ⟨.hbm, 382, rfl⟩
abbrev main_v321 : Ref sig .tc := ⟨.hbm, 383, rfl⟩
abbrev main_v322 : Ref sig .tc := ⟨.hbm, 384, rfl⟩
abbrev main_v323 : Ref sig .tc := ⟨.hbm, 385, rfl⟩
abbrev main_v324 : Ref sig .tc := ⟨.hbm, 386, rfl⟩
abbrev main_v325 : Ref sig .tc := ⟨.hbm, 387, rfl⟩
abbrev main_v326 : Ref sig .tc := ⟨.hbm, 388, rfl⟩
abbrev main_v327 : Ref sig .tc := ⟨.hbm, 389, rfl⟩
abbrev main_v328 : Ref sig .tc := ⟨.hbm, 390, rfl⟩
abbrev main_v329 : Ref sig .tc := ⟨.hbm, 391, rfl⟩
abbrev main_v330 : Ref sig .tc := ⟨.hbm, 392, rfl⟩
abbrev main_v331 : Ref sig .tc := ⟨.hbm, 393, rfl⟩
abbrev main_v332 : Ref sig .tc := ⟨.hbm, 394, rfl⟩
abbrev main_v333 : Ref sig .tc := ⟨.hbm, 395, rfl⟩
abbrev main_v334 : Ref sig .tc := ⟨.hbm, 396, rfl⟩
abbrev main_v335 : Ref sig .tc := ⟨.hbm, 397, rfl⟩
abbrev main_v336 : Ref sig .tc := ⟨.hbm, 398, rfl⟩
abbrev main_v337 : Ref sig .tc := ⟨.hbm, 399, rfl⟩
abbrev main_v338 : Ref sig .tc := ⟨.hbm, 400, rfl⟩
abbrev main_v339 : Ref sig .tc := ⟨.hbm, 401, rfl⟩
abbrev main_v340 : Ref sig .tc := ⟨.hbm, 402, rfl⟩
abbrev main_v341 : Ref sig .tc := ⟨.hbm, 403, rfl⟩
abbrev main_v342 : Ref sig .tc := ⟨.hbm, 404, rfl⟩
abbrev main_v343 : Ref sig .tc := ⟨.hbm, 405, rfl⟩
abbrev main_v344 : Ref sig .tc := ⟨.hbm, 406, rfl⟩
abbrev main_v345 : Ref sig .tc := ⟨.hbm, 407, rfl⟩
abbrev main_cst_27 : Ref sig .tc := ⟨.hbm, 408, rfl⟩
abbrev main_v346 : Ref sig .tc := ⟨.hbm, 409, rfl⟩
abbrev main_v347 : Ref sig .tc := ⟨.hbm, 410, rfl⟩
abbrev main_v348 : Ref sig .tc := ⟨.hbm, 411, rfl⟩
abbrev main_v349 : Ref sig .tc := ⟨.hbm, 412, rfl⟩
abbrev main_v350 : Ref sig .tc := ⟨.hbm, 413, rfl⟩
abbrev main_v351 : Ref sig .tc := ⟨.hbm, 414, rfl⟩
abbrev main_cst_28 : Ref sig .tc := ⟨.hbm, 415, rfl⟩
abbrev main_v352 : Ref sig .tc := ⟨.hbm, 416, rfl⟩
abbrev main_v353 : Ref sig .tc := ⟨.hbm, 417, rfl⟩
abbrev main_v354 : Ref sig .tc := ⟨.hbm, 418, rfl⟩
abbrev main_v355 : Ref sig .tc := ⟨.hbm, 419, rfl⟩
abbrev main_v356 : Ref sig .tc := ⟨.hbm, 420, rfl⟩
abbrev main_c_29 : Ref sig .tc := ⟨.hbm, 421, rfl⟩
abbrev main_v357 : Ref sig .tc := ⟨.hbm, 422, rfl⟩
abbrev main_v358 : Ref sig .tc := ⟨.hbm, 423, rfl⟩
abbrev main_v359 : Ref sig .tc := ⟨.hbm, 424, rfl⟩
abbrev main_v360 : Ref sig .tc := ⟨.hbm, 425, rfl⟩
abbrev main_v361 : Ref sig .tc := ⟨.hbm, 426, rfl⟩
abbrev main_v362 : Ref sig .tc := ⟨.hbm, 427, rfl⟩
abbrev main_v363 : Ref sig .tc := ⟨.hbm, 428, rfl⟩
abbrev main_v364 : Ref sig .tc := ⟨.hbm, 429, rfl⟩
abbrev main_v365 : Ref sig .tc := ⟨.hbm, 430, rfl⟩
abbrev main_v366 : Ref sig .tc := ⟨.hbm, 431, rfl⟩
abbrev main_v367 : Ref sig .tc := ⟨.hbm, 432, rfl⟩
abbrev main_v368 : Ref sig .tc := ⟨.hbm, 433, rfl⟩
abbrev main_v369 : Ref sig .tc := ⟨.hbm, 434, rfl⟩
abbrev main_cst_30 : Ref sig .tc := ⟨.hbm, 435, rfl⟩
abbrev main_call8_v0 : Ref sig .tc := ⟨.hbm, 436, rfl⟩
abbrev main_call8_v1 : Ref sig .tc := ⟨.hbm, 437, rfl⟩
abbrev main_v370 : Ref sig .tc := ⟨.hbm, 438, rfl⟩
abbrev main_v371 : Ref sig .tc := ⟨.hbm, 439, rfl⟩
abbrev main_v372 : Ref sig .tc := ⟨.hbm, 440, rfl⟩
abbrev main_c_31 : Ref sig .tc := ⟨.hbm, 441, rfl⟩
abbrev main_v373 : Ref sig .tc := ⟨.hbm, 442, rfl⟩
abbrev main_v374 : Ref sig .tc := ⟨.hbm, 443, rfl⟩
abbrev main_v375 : Ref sig .tc := ⟨.hbm, 444, rfl⟩
abbrev main_v376 : Ref sig .tc := ⟨.hbm, 445, rfl⟩
abbrev main_v377 : Ref sig .tc := ⟨.hbm, 446, rfl⟩
abbrev main_v378 : Ref sig .tc := ⟨.hbm, 447, rfl⟩
abbrev main_v379 : Ref sig .tc := ⟨.hbm, 448, rfl⟩
abbrev main_v380 : Ref sig .tc := ⟨.hbm, 449, rfl⟩
abbrev main_v381 : Ref sig .tc := ⟨.hbm, 450, rfl⟩
abbrev main_v382 : Ref sig .tc := ⟨.hbm, 451, rfl⟩
abbrev main_v383 : Ref sig .tc := ⟨.hbm, 452, rfl⟩
abbrev main_v384 : Ref sig .tc := ⟨.hbm, 453, rfl⟩
abbrev main_v385 : Ref sig .tc := ⟨.hbm, 454, rfl⟩
abbrev main_cst_32 : Ref sig .tc := ⟨.hbm, 455, rfl⟩
abbrev main_call9_v0 : Ref sig .tc := ⟨.hbm, 456, rfl⟩
abbrev main_call9_v1 : Ref sig .tc := ⟨.hbm, 457, rfl⟩
abbrev main_v386 : Ref sig .tc := ⟨.hbm, 458, rfl⟩
abbrev main_v387 : Ref sig .tc := ⟨.hbm, 459, rfl⟩
abbrev main_cst_33 : Ref sig .tc := ⟨.hbm, 460, rfl⟩
abbrev main_v388 : Ref sig .tc := ⟨.hbm, 461, rfl⟩
abbrev main_v389 : Ref sig .tc := ⟨.hbm, 462, rfl⟩
abbrev main_v390 : Ref sig .tc := ⟨.hbm, 463, rfl⟩
abbrev main_v391 : Ref sig .tc := ⟨.hbm, 464, rfl⟩
abbrev main_v392 : Ref sig .tc := ⟨.hbm, 465, rfl⟩
abbrev main_v393 : Ref sig .tc := ⟨.hbm, 466, rfl⟩
abbrev main_v394 : Ref sig .tc := ⟨.hbm, 467, rfl⟩
abbrev main_v395 : Ref sig .tc := ⟨.hbm, 468, rfl⟩
abbrev main_v396 : Ref sig .tc := ⟨.hbm, 469, rfl⟩
abbrev main_v397 : Ref sig .tc := ⟨.hbm, 470, rfl⟩
abbrev main_v398 : Ref sig .tc := ⟨.hbm, 471, rfl⟩
abbrev main_v399 : Ref sig .tc := ⟨.hbm, 472, rfl⟩
abbrev main_v400 : Ref sig .tc := ⟨.hbm, 473, rfl⟩
abbrev main_v401 : Ref sig .tc := ⟨.hbm, 474, rfl⟩
abbrev main_v402 : Ref sig .tc := ⟨.hbm, 475, rfl⟩
abbrev main_v403 : Ref sig .tc := ⟨.hbm, 476, rfl⟩
abbrev main_v404 : Ref sig .tc := ⟨.hbm, 477, rfl⟩
abbrev main_v405 : Ref sig .tc := ⟨.hbm, 478, rfl⟩
abbrev main_v406 : Ref sig .tc := ⟨.hbm, 479, rfl⟩
abbrev main_v407 : Ref sig .tc := ⟨.hbm, 480, rfl⟩
abbrev main_v408 : Ref sig .tc := ⟨.hbm, 481, rfl⟩
abbrev main_v409 : Ref sig .tc := ⟨.hbm, 482, rfl⟩
abbrev main_v410 : Ref sig .tc := ⟨.hbm, 483, rfl⟩
abbrev main_v411 : Ref sig .tc := ⟨.hbm, 484, rfl⟩
abbrev main_v412 : Ref sig .tc := ⟨.hbm, 485, rfl⟩
abbrev main_v413 : Ref sig .tc := ⟨.hbm, 486, rfl⟩
abbrev main_v414 : Ref sig .tc := ⟨.hbm, 487, rfl⟩
abbrev main_v415 : Ref sig .tc := ⟨.hbm, 488, rfl⟩
abbrev main_v416 : Ref sig .tc := ⟨.hbm, 489, rfl⟩
abbrev main_v417 : Ref sig .tc := ⟨.hbm, 490, rfl⟩
abbrev main_v418 : Ref sig .tc := ⟨.hbm, 491, rfl⟩
abbrev main_v419 : Ref sig .tc := ⟨.hbm, 492, rfl⟩
abbrev main_v420 : Ref sig .tc := ⟨.hbm, 493, rfl⟩
abbrev main_v421 : Ref sig .tc := ⟨.hbm, 494, rfl⟩
abbrev main_v422 : Ref sig .tc := ⟨.hbm, 495, rfl⟩
abbrev main_v423 : Ref sig .tc := ⟨.hbm, 496, rfl⟩
abbrev main_v424 : Ref sig .tc := ⟨.hbm, 497, rfl⟩
abbrev main_v425 : Ref sig .tc := ⟨.hbm, 498, rfl⟩
abbrev main_v426 : Ref sig .tc := ⟨.hbm, 499, rfl⟩
abbrev main_v427 : Ref sig .tc := ⟨.hbm, 500, rfl⟩
abbrev main_v428 : Ref sig .tc := ⟨.hbm, 501, rfl⟩
abbrev main_v429 : Ref sig .tc := ⟨.hbm, 502, rfl⟩
abbrev main_v430 : Ref sig .tc := ⟨.hbm, 503, rfl⟩
abbrev main_v431 : Ref sig .tc := ⟨.hbm, 504, rfl⟩
abbrev main_v432 : Ref sig .tc := ⟨.hbm, 505, rfl⟩
abbrev main_v433 : Ref sig .tc := ⟨.hbm, 506, rfl⟩
abbrev main_cst_34 : Ref sig .tc := ⟨.hbm, 507, rfl⟩
abbrev main_v434 : Ref sig .tc := ⟨.hbm, 508, rfl⟩
abbrev main_v435 : Ref sig .tc := ⟨.hbm, 509, rfl⟩
abbrev main_v436 : Ref sig .tc := ⟨.hbm, 510, rfl⟩
abbrev main_v437 : Ref sig .tc := ⟨.hbm, 511, rfl⟩
abbrev main_v438 : Ref sig .tc := ⟨.hbm, 512, rfl⟩
abbrev main_v439 : Ref sig .tc := ⟨.hbm, 513, rfl⟩
abbrev main_cst_35 : Ref sig .tc := ⟨.hbm, 514, rfl⟩
abbrev main_v440 : Ref sig .tc := ⟨.hbm, 515, rfl⟩
abbrev main_v441 : Ref sig .tc := ⟨.hbm, 516, rfl⟩
abbrev main_v442 : Ref sig .tc := ⟨.hbm, 517, rfl⟩
abbrev main_v443 : Ref sig .tc := ⟨.hbm, 518, rfl⟩
abbrev main_v444 : Ref sig .tc := ⟨.hbm, 519, rfl⟩
abbrev main_c_36 : Ref sig .tc := ⟨.hbm, 520, rfl⟩
abbrev main_v445 : Ref sig .tc := ⟨.hbm, 521, rfl⟩
abbrev main_v446 : Ref sig .tc := ⟨.hbm, 522, rfl⟩
abbrev main_v447 : Ref sig .tc := ⟨.hbm, 523, rfl⟩
abbrev main_v448 : Ref sig .tc := ⟨.hbm, 524, rfl⟩
abbrev main_v449 : Ref sig .tc := ⟨.hbm, 525, rfl⟩
abbrev main_v450 : Ref sig .tc := ⟨.hbm, 526, rfl⟩
abbrev main_v451 : Ref sig .tc := ⟨.hbm, 527, rfl⟩
abbrev main_v452 : Ref sig .tc := ⟨.hbm, 528, rfl⟩
abbrev main_v453 : Ref sig .tc := ⟨.hbm, 529, rfl⟩
abbrev main_v454 : Ref sig .tc := ⟨.hbm, 530, rfl⟩
abbrev main_v455 : Ref sig .tc := ⟨.hbm, 531, rfl⟩
abbrev main_v456 : Ref sig .tc := ⟨.hbm, 532, rfl⟩
abbrev main_v457 : Ref sig .tc := ⟨.hbm, 533, rfl⟩
abbrev main_cst_37 : Ref sig .tc := ⟨.hbm, 534, rfl⟩
abbrev main_call10_v0 : Ref sig .tc := ⟨.hbm, 535, rfl⟩
abbrev main_call10_v1 : Ref sig .tc := ⟨.hbm, 536, rfl⟩
abbrev main_v458 : Ref sig .tc := ⟨.hbm, 537, rfl⟩
abbrev main_v459 : Ref sig .tc := ⟨.hbm, 538, rfl⟩
abbrev main_v460 : Ref sig .tc := ⟨.hbm, 539, rfl⟩
abbrev main_c_38 : Ref sig .tc := ⟨.hbm, 540, rfl⟩
abbrev main_v461 : Ref sig .tc := ⟨.hbm, 541, rfl⟩
abbrev main_v462 : Ref sig .tc := ⟨.hbm, 542, rfl⟩
abbrev main_v463 : Ref sig .tc := ⟨.hbm, 543, rfl⟩
abbrev main_v464 : Ref sig .tc := ⟨.hbm, 544, rfl⟩
abbrev main_v465 : Ref sig .tc := ⟨.hbm, 545, rfl⟩
abbrev main_v466 : Ref sig .tc := ⟨.hbm, 546, rfl⟩
abbrev main_v467 : Ref sig .tc := ⟨.hbm, 547, rfl⟩
abbrev main_v468 : Ref sig .tc := ⟨.hbm, 548, rfl⟩
abbrev main_v469 : Ref sig .tc := ⟨.hbm, 549, rfl⟩
abbrev main_v470 : Ref sig .tc := ⟨.hbm, 550, rfl⟩
abbrev main_v471 : Ref sig .tc := ⟨.hbm, 551, rfl⟩
abbrev main_v472 : Ref sig .tc := ⟨.hbm, 552, rfl⟩
abbrev main_v473 : Ref sig .tc := ⟨.hbm, 553, rfl⟩
abbrev main_cst_39 : Ref sig .tc := ⟨.hbm, 554, rfl⟩
abbrev main_call11_v0 : Ref sig .tc := ⟨.hbm, 555, rfl⟩
abbrev main_call11_v1 : Ref sig .tc := ⟨.hbm, 556, rfl⟩
abbrev main_v474 : Ref sig .tc := ⟨.hbm, 557, rfl⟩
abbrev main_v475 : Ref sig .tc := ⟨.hbm, 558, rfl⟩
abbrev main_cst_40 : Ref sig .tc := ⟨.hbm, 559, rfl⟩
abbrev main_v476 : Ref sig .tc := ⟨.hbm, 560, rfl⟩
abbrev main_v477 : Ref sig .tc := ⟨.hbm, 561, rfl⟩
abbrev main_v478 : Ref sig .tc := ⟨.hbm, 562, rfl⟩
abbrev main_v479 : Ref sig .tc := ⟨.hbm, 563, rfl⟩
abbrev main_v480 : Ref sig .tc := ⟨.hbm, 564, rfl⟩
abbrev main_v481 : Ref sig .tc := ⟨.hbm, 565, rfl⟩
abbrev main_v482 : Ref sig .tc := ⟨.hbm, 566, rfl⟩
abbrev main_v483 : Ref sig .tc := ⟨.hbm, 567, rfl⟩
abbrev main_v484 : Ref sig .tc := ⟨.hbm, 568, rfl⟩
abbrev main_v485 : Ref sig .tc := ⟨.hbm, 569, rfl⟩
abbrev main_v486 : Ref sig .tc := ⟨.hbm, 570, rfl⟩
abbrev main_v487 : Ref sig .tc := ⟨.hbm, 571, rfl⟩
abbrev main_v488 : Ref sig .tc := ⟨.hbm, 572, rfl⟩
abbrev main_v489 : Ref sig .tc := ⟨.hbm, 573, rfl⟩
abbrev main_v490 : Ref sig .tc := ⟨.hbm, 574, rfl⟩
abbrev main_v491 : Ref sig .tc := ⟨.hbm, 575, rfl⟩
abbrev main_v492 : Ref sig .tc := ⟨.hbm, 576, rfl⟩
abbrev main_v493 : Ref sig .tc := ⟨.hbm, 577, rfl⟩
abbrev main_v494 : Ref sig .tc := ⟨.hbm, 578, rfl⟩
abbrev main_v495 : Ref sig .tc := ⟨.hbm, 579, rfl⟩
abbrev main_v496 : Ref sig .tc := ⟨.hbm, 580, rfl⟩
abbrev main_v497 : Ref sig .tc := ⟨.hbm, 581, rfl⟩
abbrev main_v498 : Ref sig .tc := ⟨.hbm, 582, rfl⟩
abbrev main_v499 : Ref sig .tc := ⟨.hbm, 583, rfl⟩
abbrev main_v500 : Ref sig .tc := ⟨.hbm, 584, rfl⟩
abbrev main_v501 : Ref sig .tc := ⟨.hbm, 585, rfl⟩
abbrev main_v502 : Ref sig .tc := ⟨.hbm, 586, rfl⟩
abbrev main_v503 : Ref sig .tc := ⟨.hbm, 587, rfl⟩
abbrev main_v504 : Ref sig .tc := ⟨.hbm, 588, rfl⟩
abbrev main_v505 : Ref sig .tc := ⟨.hbm, 589, rfl⟩
abbrev main_v506 : Ref sig .tc := ⟨.hbm, 590, rfl⟩
abbrev main_v507 : Ref sig .tc := ⟨.hbm, 591, rfl⟩
abbrev main_v508 : Ref sig .tc := ⟨.hbm, 592, rfl⟩
abbrev main_v509 : Ref sig .tc := ⟨.hbm, 593, rfl⟩
abbrev main_v510 : Ref sig .tc := ⟨.hbm, 594, rfl⟩
abbrev main_v511 : Ref sig .tc := ⟨.hbm, 595, rfl⟩
abbrev main_v512 : Ref sig .tc := ⟨.hbm, 596, rfl⟩
abbrev main_v513 : Ref sig .tc := ⟨.hbm, 597, rfl⟩
abbrev main_v514 : Ref sig .tc := ⟨.hbm, 598, rfl⟩
abbrev main_v515 : Ref sig .tc := ⟨.hbm, 599, rfl⟩
abbrev main_v516 : Ref sig .tc := ⟨.hbm, 600, rfl⟩
abbrev main_v517 : Ref sig .tc := ⟨.hbm, 601, rfl⟩
abbrev main_v518 : Ref sig .tc := ⟨.hbm, 602, rfl⟩
abbrev main_v519 : Ref sig .tc := ⟨.hbm, 603, rfl⟩
abbrev main_v520 : Ref sig .tc := ⟨.hbm, 604, rfl⟩
abbrev main_v521 : Ref sig .tc := ⟨.hbm, 605, rfl⟩
abbrev main_cst_41 : Ref sig .tc := ⟨.hbm, 606, rfl⟩
abbrev main_v522 : Ref sig .tc := ⟨.hbm, 607, rfl⟩
abbrev main_v523 : Ref sig .tc := ⟨.hbm, 608, rfl⟩
abbrev main_v524 : Ref sig .tc := ⟨.hbm, 609, rfl⟩
abbrev main_v525 : Ref sig .tc := ⟨.hbm, 610, rfl⟩
abbrev main_v526 : Ref sig .tc := ⟨.hbm, 611, rfl⟩
abbrev main_v527 : Ref sig .tc := ⟨.hbm, 612, rfl⟩
abbrev main_cst_42 : Ref sig .tc := ⟨.hbm, 613, rfl⟩
abbrev main_v528 : Ref sig .tc := ⟨.hbm, 614, rfl⟩
abbrev main_v529 : Ref sig .tc := ⟨.hbm, 615, rfl⟩
abbrev main_v530 : Ref sig .tc := ⟨.hbm, 616, rfl⟩
abbrev main_cst_43 : Ref sig .tc := ⟨.hbm, 617, rfl⟩
abbrev main_v531 : Ref sig .tc := ⟨.hbm, 618, rfl⟩
abbrev main_v532 : Ref sig .tc := ⟨.hbm, 619, rfl⟩
abbrev main_v533 : Ref sig .tc := ⟨.hbm, 620, rfl⟩
abbrev main_c_44 : Ref sig .tc := ⟨.hbm, 621, rfl⟩
abbrev main_v534 : Ref sig .tc := ⟨.hbm, 622, rfl⟩
abbrev main_v535 : Ref sig .tc := ⟨.hbm, 623, rfl⟩
abbrev main_v536 : Ref sig .tc := ⟨.hbm, 624, rfl⟩
abbrev main_v537 : Ref sig .tc := ⟨.hbm, 625, rfl⟩
abbrev main_v538 : Ref sig .tc := ⟨.hbm, 626, rfl⟩
abbrev main_v539 : Ref sig .tc := ⟨.hbm, 627, rfl⟩
abbrev main_v540 : Ref sig .tc := ⟨.hbm, 628, rfl⟩
abbrev main_v541 : Ref sig .tc := ⟨.hbm, 629, rfl⟩
abbrev main_v542 : Ref sig .tc := ⟨.hbm, 630, rfl⟩
abbrev main_v543 : Ref sig .tc := ⟨.hbm, 631, rfl⟩
abbrev main_v544 : Ref sig .tc := ⟨.hbm, 632, rfl⟩
abbrev main_v545 : Ref sig .tc := ⟨.hbm, 633, rfl⟩
abbrev main_v546 : Ref sig .tc := ⟨.hbm, 634, rfl⟩
abbrev main_cst_45 : Ref sig .tc := ⟨.hbm, 635, rfl⟩
abbrev main_call12_v0 : Ref sig .tc := ⟨.hbm, 636, rfl⟩
abbrev main_call12_v1 : Ref sig .tc := ⟨.hbm, 637, rfl⟩
abbrev main_v547 : Ref sig .tc := ⟨.hbm, 638, rfl⟩
abbrev main_v548 : Ref sig .tc := ⟨.hbm, 639, rfl⟩
abbrev main_v549 : Ref sig .tc := ⟨.hbm, 640, rfl⟩
abbrev main_c_46 : Ref sig .tc := ⟨.hbm, 641, rfl⟩
abbrev main_v550 : Ref sig .tc := ⟨.hbm, 642, rfl⟩
abbrev main_v551 : Ref sig .tc := ⟨.hbm, 643, rfl⟩
abbrev main_v552 : Ref sig .tc := ⟨.hbm, 644, rfl⟩
abbrev main_v553 : Ref sig .tc := ⟨.hbm, 645, rfl⟩
abbrev main_v554 : Ref sig .tc := ⟨.hbm, 646, rfl⟩
abbrev main_v555 : Ref sig .tc := ⟨.hbm, 647, rfl⟩
abbrev main_v556 : Ref sig .tc := ⟨.hbm, 648, rfl⟩
abbrev main_v557 : Ref sig .tc := ⟨.hbm, 649, rfl⟩
abbrev main_v558 : Ref sig .tc := ⟨.hbm, 650, rfl⟩
abbrev main_v559 : Ref sig .tc := ⟨.hbm, 651, rfl⟩
abbrev main_v560 : Ref sig .tc := ⟨.hbm, 652, rfl⟩
abbrev main_v561 : Ref sig .tc := ⟨.hbm, 653, rfl⟩
abbrev main_v562 : Ref sig .tc := ⟨.hbm, 654, rfl⟩
abbrev main_cst_47 : Ref sig .tc := ⟨.hbm, 655, rfl⟩
abbrev main_call13_v0 : Ref sig .tc := ⟨.hbm, 656, rfl⟩
abbrev main_call13_v1 : Ref sig .tc := ⟨.hbm, 657, rfl⟩
abbrev main_v563 : Ref sig .tc := ⟨.hbm, 658, rfl⟩
abbrev main_v564 : Ref sig .tc := ⟨.hbm, 659, rfl⟩
abbrev main_cst_48 : Ref sig .tc := ⟨.hbm, 660, rfl⟩
abbrev main_v565 : Ref sig .tc := ⟨.hbm, 661, rfl⟩
abbrev main_v566 : Ref sig .tc := ⟨.hbm, 662, rfl⟩
abbrev main_v567 : Ref sig .tc := ⟨.hbm, 663, rfl⟩
abbrev main_v568 : Ref sig .tc := ⟨.hbm, 664, rfl⟩
abbrev main_v569 : Ref sig .tc := ⟨.hbm, 665, rfl⟩
abbrev main_v570 : Ref sig .tc := ⟨.hbm, 666, rfl⟩
abbrev main_v571 : Ref sig .tc := ⟨.hbm, 667, rfl⟩
abbrev main_v572 : Ref sig .tc := ⟨.hbm, 668, rfl⟩
abbrev main_v573 : Ref sig .tc := ⟨.hbm, 669, rfl⟩
abbrev main_v574 : Ref sig .tc := ⟨.hbm, 670, rfl⟩
abbrev main_v575 : Ref sig .tc := ⟨.hbm, 671, rfl⟩
abbrev main_v576 : Ref sig .tc := ⟨.hbm, 672, rfl⟩
abbrev main_v577 : Ref sig .tc := ⟨.hbm, 673, rfl⟩
abbrev main_v578 : Ref sig .tc := ⟨.hbm, 674, rfl⟩
abbrev main_v579 : Ref sig .tc := ⟨.hbm, 675, rfl⟩
abbrev main_v580 : Ref sig .tc := ⟨.hbm, 676, rfl⟩
abbrev main_v581 : Ref sig .tc := ⟨.hbm, 677, rfl⟩
abbrev main_v582 : Ref sig .tc := ⟨.hbm, 678, rfl⟩
abbrev main_v583 : Ref sig .tc := ⟨.hbm, 679, rfl⟩
abbrev main_v584 : Ref sig .tc := ⟨.hbm, 680, rfl⟩
abbrev main_v585 : Ref sig .tc := ⟨.hbm, 681, rfl⟩
abbrev main_v586 : Ref sig .tc := ⟨.hbm, 682, rfl⟩
abbrev main_v587 : Ref sig .tc := ⟨.hbm, 683, rfl⟩
abbrev main_v588 : Ref sig .tc := ⟨.hbm, 684, rfl⟩
abbrev main_v589 : Ref sig .tc := ⟨.hbm, 685, rfl⟩
abbrev main_v590 : Ref sig .tc := ⟨.hbm, 686, rfl⟩
abbrev main_v591 : Ref sig .tc := ⟨.hbm, 687, rfl⟩
abbrev main_v592 : Ref sig .tc := ⟨.hbm, 688, rfl⟩
abbrev main_v593 : Ref sig .tc := ⟨.hbm, 689, rfl⟩
abbrev main_v594 : Ref sig .tc := ⟨.hbm, 690, rfl⟩
abbrev main_v595 : Ref sig .tc := ⟨.hbm, 691, rfl⟩
abbrev main_v596 : Ref sig .tc := ⟨.hbm, 692, rfl⟩
abbrev main_v597 : Ref sig .tc := ⟨.hbm, 693, rfl⟩
abbrev main_v598 : Ref sig .tc := ⟨.hbm, 694, rfl⟩
abbrev main_v599 : Ref sig .tc := ⟨.hbm, 695, rfl⟩
abbrev main_v600 : Ref sig .tc := ⟨.hbm, 696, rfl⟩
abbrev main_v601 : Ref sig .tc := ⟨.hbm, 697, rfl⟩
abbrev main_v602 : Ref sig .tc := ⟨.hbm, 698, rfl⟩
abbrev main_v603 : Ref sig .tc := ⟨.hbm, 699, rfl⟩
abbrev main_v604 : Ref sig .tc := ⟨.hbm, 700, rfl⟩
abbrev main_v605 : Ref sig .tc := ⟨.hbm, 701, rfl⟩
abbrev main_v606 : Ref sig .tc := ⟨.hbm, 702, rfl⟩
abbrev main_v607 : Ref sig .tc := ⟨.hbm, 703, rfl⟩
abbrev main_v608 : Ref sig .tc := ⟨.hbm, 704, rfl⟩
abbrev main_v609 : Ref sig .tc := ⟨.hbm, 705, rfl⟩
abbrev main_v610 : Ref sig .tc := ⟨.hbm, 706, rfl⟩
abbrev main_cst_49 : Ref sig .tc := ⟨.hbm, 707, rfl⟩
abbrev main_v611 : Ref sig .tc := ⟨.hbm, 708, rfl⟩
abbrev main_v612 : Ref sig .tc := ⟨.hbm, 709, rfl⟩
abbrev main_v613 : Ref sig .tc := ⟨.hbm, 710, rfl⟩
abbrev main_v614 : Ref sig .tc := ⟨.hbm, 711, rfl⟩
abbrev main_v615 : Ref sig .tc := ⟨.hbm, 712, rfl⟩
abbrev main_v616 : Ref sig .tc := ⟨.hbm, 713, rfl⟩
abbrev main_cst_50 : Ref sig .tc := ⟨.hbm, 714, rfl⟩
abbrev main_v617 : Ref sig .tc := ⟨.hbm, 715, rfl⟩
abbrev main_v618 : Ref sig .tc := ⟨.hbm, 716, rfl⟩
abbrev main_v619 : Ref sig .tc := ⟨.hbm, 717, rfl⟩
abbrev main_v620 : Ref sig .tc := ⟨.hbm, 718, rfl⟩
abbrev main_v621 : Ref sig .tc := ⟨.hbm, 719, rfl⟩
abbrev main_c_51 : Ref sig .tc := ⟨.hbm, 720, rfl⟩
abbrev main_v622 : Ref sig .tc := ⟨.hbm, 721, rfl⟩
abbrev main_v623 : Ref sig .tc := ⟨.hbm, 722, rfl⟩
abbrev main_v624 : Ref sig .tc := ⟨.hbm, 723, rfl⟩
abbrev main_v625 : Ref sig .tc := ⟨.hbm, 724, rfl⟩
abbrev main_v626 : Ref sig .tc := ⟨.hbm, 725, rfl⟩
abbrev main_v627 : Ref sig .tc := ⟨.hbm, 726, rfl⟩
abbrev main_v628 : Ref sig .tc := ⟨.hbm, 727, rfl⟩
abbrev main_v629 : Ref sig .tc := ⟨.hbm, 728, rfl⟩
abbrev main_v630 : Ref sig .tc := ⟨.hbm, 729, rfl⟩
abbrev main_v631 : Ref sig .tc := ⟨.hbm, 730, rfl⟩
abbrev main_v632 : Ref sig .tc := ⟨.hbm, 731, rfl⟩
abbrev main_v633 : Ref sig .tc := ⟨.hbm, 732, rfl⟩
abbrev main_v634 : Ref sig .tc := ⟨.hbm, 733, rfl⟩
abbrev main_cst_52 : Ref sig .tc := ⟨.hbm, 734, rfl⟩
abbrev main_call14_v0 : Ref sig .tc := ⟨.hbm, 735, rfl⟩
abbrev main_call14_v1 : Ref sig .tc := ⟨.hbm, 736, rfl⟩
abbrev main_v635 : Ref sig .tc := ⟨.hbm, 737, rfl⟩
abbrev main_v636 : Ref sig .tc := ⟨.hbm, 738, rfl⟩
abbrev main_v637 : Ref sig .tc := ⟨.hbm, 739, rfl⟩
abbrev main_c_53 : Ref sig .tc := ⟨.hbm, 740, rfl⟩
abbrev main_v638 : Ref sig .tc := ⟨.hbm, 741, rfl⟩
abbrev main_v639 : Ref sig .tc := ⟨.hbm, 742, rfl⟩
abbrev main_v640 : Ref sig .tc := ⟨.hbm, 743, rfl⟩
abbrev main_v641 : Ref sig .tc := ⟨.hbm, 744, rfl⟩
abbrev main_v642 : Ref sig .tc := ⟨.hbm, 745, rfl⟩
abbrev main_v643 : Ref sig .tc := ⟨.hbm, 746, rfl⟩
abbrev main_v644 : Ref sig .tc := ⟨.hbm, 747, rfl⟩
abbrev main_v645 : Ref sig .tc := ⟨.hbm, 748, rfl⟩
abbrev main_v646 : Ref sig .tc := ⟨.hbm, 749, rfl⟩
abbrev main_v647 : Ref sig .tc := ⟨.hbm, 750, rfl⟩
abbrev main_v648 : Ref sig .tc := ⟨.hbm, 751, rfl⟩
abbrev main_v649 : Ref sig .tc := ⟨.hbm, 752, rfl⟩
abbrev main_v650 : Ref sig .tc := ⟨.hbm, 753, rfl⟩
abbrev main_cst_54 : Ref sig .tc := ⟨.hbm, 754, rfl⟩
abbrev main_call15_v0 : Ref sig .tc := ⟨.hbm, 755, rfl⟩
abbrev main_call15_v1 : Ref sig .tc := ⟨.hbm, 756, rfl⟩
abbrev main_v651 : Ref sig .tc := ⟨.hbm, 757, rfl⟩
abbrev main_v652 : Ref sig .tc := ⟨.hbm, 758, rfl⟩
abbrev main_cst_55 : Ref sig .tc := ⟨.hbm, 759, rfl⟩
abbrev main_v653 : Ref sig .tc := ⟨.hbm, 760, rfl⟩
abbrev main_v654 : Ref sig .tc := ⟨.hbm, 761, rfl⟩
abbrev main_v655 : Ref sig .tc := ⟨.hbm, 762, rfl⟩
abbrev main_v656 : Ref sig .tc := ⟨.hbm, 763, rfl⟩
abbrev main_v657 : Ref sig .tc := ⟨.hbm, 764, rfl⟩
abbrev main_v658 : Ref sig .tc := ⟨.hbm, 765, rfl⟩
abbrev main_v659 : Ref sig .tc := ⟨.hbm, 766, rfl⟩
abbrev main_v660 : Ref sig .tc := ⟨.hbm, 767, rfl⟩
abbrev main_v661 : Ref sig .tc := ⟨.hbm, 768, rfl⟩
abbrev main_v662 : Ref sig .tc := ⟨.hbm, 769, rfl⟩
abbrev main_v663 : Ref sig .tc := ⟨.hbm, 770, rfl⟩
abbrev main_v664 : Ref sig .tc := ⟨.hbm, 771, rfl⟩
abbrev main_v665 : Ref sig .tc := ⟨.hbm, 772, rfl⟩
abbrev main_v666 : Ref sig .tc := ⟨.hbm, 773, rfl⟩
abbrev main_v667 : Ref sig .tc := ⟨.hbm, 774, rfl⟩
abbrev main_v668 : Ref sig .tc := ⟨.hbm, 775, rfl⟩
abbrev main_v669 : Ref sig .tc := ⟨.hbm, 776, rfl⟩
abbrev main_v670 : Ref sig .tc := ⟨.hbm, 777, rfl⟩
abbrev main_v671 : Ref sig .tc := ⟨.hbm, 778, rfl⟩
abbrev main_v672 : Ref sig .tc := ⟨.hbm, 779, rfl⟩
abbrev main_v673 : Ref sig .tc := ⟨.hbm, 780, rfl⟩
abbrev main_v674 : Ref sig .tc := ⟨.hbm, 781, rfl⟩
abbrev main_v675 : Ref sig .tc := ⟨.hbm, 782, rfl⟩
abbrev main_v676 : Ref sig .tc := ⟨.hbm, 783, rfl⟩
abbrev main_v677 : Ref sig .tc := ⟨.hbm, 784, rfl⟩
abbrev main_v678 : Ref sig .tc := ⟨.hbm, 785, rfl⟩
abbrev main_v679 : Ref sig .tc := ⟨.hbm, 786, rfl⟩
abbrev main_v680 : Ref sig .tc := ⟨.hbm, 787, rfl⟩
abbrev main_v681 : Ref sig .tc := ⟨.hbm, 788, rfl⟩
abbrev main_v682 : Ref sig .tc := ⟨.hbm, 789, rfl⟩
abbrev main_v683 : Ref sig .tc := ⟨.hbm, 790, rfl⟩
abbrev main_v684 : Ref sig .tc := ⟨.hbm, 791, rfl⟩
abbrev main_v685 : Ref sig .tc := ⟨.hbm, 792, rfl⟩
abbrev main_v686 : Ref sig .tc := ⟨.hbm, 793, rfl⟩
abbrev main_v687 : Ref sig .tc := ⟨.hbm, 794, rfl⟩
abbrev main_v688 : Ref sig .tc := ⟨.hbm, 795, rfl⟩
abbrev main_v689 : Ref sig .tc := ⟨.hbm, 796, rfl⟩
abbrev main_v690 : Ref sig .tc := ⟨.hbm, 797, rfl⟩
abbrev main_v691 : Ref sig .tc := ⟨.hbm, 798, rfl⟩
abbrev main_v692 : Ref sig .tc := ⟨.hbm, 799, rfl⟩
abbrev main_v693 : Ref sig .tc := ⟨.hbm, 800, rfl⟩
abbrev main_v694 : Ref sig .tc := ⟨.hbm, 801, rfl⟩
abbrev main_v695 : Ref sig .tc := ⟨.hbm, 802, rfl⟩
abbrev main_v696 : Ref sig .tc := ⟨.hbm, 803, rfl⟩
abbrev main_v697 : Ref sig .tc := ⟨.hbm, 804, rfl⟩
abbrev main_v698 : Ref sig .tc := ⟨.hbm, 805, rfl⟩
abbrev main_cst_56 : Ref sig .tc := ⟨.hbm, 806, rfl⟩
abbrev main_v699 : Ref sig .tc := ⟨.hbm, 807, rfl⟩
abbrev main_v700 : Ref sig .tc := ⟨.hbm, 808, rfl⟩
abbrev main_v701 : Ref sig .tc := ⟨.hbm, 809, rfl⟩
abbrev main_v702 : Ref sig .tc := ⟨.hbm, 810, rfl⟩
abbrev main_v703 : Ref sig .tc := ⟨.hbm, 811, rfl⟩
abbrev main_v704 : Ref sig .tc := ⟨.hbm, 812, rfl⟩
abbrev main_cst_57 : Ref sig .tc := ⟨.hbm, 813, rfl⟩
abbrev main_v705 : Ref sig .tc := ⟨.hbm, 814, rfl⟩
abbrev main_v706 : Ref sig .tc := ⟨.hbm, 815, rfl⟩
abbrev main_v707 : Ref sig .tc := ⟨.hbm, 816, rfl⟩
abbrev main_v708 : Ref sig .tc := ⟨.hbm, 817, rfl⟩
abbrev main_v709 : Ref sig .tc := ⟨.hbm, 818, rfl⟩
abbrev main_c_58 : Ref sig .tc := ⟨.hbm, 819, rfl⟩
abbrev main_v710 : Ref sig .tc := ⟨.hbm, 820, rfl⟩
abbrev main_v711 : Ref sig .tc := ⟨.hbm, 821, rfl⟩
abbrev main_v712 : Ref sig .tc := ⟨.hbm, 822, rfl⟩
abbrev main_v713 : Ref sig .tc := ⟨.hbm, 823, rfl⟩
abbrev main_v714 : Ref sig .tc := ⟨.hbm, 824, rfl⟩
abbrev main_v715 : Ref sig .tc := ⟨.hbm, 825, rfl⟩
abbrev main_v716 : Ref sig .tc := ⟨.hbm, 826, rfl⟩
abbrev main_v717 : Ref sig .tc := ⟨.hbm, 827, rfl⟩
abbrev main_v718 : Ref sig .tc := ⟨.hbm, 828, rfl⟩
abbrev main_v719 : Ref sig .tc := ⟨.hbm, 829, rfl⟩
abbrev main_v720 : Ref sig .tc := ⟨.hbm, 830, rfl⟩
abbrev main_v721 : Ref sig .tc := ⟨.hbm, 831, rfl⟩
abbrev main_v722 : Ref sig .tc := ⟨.hbm, 832, rfl⟩
abbrev main_cst_59 : Ref sig .tc := ⟨.hbm, 833, rfl⟩
abbrev main_call16_v0 : Ref sig .tc := ⟨.hbm, 834, rfl⟩
abbrev main_call16_v1 : Ref sig .tc := ⟨.hbm, 835, rfl⟩
abbrev main_v723 : Ref sig .tc := ⟨.hbm, 836, rfl⟩
abbrev main_v724 : Ref sig .tc := ⟨.hbm, 837, rfl⟩
abbrev main_v725 : Ref sig .tc := ⟨.hbm, 838, rfl⟩
abbrev main_c_60 : Ref sig .tc := ⟨.hbm, 839, rfl⟩
abbrev main_v726 : Ref sig .tc := ⟨.hbm, 840, rfl⟩
abbrev main_v727 : Ref sig .tc := ⟨.hbm, 841, rfl⟩
abbrev main_v728 : Ref sig .tc := ⟨.hbm, 842, rfl⟩
abbrev main_v729 : Ref sig .tc := ⟨.hbm, 843, rfl⟩
abbrev main_v730 : Ref sig .tc := ⟨.hbm, 844, rfl⟩
abbrev main_v731 : Ref sig .tc := ⟨.hbm, 845, rfl⟩
abbrev main_v732 : Ref sig .tc := ⟨.hbm, 846, rfl⟩
abbrev main_v733 : Ref sig .tc := ⟨.hbm, 847, rfl⟩
abbrev main_v734 : Ref sig .tc := ⟨.hbm, 848, rfl⟩
abbrev main_v735 : Ref sig .tc := ⟨.hbm, 849, rfl⟩
abbrev main_v736 : Ref sig .tc := ⟨.hbm, 850, rfl⟩
abbrev main_v737 : Ref sig .tc := ⟨.hbm, 851, rfl⟩
abbrev main_v738 : Ref sig .tc := ⟨.hbm, 852, rfl⟩
abbrev main_cst_61 : Ref sig .tc := ⟨.hbm, 853, rfl⟩
abbrev main_call17_v0 : Ref sig .tc := ⟨.hbm, 854, rfl⟩
abbrev main_call17_v1 : Ref sig .tc := ⟨.hbm, 855, rfl⟩
abbrev main_v739 : Ref sig .tc := ⟨.hbm, 856, rfl⟩
abbrev main_v740 : Ref sig .tc := ⟨.hbm, 857, rfl⟩
abbrev main_cst_62 : Ref sig .tc := ⟨.hbm, 858, rfl⟩
abbrev main_v741 : Ref sig .tc := ⟨.hbm, 859, rfl⟩
abbrev main_v742 : Ref sig .tc := ⟨.hbm, 860, rfl⟩
abbrev main_v743 : Ref sig .tc := ⟨.hbm, 861, rfl⟩
abbrev main_v744 : Ref sig .tc := ⟨.hbm, 862, rfl⟩
abbrev main_v745 : Ref sig .tc := ⟨.hbm, 863, rfl⟩
abbrev main_v746 : Ref sig .tc := ⟨.hbm, 864, rfl⟩
abbrev main_v747 : Ref sig .tc := ⟨.hbm, 865, rfl⟩
abbrev main_v748 : Ref sig .tc := ⟨.hbm, 866, rfl⟩
abbrev main_v749 : Ref sig .tc := ⟨.hbm, 867, rfl⟩
abbrev main_v750 : Ref sig .tc := ⟨.hbm, 868, rfl⟩
abbrev main_v751 : Ref sig .tc := ⟨.hbm, 869, rfl⟩
abbrev main_v752 : Ref sig .tc := ⟨.hbm, 870, rfl⟩
abbrev main_v753 : Ref sig .tc := ⟨.hbm, 871, rfl⟩
abbrev main_v754 : Ref sig .tc := ⟨.hbm, 872, rfl⟩
abbrev main_v755 : Ref sig .tc := ⟨.hbm, 873, rfl⟩
abbrev main_v756 : Ref sig .tc := ⟨.hbm, 874, rfl⟩
abbrev main_v757 : Ref sig .tc := ⟨.hbm, 875, rfl⟩
abbrev main_v758 : Ref sig .tc := ⟨.hbm, 876, rfl⟩
abbrev main_v759 : Ref sig .tc := ⟨.hbm, 877, rfl⟩
abbrev main_v760 : Ref sig .tc := ⟨.hbm, 878, rfl⟩
abbrev main_v761 : Ref sig .tc := ⟨.hbm, 879, rfl⟩
abbrev main_v762 : Ref sig .tc := ⟨.hbm, 880, rfl⟩
abbrev main_v763 : Ref sig .tc := ⟨.hbm, 881, rfl⟩
abbrev main_v764 : Ref sig .tc := ⟨.hbm, 882, rfl⟩
abbrev main_v765 : Ref sig .tc := ⟨.hbm, 883, rfl⟩
abbrev main_v766 : Ref sig .tc := ⟨.hbm, 884, rfl⟩
abbrev main_v767 : Ref sig .tc := ⟨.hbm, 885, rfl⟩
abbrev main_v768 : Ref sig .tc := ⟨.hbm, 886, rfl⟩
abbrev main_v769 : Ref sig .tc := ⟨.hbm, 887, rfl⟩
abbrev main_v770 : Ref sig .tc := ⟨.hbm, 888, rfl⟩
abbrev main_v771 : Ref sig .tc := ⟨.hbm, 889, rfl⟩
abbrev main_v772 : Ref sig .tc := ⟨.hbm, 890, rfl⟩
abbrev main_v773 : Ref sig .tc := ⟨.hbm, 891, rfl⟩
abbrev main_v774 : Ref sig .tc := ⟨.hbm, 892, rfl⟩
abbrev main_v775 : Ref sig .tc := ⟨.hbm, 893, rfl⟩
abbrev main_v776 : Ref sig .tc := ⟨.hbm, 894, rfl⟩
abbrev main_v777 : Ref sig .tc := ⟨.hbm, 895, rfl⟩
abbrev main_v778 : Ref sig .tc := ⟨.hbm, 896, rfl⟩
abbrev main_v779 : Ref sig .tc := ⟨.hbm, 897, rfl⟩
abbrev main_v780 : Ref sig .tc := ⟨.hbm, 898, rfl⟩
abbrev main_v781 : Ref sig .tc := ⟨.hbm, 899, rfl⟩
abbrev main_v782 : Ref sig .tc := ⟨.hbm, 900, rfl⟩
abbrev main_v783 : Ref sig .tc := ⟨.hbm, 901, rfl⟩
abbrev main_v784 : Ref sig .tc := ⟨.hbm, 902, rfl⟩
abbrev main_v785 : Ref sig .tc := ⟨.hbm, 903, rfl⟩
abbrev main_v786 : Ref sig .tc := ⟨.hbm, 904, rfl⟩
abbrev main_cst_63 : Ref sig .tc := ⟨.hbm, 905, rfl⟩
abbrev main_v787 : Ref sig .tc := ⟨.hbm, 906, rfl⟩
abbrev main_v788 : Ref sig .tc := ⟨.hbm, 907, rfl⟩
abbrev main_v789 : Ref sig .tc := ⟨.hbm, 908, rfl⟩
abbrev main_v790 : Ref sig .tc := ⟨.hbm, 909, rfl⟩
abbrev main_v791 : Ref sig .tc := ⟨.hbm, 910, rfl⟩
abbrev main_v792 : Ref sig .tc := ⟨.hbm, 911, rfl⟩
abbrev main_cst_64 : Ref sig .tc := ⟨.hbm, 912, rfl⟩
abbrev main_v793 : Ref sig .tc := ⟨.hbm, 913, rfl⟩
abbrev main_v794 : Ref sig .tc := ⟨.hbm, 914, rfl⟩
abbrev main_v795 : Ref sig .tc := ⟨.hbm, 915, rfl⟩
abbrev main_cst_65 : Ref sig .tc := ⟨.hbm, 916, rfl⟩
abbrev main_v796 : Ref sig .tc := ⟨.hbm, 917, rfl⟩
abbrev main_v797 : Ref sig .tc := ⟨.hbm, 918, rfl⟩
abbrev main_v798 : Ref sig .tc := ⟨.hbm, 919, rfl⟩
abbrev main_c_66 : Ref sig .tc := ⟨.hbm, 920, rfl⟩
abbrev main_v799 : Ref sig .tc := ⟨.hbm, 921, rfl⟩
abbrev main_v800 : Ref sig .tc := ⟨.hbm, 922, rfl⟩
abbrev main_v801 : Ref sig .tc := ⟨.hbm, 923, rfl⟩
abbrev main_v802 : Ref sig .tc := ⟨.hbm, 924, rfl⟩
abbrev main_v803 : Ref sig .tc := ⟨.hbm, 925, rfl⟩
abbrev main_v804 : Ref sig .tc := ⟨.hbm, 926, rfl⟩
abbrev main_v805 : Ref sig .tc := ⟨.hbm, 927, rfl⟩
abbrev main_v806 : Ref sig .tc := ⟨.hbm, 928, rfl⟩
abbrev main_v807 : Ref sig .tc := ⟨.hbm, 929, rfl⟩
abbrev main_v808 : Ref sig .tc := ⟨.hbm, 930, rfl⟩
abbrev main_v809 : Ref sig .tc := ⟨.hbm, 931, rfl⟩
abbrev main_v810 : Ref sig .tc := ⟨.hbm, 932, rfl⟩
abbrev main_v811 : Ref sig .tc := ⟨.hbm, 933, rfl⟩
abbrev main_cst_67 : Ref sig .tc := ⟨.hbm, 934, rfl⟩
abbrev main_call18_v0 : Ref sig .tc := ⟨.hbm, 935, rfl⟩
abbrev main_call18_v1 : Ref sig .tc := ⟨.hbm, 936, rfl⟩
abbrev main_v812 : Ref sig .tc := ⟨.hbm, 937, rfl⟩
abbrev main_v813 : Ref sig .tc := ⟨.hbm, 938, rfl⟩
abbrev main_v814 : Ref sig .tc := ⟨.hbm, 939, rfl⟩
abbrev main_c_68 : Ref sig .tc := ⟨.hbm, 940, rfl⟩
abbrev main_v815 : Ref sig .tc := ⟨.hbm, 941, rfl⟩
abbrev main_v816 : Ref sig .tc := ⟨.hbm, 942, rfl⟩
abbrev main_v817 : Ref sig .tc := ⟨.hbm, 943, rfl⟩
abbrev main_v818 : Ref sig .tc := ⟨.hbm, 944, rfl⟩
abbrev main_v819 : Ref sig .tc := ⟨.hbm, 945, rfl⟩
abbrev main_v820 : Ref sig .tc := ⟨.hbm, 946, rfl⟩
abbrev main_v821 : Ref sig .tc := ⟨.hbm, 947, rfl⟩
abbrev main_v822 : Ref sig .tc := ⟨.hbm, 948, rfl⟩
abbrev main_v823 : Ref sig .tc := ⟨.hbm, 949, rfl⟩
abbrev main_v824 : Ref sig .tc := ⟨.hbm, 950, rfl⟩
abbrev main_v825 : Ref sig .tc := ⟨.hbm, 951, rfl⟩
abbrev main_v826 : Ref sig .tc := ⟨.hbm, 952, rfl⟩
abbrev main_v827 : Ref sig .tc := ⟨.hbm, 953, rfl⟩
abbrev main_cst_69 : Ref sig .tc := ⟨.hbm, 954, rfl⟩
abbrev main_call19_v0 : Ref sig .tc := ⟨.hbm, 955, rfl⟩
abbrev main_call19_v1 : Ref sig .tc := ⟨.hbm, 956, rfl⟩
abbrev main_v828 : Ref sig .tc := ⟨.hbm, 957, rfl⟩
abbrev main_v829 : Ref sig .tc := ⟨.hbm, 958, rfl⟩
abbrev main_cst_70 : Ref sig .tc := ⟨.hbm, 959, rfl⟩
abbrev main_v830 : Ref sig .tc := ⟨.hbm, 960, rfl⟩
abbrev main_v831 : Ref sig .tc := ⟨.hbm, 961, rfl⟩
abbrev main_v832 : Ref sig .tc := ⟨.hbm, 962, rfl⟩
abbrev main_v833 : Ref sig .tc := ⟨.hbm, 963, rfl⟩
abbrev main_v834 : Ref sig .tc := ⟨.hbm, 964, rfl⟩
abbrev main_v835 : Ref sig .tc := ⟨.hbm, 965, rfl⟩
abbrev main_v836 : Ref sig .tc := ⟨.hbm, 966, rfl⟩
abbrev main_v837 : Ref sig .tc := ⟨.hbm, 967, rfl⟩
abbrev main_v838 : Ref sig .tc := ⟨.hbm, 968, rfl⟩
abbrev main_v839 : Ref sig .tc := ⟨.hbm, 969, rfl⟩
abbrev main_v840 : Ref sig .tc := ⟨.hbm, 970, rfl⟩
abbrev main_v841 : Ref sig .tc := ⟨.hbm, 971, rfl⟩
abbrev main_v842 : Ref sig .tc := ⟨.hbm, 972, rfl⟩
abbrev main_v843 : Ref sig .tc := ⟨.hbm, 973, rfl⟩
abbrev main_v844 : Ref sig .tc := ⟨.hbm, 974, rfl⟩
abbrev main_v845 : Ref sig .tc := ⟨.hbm, 975, rfl⟩
abbrev main_v846 : Ref sig .tc := ⟨.hbm, 976, rfl⟩
abbrev main_v847 : Ref sig .tc := ⟨.hbm, 977, rfl⟩
abbrev main_v848 : Ref sig .tc := ⟨.hbm, 978, rfl⟩
abbrev main_v849 : Ref sig .tc := ⟨.hbm, 979, rfl⟩
abbrev main_v850 : Ref sig .tc := ⟨.hbm, 980, rfl⟩
abbrev main_v851 : Ref sig .tc := ⟨.hbm, 981, rfl⟩
abbrev main_v852 : Ref sig .tc := ⟨.hbm, 982, rfl⟩
abbrev main_v853 : Ref sig .tc := ⟨.hbm, 983, rfl⟩
abbrev main_v854 : Ref sig .tc := ⟨.hbm, 984, rfl⟩
abbrev main_v855 : Ref sig .tc := ⟨.hbm, 985, rfl⟩
abbrev main_v856 : Ref sig .tc := ⟨.hbm, 986, rfl⟩
abbrev main_v857 : Ref sig .tc := ⟨.hbm, 987, rfl⟩
abbrev main_v858 : Ref sig .tc := ⟨.hbm, 988, rfl⟩
abbrev main_v859 : Ref sig .tc := ⟨.hbm, 989, rfl⟩
abbrev main_v860 : Ref sig .tc := ⟨.hbm, 990, rfl⟩
abbrev main_v861 : Ref sig .tc := ⟨.hbm, 991, rfl⟩
abbrev main_v862 : Ref sig .tc := ⟨.hbm, 992, rfl⟩
abbrev main_v863 : Ref sig .tc := ⟨.hbm, 993, rfl⟩
abbrev main_v864 : Ref sig .tc := ⟨.hbm, 994, rfl⟩
abbrev main_v865 : Ref sig .tc := ⟨.hbm, 995, rfl⟩
abbrev main_v866 : Ref sig .tc := ⟨.hbm, 996, rfl⟩
abbrev main_v867 : Ref sig .tc := ⟨.hbm, 997, rfl⟩
abbrev main_v868 : Ref sig .tc := ⟨.hbm, 998, rfl⟩
abbrev main_v869 : Ref sig .tc := ⟨.hbm, 999, rfl⟩
abbrev main_v870 : Ref sig .tc := ⟨.hbm, 1000, rfl⟩
abbrev main_v871 : Ref sig .tc := ⟨.hbm, 1001, rfl⟩
abbrev main_v872 : Ref sig .tc := ⟨.hbm, 1002, rfl⟩
abbrev main_v873 : Ref sig .tc := ⟨.hbm, 1003, rfl⟩
abbrev main_v874 : Ref sig .tc := ⟨.hbm, 1004, rfl⟩
abbrev main_v875 : Ref sig .tc := ⟨.hbm, 1005, rfl⟩
abbrev main_cst_71 : Ref sig .tc := ⟨.hbm, 1006, rfl⟩
abbrev main_v876 : Ref sig .tc := ⟨.hbm, 1007, rfl⟩
abbrev main_v877 : Ref sig .tc := ⟨.hbm, 1008, rfl⟩
abbrev main_v878 : Ref sig .tc := ⟨.hbm, 1009, rfl⟩
abbrev main_v879 : Ref sig .tc := ⟨.hbm, 1010, rfl⟩
abbrev main_v880 : Ref sig .tc := ⟨.hbm, 1011, rfl⟩
abbrev main_v881 : Ref sig .tc := ⟨.hbm, 1012, rfl⟩
abbrev main_cst_72 : Ref sig .tc := ⟨.hbm, 1013, rfl⟩
abbrev main_v882 : Ref sig .tc := ⟨.hbm, 1014, rfl⟩
abbrev main_v883 : Ref sig .tc := ⟨.hbm, 1015, rfl⟩
abbrev main_v884 : Ref sig .tc := ⟨.hbm, 1016, rfl⟩
abbrev main_v885 : Ref sig .tc := ⟨.hbm, 1017, rfl⟩
abbrev main_v886 : Ref sig .tc := ⟨.hbm, 1018, rfl⟩
abbrev main_c_73 : Ref sig .tc := ⟨.hbm, 1019, rfl⟩
abbrev main_v887 : Ref sig .tc := ⟨.hbm, 1020, rfl⟩
abbrev main_v888 : Ref sig .tc := ⟨.hbm, 1021, rfl⟩
abbrev main_v889 : Ref sig .tc := ⟨.hbm, 1022, rfl⟩
abbrev main_v890 : Ref sig .tc := ⟨.hbm, 1023, rfl⟩
abbrev main_v891 : Ref sig .tc := ⟨.hbm, 1024, rfl⟩
abbrev main_v892 : Ref sig .tc := ⟨.hbm, 1025, rfl⟩
abbrev main_v893 : Ref sig .tc := ⟨.hbm, 1026, rfl⟩
abbrev main_v894 : Ref sig .tc := ⟨.hbm, 1027, rfl⟩
abbrev main_v895 : Ref sig .tc := ⟨.hbm, 1028, rfl⟩
abbrev main_v896 : Ref sig .tc := ⟨.hbm, 1029, rfl⟩
abbrev main_v897 : Ref sig .tc := ⟨.hbm, 1030, rfl⟩
abbrev main_v898 : Ref sig .tc := ⟨.hbm, 1031, rfl⟩
abbrev main_v899 : Ref sig .tc := ⟨.hbm, 1032, rfl⟩
abbrev main_cst_74 : Ref sig .tc := ⟨.hbm, 1033, rfl⟩
abbrev main_call20_v0 : Ref sig .tc := ⟨.hbm, 1034, rfl⟩
abbrev main_call20_v1 : Ref sig .tc := ⟨.hbm, 1035, rfl⟩
abbrev main_v900 : Ref sig .tc := ⟨.hbm, 1036, rfl⟩
abbrev main_v901 : Ref sig .tc := ⟨.hbm, 1037, rfl⟩
abbrev main_v902 : Ref sig .tc := ⟨.hbm, 1038, rfl⟩
abbrev main_c_75 : Ref sig .tc := ⟨.hbm, 1039, rfl⟩
abbrev main_v903 : Ref sig .tc := ⟨.hbm, 1040, rfl⟩
abbrev main_v904 : Ref sig .tc := ⟨.hbm, 1041, rfl⟩
abbrev main_v905 : Ref sig .tc := ⟨.hbm, 1042, rfl⟩
abbrev main_v906 : Ref sig .tc := ⟨.hbm, 1043, rfl⟩
abbrev main_v907 : Ref sig .tc := ⟨.hbm, 1044, rfl⟩
abbrev main_v908 : Ref sig .tc := ⟨.hbm, 1045, rfl⟩
abbrev main_v909 : Ref sig .tc := ⟨.hbm, 1046, rfl⟩
abbrev main_v910 : Ref sig .tc := ⟨.hbm, 1047, rfl⟩
abbrev main_v911 : Ref sig .tc := ⟨.hbm, 1048, rfl⟩
abbrev main_v912 : Ref sig .tc := ⟨.hbm, 1049, rfl⟩
abbrev main_v913 : Ref sig .tc := ⟨.hbm, 1050, rfl⟩
abbrev main_v914 : Ref sig .tc := ⟨.hbm, 1051, rfl⟩
abbrev main_v915 : Ref sig .tc := ⟨.hbm, 1052, rfl⟩
abbrev main_cst_76 : Ref sig .tc := ⟨.hbm, 1053, rfl⟩
abbrev main_call21_v0 : Ref sig .tc := ⟨.hbm, 1054, rfl⟩
abbrev main_call21_v1 : Ref sig .tc := ⟨.hbm, 1055, rfl⟩
abbrev main_v916 : Ref sig .tc := ⟨.hbm, 1056, rfl⟩
abbrev main_v917 : Ref sig .tc := ⟨.hbm, 1057, rfl⟩
abbrev main_cst_77 : Ref sig .tc := ⟨.hbm, 1058, rfl⟩
abbrev main_v918 : Ref sig .tc := ⟨.hbm, 1059, rfl⟩
abbrev main_v919 : Ref sig .tc := ⟨.hbm, 1060, rfl⟩
abbrev main_v920 : Ref sig .tc := ⟨.hbm, 1061, rfl⟩
abbrev main_v921 : Ref sig .tc := ⟨.hbm, 1062, rfl⟩
abbrev main_v922 : Ref sig .tc := ⟨.hbm, 1063, rfl⟩
abbrev main_v923 : Ref sig .tc := ⟨.hbm, 1064, rfl⟩
abbrev main_v924 : Ref sig .tc := ⟨.hbm, 1065, rfl⟩
abbrev main_v925 : Ref sig .tc := ⟨.hbm, 1066, rfl⟩
abbrev main_v926 : Ref sig .tc := ⟨.hbm, 1067, rfl⟩
abbrev main_v927 : Ref sig .tc := ⟨.hbm, 1068, rfl⟩
abbrev main_v928 : Ref sig .tc := ⟨.hbm, 1069, rfl⟩
abbrev main_v929 : Ref sig .tc := ⟨.hbm, 1070, rfl⟩
abbrev main_v930 : Ref sig .tc := ⟨.hbm, 1071, rfl⟩
abbrev main_v931 : Ref sig .tc := ⟨.hbm, 1072, rfl⟩
abbrev main_v932 : Ref sig .tc := ⟨.hbm, 1073, rfl⟩
abbrev main_v933 : Ref sig .tc := ⟨.hbm, 1074, rfl⟩
abbrev main_v934 : Ref sig .tc := ⟨.hbm, 1075, rfl⟩
abbrev main_v935 : Ref sig .tc := ⟨.hbm, 1076, rfl⟩
abbrev main_v936 : Ref sig .tc := ⟨.hbm, 1077, rfl⟩
abbrev main_v937 : Ref sig .tc := ⟨.hbm, 1078, rfl⟩
abbrev main_v938 : Ref sig .tc := ⟨.hbm, 1079, rfl⟩
abbrev main_v939 : Ref sig .tc := ⟨.hbm, 1080, rfl⟩
abbrev main_v940 : Ref sig .tc := ⟨.hbm, 1081, rfl⟩
abbrev main_v941 : Ref sig .tc := ⟨.hbm, 1082, rfl⟩
abbrev main_v942 : Ref sig .tc := ⟨.hbm, 1083, rfl⟩
abbrev main_v943 : Ref sig .tc := ⟨.hbm, 1084, rfl⟩
abbrev main_v944 : Ref sig .tc := ⟨.hbm, 1085, rfl⟩
abbrev main_v945 : Ref sig .tc := ⟨.hbm, 1086, rfl⟩
abbrev main_v946 : Ref sig .tc := ⟨.hbm, 1087, rfl⟩
abbrev main_v947 : Ref sig .tc := ⟨.hbm, 1088, rfl⟩
abbrev main_v948 : Ref sig .tc := ⟨.hbm, 1089, rfl⟩
abbrev main_v949 : Ref sig .tc := ⟨.hbm, 1090, rfl⟩
abbrev main_v950 : Ref sig .tc := ⟨.hbm, 1091, rfl⟩
abbrev main_v951 : Ref sig .tc := ⟨.hbm, 1092, rfl⟩
abbrev main_v952 : Ref sig .tc := ⟨.hbm, 1093, rfl⟩
abbrev main_v953 : Ref sig .tc := ⟨.hbm, 1094, rfl⟩
abbrev main_v954 : Ref sig .tc := ⟨.hbm, 1095, rfl⟩
abbrev main_v955 : Ref sig .tc := ⟨.hbm, 1096, rfl⟩
abbrev main_v956 : Ref sig .tc := ⟨.hbm, 1097, rfl⟩
abbrev main_v957 : Ref sig .tc := ⟨.hbm, 1098, rfl⟩
abbrev main_v958 : Ref sig .tc := ⟨.hbm, 1099, rfl⟩
abbrev main_v959 : Ref sig .tc := ⟨.hbm, 1100, rfl⟩
abbrev main_v960 : Ref sig .tc := ⟨.hbm, 1101, rfl⟩
abbrev main_v961 : Ref sig .tc := ⟨.hbm, 1102, rfl⟩
abbrev main_v962 : Ref sig .tc := ⟨.hbm, 1103, rfl⟩
abbrev main_v963 : Ref sig .tc := ⟨.hbm, 1104, rfl⟩
abbrev main_cst_78 : Ref sig .tc := ⟨.hbm, 1105, rfl⟩
abbrev main_v964 : Ref sig .tc := ⟨.hbm, 1106, rfl⟩
abbrev main_v965 : Ref sig .tc := ⟨.hbm, 1107, rfl⟩
abbrev main_v966 : Ref sig .tc := ⟨.hbm, 1108, rfl⟩
abbrev main_v967 : Ref sig .tc := ⟨.hbm, 1109, rfl⟩
abbrev main_v968 : Ref sig .tc := ⟨.hbm, 1110, rfl⟩
abbrev main_v969 : Ref sig .tc := ⟨.hbm, 1111, rfl⟩
abbrev main_cst_79 : Ref sig .tc := ⟨.hbm, 1112, rfl⟩
abbrev main_v970 : Ref sig .tc := ⟨.hbm, 1113, rfl⟩
abbrev main_v971 : Ref sig .tc := ⟨.hbm, 1114, rfl⟩
abbrev main_v972 : Ref sig .tc := ⟨.hbm, 1115, rfl⟩
abbrev main_v973 : Ref sig .tc := ⟨.hbm, 1116, rfl⟩
abbrev main_v974 : Ref sig .tc := ⟨.hbm, 1117, rfl⟩
abbrev main_c_80 : Ref sig .tc := ⟨.hbm, 1118, rfl⟩
abbrev main_v975 : Ref sig .tc := ⟨.hbm, 1119, rfl⟩
abbrev main_v976 : Ref sig .tc := ⟨.hbm, 1120, rfl⟩
abbrev main_v977 : Ref sig .tc := ⟨.hbm, 1121, rfl⟩
abbrev main_v978 : Ref sig .tc := ⟨.hbm, 1122, rfl⟩
abbrev main_v979 : Ref sig .tc := ⟨.hbm, 1123, rfl⟩
abbrev main_v980 : Ref sig .tc := ⟨.hbm, 1124, rfl⟩
abbrev main_v981 : Ref sig .tc := ⟨.hbm, 1125, rfl⟩
abbrev main_v982 : Ref sig .tc := ⟨.hbm, 1126, rfl⟩
abbrev main_v983 : Ref sig .tc := ⟨.hbm, 1127, rfl⟩
abbrev main_v984 : Ref sig .tc := ⟨.hbm, 1128, rfl⟩
abbrev main_v985 : Ref sig .tc := ⟨.hbm, 1129, rfl⟩
abbrev main_v986 : Ref sig .tc := ⟨.hbm, 1130, rfl⟩
abbrev main_v987 : Ref sig .tc := ⟨.hbm, 1131, rfl⟩
abbrev main_cst_81 : Ref sig .tc := ⟨.hbm, 1132, rfl⟩
abbrev main_call22_v0 : Ref sig .tc := ⟨.hbm, 1133, rfl⟩
abbrev main_call22_v1 : Ref sig .tc := ⟨.hbm, 1134, rfl⟩
abbrev main_v988 : Ref sig .tc := ⟨.hbm, 1135, rfl⟩
abbrev main_v989 : Ref sig .tc := ⟨.hbm, 1136, rfl⟩
abbrev main_v990 : Ref sig .tc := ⟨.hbm, 1137, rfl⟩
abbrev main_c_82 : Ref sig .tc := ⟨.hbm, 1138, rfl⟩
abbrev main_v991 : Ref sig .tc := ⟨.hbm, 1139, rfl⟩
abbrev main_v992 : Ref sig .tc := ⟨.hbm, 1140, rfl⟩
abbrev main_v993 : Ref sig .tc := ⟨.hbm, 1141, rfl⟩
abbrev main_v994 : Ref sig .tc := ⟨.hbm, 1142, rfl⟩
abbrev main_v995 : Ref sig .tc := ⟨.hbm, 1143, rfl⟩
abbrev main_v996 : Ref sig .tc := ⟨.hbm, 1144, rfl⟩
abbrev main_v997 : Ref sig .tc := ⟨.hbm, 1145, rfl⟩
abbrev main_v998 : Ref sig .tc := ⟨.hbm, 1146, rfl⟩
abbrev main_v999 : Ref sig .tc := ⟨.hbm, 1147, rfl⟩
abbrev main_v1000 : Ref sig .tc := ⟨.hbm, 1148, rfl⟩
abbrev main_v1001 : Ref sig .tc := ⟨.hbm, 1149, rfl⟩
abbrev main_v1002 : Ref sig .tc := ⟨.hbm, 1150, rfl⟩
abbrev main_v1003 : Ref sig .tc := ⟨.hbm, 1151, rfl⟩
abbrev main_cst_83 : Ref sig .tc := ⟨.hbm, 1152, rfl⟩
abbrev main_call23_v0 : Ref sig .tc := ⟨.hbm, 1153, rfl⟩
abbrev main_call23_v1 : Ref sig .tc := ⟨.hbm, 1154, rfl⟩
abbrev main_v1004 : Ref sig .tc := ⟨.hbm, 1155, rfl⟩
abbrev main_v1005 : Ref sig .tc := ⟨.hbm, 1156, rfl⟩
abbrev main_cst_84 : Ref sig .tc := ⟨.hbm, 1157, rfl⟩
abbrev main_v1006 : Ref sig .tc := ⟨.hbm, 1158, rfl⟩
abbrev main_v1007 : Ref sig .tc := ⟨.hbm, 1159, rfl⟩
abbrev main_v1008 : Ref sig .tc := ⟨.hbm, 1160, rfl⟩
abbrev main_v1009 : Ref sig .tc := ⟨.hbm, 1161, rfl⟩
abbrev main_v1010 : Ref sig .tc := ⟨.hbm, 1162, rfl⟩
abbrev main_v1011 : Ref sig .tc := ⟨.hbm, 1163, rfl⟩
abbrev main_v1012 : Ref sig .tc := ⟨.hbm, 1164, rfl⟩
abbrev main_v1013 : Ref sig .tc := ⟨.hbm, 1165, rfl⟩
abbrev main_v1014 : Ref sig .tc := ⟨.hbm, 1166, rfl⟩
abbrev main_v1015 : Ref sig .tc := ⟨.hbm, 1167, rfl⟩
abbrev main_v1016 : Ref sig .tc := ⟨.hbm, 1168, rfl⟩
abbrev main_v1017 : Ref sig .tc := ⟨.hbm, 1169, rfl⟩
abbrev main_v1018 : Ref sig .tc := ⟨.hbm, 1170, rfl⟩
abbrev main_v1019 : Ref sig .tc := ⟨.hbm, 1171, rfl⟩
abbrev main_v1020 : Ref sig .tc := ⟨.hbm, 1172, rfl⟩
abbrev main_v1021 : Ref sig .tc := ⟨.hbm, 1173, rfl⟩
abbrev main_v1022 : Ref sig .tc := ⟨.hbm, 1174, rfl⟩
abbrev main_v1023 : Ref sig .tc := ⟨.hbm, 1175, rfl⟩
abbrev main_v1024 : Ref sig .tc := ⟨.hbm, 1176, rfl⟩
abbrev main_v1025 : Ref sig .tc := ⟨.hbm, 1177, rfl⟩
abbrev main_v1026 : Ref sig .tc := ⟨.hbm, 1178, rfl⟩
abbrev main_v1027 : Ref sig .tc := ⟨.hbm, 1179, rfl⟩
abbrev main_v1028 : Ref sig .tc := ⟨.hbm, 1180, rfl⟩
abbrev main_v1029 : Ref sig .tc := ⟨.hbm, 1181, rfl⟩
abbrev main_v1030 : Ref sig .tc := ⟨.hbm, 1182, rfl⟩
abbrev main_v1031 : Ref sig .tc := ⟨.hbm, 1183, rfl⟩
abbrev main_v1032 : Ref sig .tc := ⟨.hbm, 1184, rfl⟩
abbrev main_v1033 : Ref sig .tc := ⟨.hbm, 1185, rfl⟩
abbrev main_v1034 : Ref sig .tc := ⟨.hbm, 1186, rfl⟩
abbrev main_v1035 : Ref sig .tc := ⟨.hbm, 1187, rfl⟩
abbrev main_v1036 : Ref sig .tc := ⟨.hbm, 1188, rfl⟩
abbrev main_v1037 : Ref sig .tc := ⟨.hbm, 1189, rfl⟩
abbrev main_v1038 : Ref sig .tc := ⟨.hbm, 1190, rfl⟩
abbrev main_v1039 : Ref sig .tc := ⟨.hbm, 1191, rfl⟩
abbrev main_v1040 : Ref sig .tc := ⟨.hbm, 1192, rfl⟩
abbrev main_v1041 : Ref sig .tc := ⟨.hbm, 1193, rfl⟩
abbrev main_v1042 : Ref sig .tc := ⟨.hbm, 1194, rfl⟩
abbrev main_v1043 : Ref sig .tc := ⟨.hbm, 1195, rfl⟩
abbrev main_v1044 : Ref sig .tc := ⟨.hbm, 1196, rfl⟩
abbrev main_v1045 : Ref sig .tc := ⟨.hbm, 1197, rfl⟩
abbrev main_v1046 : Ref sig .tc := ⟨.hbm, 1198, rfl⟩
abbrev main_v1047 : Ref sig .tc := ⟨.hbm, 1199, rfl⟩
abbrev main_v1048 : Ref sig .tc := ⟨.hbm, 1200, rfl⟩
abbrev main_v1049 : Ref sig .tc := ⟨.hbm, 1201, rfl⟩
abbrev main_v1050 : Ref sig .tc := ⟨.hbm, 1202, rfl⟩
abbrev main_v1051 : Ref sig .tc := ⟨.hbm, 1203, rfl⟩
abbrev main_cst_85 : Ref sig .tc := ⟨.hbm, 1204, rfl⟩
abbrev main_v1052 : Ref sig .tc := ⟨.hbm, 1205, rfl⟩
abbrev main_v1053 : Ref sig .tc := ⟨.hbm, 1206, rfl⟩
abbrev main_v1054 : Ref sig .tc := ⟨.hbm, 1207, rfl⟩
abbrev main_v1055 : Ref sig .tc := ⟨.hbm, 1208, rfl⟩
abbrev main_v1056 : Ref sig .tc := ⟨.hbm, 1209, rfl⟩
abbrev main_v1057 : Ref sig .tc := ⟨.hbm, 1210, rfl⟩
abbrev main_cst_86 : Ref sig .tc := ⟨.hbm, 1211, rfl⟩
abbrev main_v1058 : Ref sig .tc := ⟨.hbm, 1212, rfl⟩
abbrev main_v1059 : Ref sig .tc := ⟨.hbm, 1213, rfl⟩
abbrev main_v1060 : Ref sig .tc := ⟨.hbm, 1214, rfl⟩
abbrev main_cst_87 : Ref sig .tc := ⟨.hbm, 1215, rfl⟩
abbrev main_v1061 : Ref sig .tc := ⟨.hbm, 1216, rfl⟩
abbrev main_v1062 : Ref sig .tc := ⟨.hbm, 1217, rfl⟩
abbrev main_v1063 : Ref sig .tc := ⟨.hbm, 1218, rfl⟩
abbrev main_c_88 : Ref sig .tc := ⟨.hbm, 1219, rfl⟩
abbrev main_v1064 : Ref sig .tc := ⟨.hbm, 1220, rfl⟩
abbrev main_v1065 : Ref sig .tc := ⟨.hbm, 1221, rfl⟩
abbrev main_v1066 : Ref sig .tc := ⟨.hbm, 1222, rfl⟩
abbrev main_v1067 : Ref sig .tc := ⟨.hbm, 1223, rfl⟩
abbrev main_v1068 : Ref sig .tc := ⟨.hbm, 1224, rfl⟩
abbrev main_v1069 : Ref sig .tc := ⟨.hbm, 1225, rfl⟩
abbrev main_v1070 : Ref sig .tc := ⟨.hbm, 1226, rfl⟩
abbrev main_v1071 : Ref sig .tc := ⟨.hbm, 1227, rfl⟩
abbrev main_v1072 : Ref sig .tc := ⟨.hbm, 1228, rfl⟩
abbrev main_v1073 : Ref sig .tc := ⟨.hbm, 1229, rfl⟩
abbrev main_v1074 : Ref sig .tc := ⟨.hbm, 1230, rfl⟩
abbrev main_v1075 : Ref sig .tc := ⟨.hbm, 1231, rfl⟩
abbrev main_v1076 : Ref sig .tc := ⟨.hbm, 1232, rfl⟩
abbrev main_cst_89 : Ref sig .tc := ⟨.hbm, 1233, rfl⟩
abbrev main_call24_v0 : Ref sig .tc := ⟨.hbm, 1234, rfl⟩
abbrev main_call24_v1 : Ref sig .tc := ⟨.hbm, 1235, rfl⟩
abbrev main_v1077 : Ref sig .tc := ⟨.hbm, 1236, rfl⟩
abbrev main_v1078 : Ref sig .tc := ⟨.hbm, 1237, rfl⟩
abbrev main_v1079 : Ref sig .tc := ⟨.hbm, 1238, rfl⟩
abbrev main_c_90 : Ref sig .tc := ⟨.hbm, 1239, rfl⟩
abbrev main_v1080 : Ref sig .tc := ⟨.hbm, 1240, rfl⟩
abbrev main_v1081 : Ref sig .tc := ⟨.hbm, 1241, rfl⟩
abbrev main_v1082 : Ref sig .tc := ⟨.hbm, 1242, rfl⟩
abbrev main_v1083 : Ref sig .tc := ⟨.hbm, 1243, rfl⟩
abbrev main_v1084 : Ref sig .tc := ⟨.hbm, 1244, rfl⟩
abbrev main_v1085 : Ref sig .tc := ⟨.hbm, 1245, rfl⟩
abbrev main_v1086 : Ref sig .tc := ⟨.hbm, 1246, rfl⟩
abbrev main_v1087 : Ref sig .tc := ⟨.hbm, 1247, rfl⟩
abbrev main_v1088 : Ref sig .tc := ⟨.hbm, 1248, rfl⟩
abbrev main_v1089 : Ref sig .tc := ⟨.hbm, 1249, rfl⟩
abbrev main_v1090 : Ref sig .tc := ⟨.hbm, 1250, rfl⟩
abbrev main_v1091 : Ref sig .tc := ⟨.hbm, 1251, rfl⟩
abbrev main_v1092 : Ref sig .tc := ⟨.hbm, 1252, rfl⟩
abbrev main_cst_91 : Ref sig .tc := ⟨.hbm, 1253, rfl⟩
abbrev main_call25_v0 : Ref sig .tc := ⟨.hbm, 1254, rfl⟩
abbrev main_call25_v1 : Ref sig .tc := ⟨.hbm, 1255, rfl⟩
abbrev main_v1093 : Ref sig .tc := ⟨.hbm, 1256, rfl⟩
abbrev main_v1094 : Ref sig .tc := ⟨.hbm, 1257, rfl⟩
abbrev main_cst_92 : Ref sig .tc := ⟨.hbm, 1258, rfl⟩
abbrev main_v1095 : Ref sig .tc := ⟨.hbm, 1259, rfl⟩
abbrev main_v1096 : Ref sig .tc := ⟨.hbm, 1260, rfl⟩
abbrev main_v1097 : Ref sig .tc := ⟨.hbm, 1261, rfl⟩
abbrev main_v1098 : Ref sig .tc := ⟨.hbm, 1262, rfl⟩
abbrev main_v1099 : Ref sig .tc := ⟨.hbm, 1263, rfl⟩
abbrev main_v1100 : Ref sig .tc := ⟨.hbm, 1264, rfl⟩
abbrev main_v1101 : Ref sig .tc := ⟨.hbm, 1265, rfl⟩
abbrev main_v1102 : Ref sig .tc := ⟨.hbm, 1266, rfl⟩
abbrev main_v1103 : Ref sig .tc := ⟨.hbm, 1267, rfl⟩
abbrev main_v1104 : Ref sig .tc := ⟨.hbm, 1268, rfl⟩
abbrev main_v1105 : Ref sig .tc := ⟨.hbm, 1269, rfl⟩
abbrev main_v1106 : Ref sig .tc := ⟨.hbm, 1270, rfl⟩
abbrev main_v1107 : Ref sig .tc := ⟨.hbm, 1271, rfl⟩
abbrev main_v1108 : Ref sig .tc := ⟨.hbm, 1272, rfl⟩
abbrev main_v1109 : Ref sig .tc := ⟨.hbm, 1273, rfl⟩
abbrev main_v1110 : Ref sig .tc := ⟨.hbm, 1274, rfl⟩
abbrev main_v1111 : Ref sig .tc := ⟨.hbm, 1275, rfl⟩
abbrev main_v1112 : Ref sig .tc := ⟨.hbm, 1276, rfl⟩
abbrev main_v1113 : Ref sig .tc := ⟨.hbm, 1277, rfl⟩
abbrev main_v1114 : Ref sig .tc := ⟨.hbm, 1278, rfl⟩
abbrev main_v1115 : Ref sig .tc := ⟨.hbm, 1279, rfl⟩
abbrev main_v1116 : Ref sig .tc := ⟨.hbm, 1280, rfl⟩
abbrev main_v1117 : Ref sig .tc := ⟨.hbm, 1281, rfl⟩
abbrev main_v1118 : Ref sig .tc := ⟨.hbm, 1282, rfl⟩
abbrev main_v1119 : Ref sig .tc := ⟨.hbm, 1283, rfl⟩
abbrev main_v1120 : Ref sig .tc := ⟨.hbm, 1284, rfl⟩
abbrev main_v1121 : Ref sig .tc := ⟨.hbm, 1285, rfl⟩
abbrev main_v1122 : Ref sig .tc := ⟨.hbm, 1286, rfl⟩
abbrev main_v1123 : Ref sig .tc := ⟨.hbm, 1287, rfl⟩
abbrev main_v1124 : Ref sig .tc := ⟨.hbm, 1288, rfl⟩
abbrev main_v1125 : Ref sig .tc := ⟨.hbm, 1289, rfl⟩
abbrev main_v1126 : Ref sig .tc := ⟨.hbm, 1290, rfl⟩
abbrev main_v1127 : Ref sig .tc := ⟨.hbm, 1291, rfl⟩
abbrev main_v1128 : Ref sig .tc := ⟨.hbm, 1292, rfl⟩
abbrev main_v1129 : Ref sig .tc := ⟨.hbm, 1293, rfl⟩
abbrev main_v1130 : Ref sig .tc := ⟨.hbm, 1294, rfl⟩
abbrev main_v1131 : Ref sig .tc := ⟨.hbm, 1295, rfl⟩
abbrev main_v1132 : Ref sig .tc := ⟨.hbm, 1296, rfl⟩
abbrev main_v1133 : Ref sig .tc := ⟨.hbm, 1297, rfl⟩
abbrev main_v1134 : Ref sig .tc := ⟨.hbm, 1298, rfl⟩
abbrev main_v1135 : Ref sig .tc := ⟨.hbm, 1299, rfl⟩
abbrev main_v1136 : Ref sig .tc := ⟨.hbm, 1300, rfl⟩
abbrev main_v1137 : Ref sig .tc := ⟨.hbm, 1301, rfl⟩
abbrev main_v1138 : Ref sig .tc := ⟨.hbm, 1302, rfl⟩
abbrev main_v1139 : Ref sig .tc := ⟨.hbm, 1303, rfl⟩
abbrev main_v1140 : Ref sig .tc := ⟨.hbm, 1304, rfl⟩
abbrev main_cst_93 : Ref sig .tc := ⟨.hbm, 1305, rfl⟩
abbrev main_v1141 : Ref sig .tc := ⟨.hbm, 1306, rfl⟩
abbrev main_v1142 : Ref sig .tc := ⟨.hbm, 1307, rfl⟩
abbrev main_v1143 : Ref sig .tc := ⟨.hbm, 1308, rfl⟩
abbrev main_v1144 : Ref sig .tc := ⟨.hbm, 1309, rfl⟩
abbrev main_v1145 : Ref sig .tc := ⟨.hbm, 1310, rfl⟩
abbrev main_v1146 : Ref sig .tc := ⟨.hbm, 1311, rfl⟩
abbrev main_cst_94 : Ref sig .tc := ⟨.hbm, 1312, rfl⟩
abbrev main_v1147 : Ref sig .tc := ⟨.hbm, 1313, rfl⟩
abbrev main_v1148 : Ref sig .tc := ⟨.hbm, 1314, rfl⟩
abbrev main_v1149 : Ref sig .tc := ⟨.hbm, 1315, rfl⟩
abbrev main_v1150 : Ref sig .tc := ⟨.hbm, 1316, rfl⟩
abbrev main_v1151 : Ref sig .tc := ⟨.hbm, 1317, rfl⟩
abbrev main_c_95 : Ref sig .tc := ⟨.hbm, 1318, rfl⟩
abbrev main_v1152 : Ref sig .tc := ⟨.hbm, 1319, rfl⟩
abbrev main_v1153 : Ref sig .tc := ⟨.hbm, 1320, rfl⟩
abbrev main_v1154 : Ref sig .tc := ⟨.hbm, 1321, rfl⟩
abbrev main_v1155 : Ref sig .tc := ⟨.hbm, 1322, rfl⟩
abbrev main_v1156 : Ref sig .tc := ⟨.hbm, 1323, rfl⟩
abbrev main_v1157 : Ref sig .tc := ⟨.hbm, 1324, rfl⟩
abbrev main_v1158 : Ref sig .tc := ⟨.hbm, 1325, rfl⟩
abbrev main_v1159 : Ref sig .tc := ⟨.hbm, 1326, rfl⟩
abbrev main_v1160 : Ref sig .tc := ⟨.hbm, 1327, rfl⟩
abbrev main_v1161 : Ref sig .tc := ⟨.hbm, 1328, rfl⟩
abbrev main_v1162 : Ref sig .tc := ⟨.hbm, 1329, rfl⟩
abbrev main_v1163 : Ref sig .tc := ⟨.hbm, 1330, rfl⟩
abbrev main_v1164 : Ref sig .tc := ⟨.hbm, 1331, rfl⟩
abbrev main_cst_96 : Ref sig .tc := ⟨.hbm, 1332, rfl⟩
abbrev main_call26_v0 : Ref sig .tc := ⟨.hbm, 1333, rfl⟩
abbrev main_call26_v1 : Ref sig .tc := ⟨.hbm, 1334, rfl⟩
abbrev main_v1165 : Ref sig .tc := ⟨.hbm, 1335, rfl⟩
abbrev main_v1166 : Ref sig .tc := ⟨.hbm, 1336, rfl⟩
abbrev main_v1167 : Ref sig .tc := ⟨.hbm, 1337, rfl⟩
abbrev main_c_97 : Ref sig .tc := ⟨.hbm, 1338, rfl⟩
abbrev main_v1168 : Ref sig .tc := ⟨.hbm, 1339, rfl⟩
abbrev main_v1169 : Ref sig .tc := ⟨.hbm, 1340, rfl⟩
abbrev main_v1170 : Ref sig .tc := ⟨.hbm, 1341, rfl⟩
abbrev main_v1171 : Ref sig .tc := ⟨.hbm, 1342, rfl⟩
abbrev main_v1172 : Ref sig .tc := ⟨.hbm, 1343, rfl⟩
abbrev main_v1173 : Ref sig .tc := ⟨.hbm, 1344, rfl⟩
abbrev main_v1174 : Ref sig .tc := ⟨.hbm, 1345, rfl⟩
abbrev main_v1175 : Ref sig .tc := ⟨.hbm, 1346, rfl⟩
abbrev main_v1176 : Ref sig .tc := ⟨.hbm, 1347, rfl⟩
abbrev main_v1177 : Ref sig .tc := ⟨.hbm, 1348, rfl⟩
abbrev main_v1178 : Ref sig .tc := ⟨.hbm, 1349, rfl⟩
abbrev main_v1179 : Ref sig .tc := ⟨.hbm, 1350, rfl⟩
abbrev main_v1180 : Ref sig .tc := ⟨.hbm, 1351, rfl⟩
abbrev main_cst_98 : Ref sig .tc := ⟨.hbm, 1352, rfl⟩
abbrev main_call27_v0 : Ref sig .tc := ⟨.hbm, 1353, rfl⟩
abbrev main_call27_v1 : Ref sig .tc := ⟨.hbm, 1354, rfl⟩
abbrev main_v1181 : Ref sig .tc := ⟨.hbm, 1355, rfl⟩
abbrev main_v1182 : Ref sig .tc := ⟨.hbm, 1356, rfl⟩
abbrev main_cst_99 : Ref sig .tc := ⟨.hbm, 1357, rfl⟩
abbrev main_v1183 : Ref sig .tc := ⟨.hbm, 1358, rfl⟩
abbrev main_v1184 : Ref sig .tc := ⟨.hbm, 1359, rfl⟩
abbrev main_v1185 : Ref sig .tc := ⟨.hbm, 1360, rfl⟩
abbrev main_v1186 : Ref sig .tc := ⟨.hbm, 1361, rfl⟩
abbrev main_v1187 : Ref sig .tc := ⟨.hbm, 1362, rfl⟩
abbrev main_v1188 : Ref sig .tc := ⟨.hbm, 1363, rfl⟩
abbrev main_v1189 : Ref sig .tc := ⟨.hbm, 1364, rfl⟩
abbrev main_v1190 : Ref sig .tc := ⟨.hbm, 1365, rfl⟩
abbrev main_v1191 : Ref sig .tc := ⟨.hbm, 1366, rfl⟩
abbrev main_v1192 : Ref sig .tc := ⟨.hbm, 1367, rfl⟩
abbrev main_v1193 : Ref sig .tc := ⟨.hbm, 1368, rfl⟩
abbrev main_v1194 : Ref sig .tc := ⟨.hbm, 1369, rfl⟩
abbrev main_v1195 : Ref sig .tc := ⟨.hbm, 1370, rfl⟩
abbrev main_v1196 : Ref sig .tc := ⟨.hbm, 1371, rfl⟩
abbrev main_v1197 : Ref sig .tc := ⟨.hbm, 1372, rfl⟩
abbrev main_v1198 : Ref sig .tc := ⟨.hbm, 1373, rfl⟩
abbrev main_v1199 : Ref sig .tc := ⟨.hbm, 1374, rfl⟩
abbrev main_v1200 : Ref sig .tc := ⟨.hbm, 1375, rfl⟩
abbrev main_v1201 : Ref sig .tc := ⟨.hbm, 1376, rfl⟩
abbrev main_v1202 : Ref sig .tc := ⟨.hbm, 1377, rfl⟩
abbrev main_v1203 : Ref sig .tc := ⟨.hbm, 1378, rfl⟩
abbrev main_v1204 : Ref sig .tc := ⟨.hbm, 1379, rfl⟩
abbrev main_v1205 : Ref sig .tc := ⟨.hbm, 1380, rfl⟩
abbrev main_v1206 : Ref sig .tc := ⟨.hbm, 1381, rfl⟩
abbrev main_v1207 : Ref sig .tc := ⟨.hbm, 1382, rfl⟩
abbrev main_v1208 : Ref sig .tc := ⟨.hbm, 1383, rfl⟩
abbrev main_v1209 : Ref sig .tc := ⟨.hbm, 1384, rfl⟩
abbrev main_v1210 : Ref sig .tc := ⟨.hbm, 1385, rfl⟩
abbrev main_v1211 : Ref sig .tc := ⟨.hbm, 1386, rfl⟩
abbrev main_v1212 : Ref sig .tc := ⟨.hbm, 1387, rfl⟩
abbrev main_v1213 : Ref sig .tc := ⟨.hbm, 1388, rfl⟩
abbrev main_v1214 : Ref sig .tc := ⟨.hbm, 1389, rfl⟩
abbrev main_v1215 : Ref sig .tc := ⟨.hbm, 1390, rfl⟩
abbrev main_v1216 : Ref sig .tc := ⟨.hbm, 1391, rfl⟩
abbrev main_v1217 : Ref sig .tc := ⟨.hbm, 1392, rfl⟩
abbrev main_v1218 : Ref sig .tc := ⟨.hbm, 1393, rfl⟩
abbrev main_v1219 : Ref sig .tc := ⟨.hbm, 1394, rfl⟩
abbrev main_v1220 : Ref sig .tc := ⟨.hbm, 1395, rfl⟩
abbrev main_v1221 : Ref sig .tc := ⟨.hbm, 1396, rfl⟩
abbrev main_v1222 : Ref sig .tc := ⟨.hbm, 1397, rfl⟩
abbrev main_v1223 : Ref sig .tc := ⟨.hbm, 1398, rfl⟩
abbrev main_v1224 : Ref sig .tc := ⟨.hbm, 1399, rfl⟩
abbrev main_v1225 : Ref sig .tc := ⟨.hbm, 1400, rfl⟩
abbrev main_v1226 : Ref sig .tc := ⟨.hbm, 1401, rfl⟩
abbrev main_v1227 : Ref sig .tc := ⟨.hbm, 1402, rfl⟩
abbrev main_v1228 : Ref sig .tc := ⟨.hbm, 1403, rfl⟩
abbrev main_cst_100 : Ref sig .tc := ⟨.hbm, 1404, rfl⟩
abbrev main_v1229 : Ref sig .tc := ⟨.hbm, 1405, rfl⟩
abbrev main_v1230 : Ref sig .tc := ⟨.hbm, 1406, rfl⟩
abbrev main_v1231 : Ref sig .tc := ⟨.hbm, 1407, rfl⟩
abbrev main_v1232 : Ref sig .tc := ⟨.hbm, 1408, rfl⟩
abbrev main_v1233 : Ref sig .tc := ⟨.hbm, 1409, rfl⟩
abbrev main_v1234 : Ref sig .tc := ⟨.hbm, 1410, rfl⟩
abbrev main_cst_101 : Ref sig .tc := ⟨.hbm, 1411, rfl⟩
abbrev main_v1235 : Ref sig .tc := ⟨.hbm, 1412, rfl⟩
abbrev main_v1236 : Ref sig .tc := ⟨.hbm, 1413, rfl⟩
abbrev main_v1237 : Ref sig .tc := ⟨.hbm, 1414, rfl⟩
abbrev main_v1238 : Ref sig .tc := ⟨.hbm, 1415, rfl⟩
abbrev main_v1239 : Ref sig .tc := ⟨.hbm, 1416, rfl⟩
abbrev main_c_102 : Ref sig .tc := ⟨.hbm, 1417, rfl⟩
abbrev main_v1240 : Ref sig .tc := ⟨.hbm, 1418, rfl⟩
abbrev main_v1241 : Ref sig .tc := ⟨.hbm, 1419, rfl⟩
abbrev main_v1242 : Ref sig .tc := ⟨.hbm, 1420, rfl⟩
abbrev main_v1243 : Ref sig .tc := ⟨.hbm, 1421, rfl⟩
abbrev main_v1244 : Ref sig .tc := ⟨.hbm, 1422, rfl⟩
abbrev main_v1245 : Ref sig .tc := ⟨.hbm, 1423, rfl⟩
abbrev main_v1246 : Ref sig .tc := ⟨.hbm, 1424, rfl⟩
abbrev main_v1247 : Ref sig .tc := ⟨.hbm, 1425, rfl⟩
abbrev main_v1248 : Ref sig .tc := ⟨.hbm, 1426, rfl⟩
abbrev main_v1249 : Ref sig .tc := ⟨.hbm, 1427, rfl⟩
abbrev main_v1250 : Ref sig .tc := ⟨.hbm, 1428, rfl⟩
abbrev main_v1251 : Ref sig .tc := ⟨.hbm, 1429, rfl⟩
abbrev main_v1252 : Ref sig .tc := ⟨.hbm, 1430, rfl⟩
abbrev main_cst_103 : Ref sig .tc := ⟨.hbm, 1431, rfl⟩
abbrev main_call28_v0 : Ref sig .tc := ⟨.hbm, 1432, rfl⟩
abbrev main_call28_v1 : Ref sig .tc := ⟨.hbm, 1433, rfl⟩
abbrev main_v1253 : Ref sig .tc := ⟨.hbm, 1434, rfl⟩
abbrev main_v1254 : Ref sig .tc := ⟨.hbm, 1435, rfl⟩
abbrev main_v1255 : Ref sig .tc := ⟨.hbm, 1436, rfl⟩
abbrev main_c_104 : Ref sig .tc := ⟨.hbm, 1437, rfl⟩
abbrev main_v1256 : Ref sig .tc := ⟨.hbm, 1438, rfl⟩
abbrev main_v1257 : Ref sig .tc := ⟨.hbm, 1439, rfl⟩
abbrev main_v1258 : Ref sig .tc := ⟨.hbm, 1440, rfl⟩
abbrev main_v1259 : Ref sig .tc := ⟨.hbm, 1441, rfl⟩
abbrev main_v1260 : Ref sig .tc := ⟨.hbm, 1442, rfl⟩
abbrev main_v1261 : Ref sig .tc := ⟨.hbm, 1443, rfl⟩
abbrev main_v1262 : Ref sig .tc := ⟨.hbm, 1444, rfl⟩
abbrev main_v1263 : Ref sig .tc := ⟨.hbm, 1445, rfl⟩
abbrev main_v1264 : Ref sig .tc := ⟨.hbm, 1446, rfl⟩
abbrev main_v1265 : Ref sig .tc := ⟨.hbm, 1447, rfl⟩
abbrev main_v1266 : Ref sig .tc := ⟨.hbm, 1448, rfl⟩
abbrev main_v1267 : Ref sig .tc := ⟨.hbm, 1449, rfl⟩
abbrev main_v1268 : Ref sig .tc := ⟨.hbm, 1450, rfl⟩
abbrev main_cst_105 : Ref sig .tc := ⟨.hbm, 1451, rfl⟩
abbrev main_call29_v0 : Ref sig .tc := ⟨.hbm, 1452, rfl⟩
abbrev main_call29_v1 : Ref sig .tc := ⟨.hbm, 1453, rfl⟩
abbrev main_v1269 : Ref sig .tc := ⟨.hbm, 1454, rfl⟩
abbrev main_v1270 : Ref sig .tc := ⟨.hbm, 1455, rfl⟩
abbrev main_cst_106 : Ref sig .tc := ⟨.hbm, 1456, rfl⟩
abbrev main_v1271 : Ref sig .tc := ⟨.hbm, 1457, rfl⟩
abbrev main_v1272 : Ref sig .tc := ⟨.hbm, 1458, rfl⟩
abbrev main_v1273 : Ref sig .tc := ⟨.hbm, 1459, rfl⟩
abbrev main_v1274 : Ref sig .tc := ⟨.hbm, 1460, rfl⟩
abbrev main_v1275 : Ref sig .tc := ⟨.hbm, 1461, rfl⟩
abbrev main_v1276 : Ref sig .tc := ⟨.hbm, 1462, rfl⟩
abbrev main_v1277 : Ref sig .tc := ⟨.hbm, 1463, rfl⟩
abbrev main_v1278 : Ref sig .tc := ⟨.hbm, 1464, rfl⟩
abbrev main_v1279 : Ref sig .tc := ⟨.hbm, 1465, rfl⟩
abbrev main_v1280 : Ref sig .tc := ⟨.hbm, 1466, rfl⟩
abbrev main_v1281 : Ref sig .tc := ⟨.hbm, 1467, rfl⟩
abbrev main_v1282 : Ref sig .tc := ⟨.hbm, 1468, rfl⟩
abbrev main_v1283 : Ref sig .tc := ⟨.hbm, 1469, rfl⟩
abbrev main_v1284 : Ref sig .tc := ⟨.hbm, 1470, rfl⟩
abbrev main_v1285 : Ref sig .tc := ⟨.hbm, 1471, rfl⟩
abbrev main_v1286 : Ref sig .tc := ⟨.hbm, 1472, rfl⟩
abbrev main_v1287 : Ref sig .tc := ⟨.hbm, 1473, rfl⟩
abbrev main_v1288 : Ref sig .tc := ⟨.hbm, 1474, rfl⟩
abbrev main_v1289 : Ref sig .tc := ⟨.hbm, 1475, rfl⟩
abbrev main_v1290 : Ref sig .tc := ⟨.hbm, 1476, rfl⟩
abbrev main_v1291 : Ref sig .tc := ⟨.hbm, 1477, rfl⟩
abbrev main_v1292 : Ref sig .tc := ⟨.hbm, 1478, rfl⟩
abbrev main_v1293 : Ref sig .tc := ⟨.hbm, 1479, rfl⟩
abbrev main_v1294 : Ref sig .tc := ⟨.hbm, 1480, rfl⟩
abbrev main_v1295 : Ref sig .tc := ⟨.hbm, 1481, rfl⟩
abbrev main_v1296 : Ref sig .tc := ⟨.hbm, 1482, rfl⟩
abbrev main_v1297 : Ref sig .tc := ⟨.hbm, 1483, rfl⟩
abbrev main_v1298 : Ref sig .tc := ⟨.hbm, 1484, rfl⟩
abbrev main_v1299 : Ref sig .tc := ⟨.hbm, 1485, rfl⟩
abbrev main_v1300 : Ref sig .tc := ⟨.hbm, 1486, rfl⟩
abbrev main_v1301 : Ref sig .tc := ⟨.hbm, 1487, rfl⟩
abbrev main_v1302 : Ref sig .tc := ⟨.hbm, 1488, rfl⟩
abbrev main_v1303 : Ref sig .tc := ⟨.hbm, 1489, rfl⟩
abbrev main_v1304 : Ref sig .tc := ⟨.hbm, 1490, rfl⟩
abbrev main_v1305 : Ref sig .tc := ⟨.hbm, 1491, rfl⟩
abbrev main_v1306 : Ref sig .tc := ⟨.hbm, 1492, rfl⟩
abbrev main_v1307 : Ref sig .tc := ⟨.hbm, 1493, rfl⟩
abbrev main_v1308 : Ref sig .tc := ⟨.hbm, 1494, rfl⟩
abbrev main_v1309 : Ref sig .tc := ⟨.hbm, 1495, rfl⟩
abbrev main_v1310 : Ref sig .tc := ⟨.hbm, 1496, rfl⟩
abbrev main_v1311 : Ref sig .tc := ⟨.hbm, 1497, rfl⟩
abbrev main_v1312 : Ref sig .tc := ⟨.hbm, 1498, rfl⟩
abbrev main_v1313 : Ref sig .tc := ⟨.hbm, 1499, rfl⟩
abbrev main_v1314 : Ref sig .tc := ⟨.hbm, 1500, rfl⟩
abbrev main_v1315 : Ref sig .tc := ⟨.hbm, 1501, rfl⟩
abbrev main_v1316 : Ref sig .tc := ⟨.hbm, 1502, rfl⟩
abbrev main_cst_107 : Ref sig .tc := ⟨.hbm, 1503, rfl⟩
abbrev main_v1317 : Ref sig .tc := ⟨.hbm, 1504, rfl⟩
abbrev main_v1318 : Ref sig .tc := ⟨.hbm, 1505, rfl⟩
abbrev main_v1319 : Ref sig .tc := ⟨.hbm, 1506, rfl⟩
abbrev main_v1320 : Ref sig .tc := ⟨.hbm, 1507, rfl⟩
abbrev main_v1321 : Ref sig .tc := ⟨.hbm, 1508, rfl⟩
abbrev main_v1322 : Ref sig .tc := ⟨.hbm, 1509, rfl⟩
abbrev main_cst_108 : Ref sig .tc := ⟨.hbm, 1510, rfl⟩
abbrev main_v1323 : Ref sig .tc := ⟨.hbm, 1511, rfl⟩
abbrev main_v1324 : Ref sig .tc := ⟨.hbm, 1512, rfl⟩
abbrev main_v1325 : Ref sig .tc := ⟨.hbm, 1513, rfl⟩

abbrev nD : Nat := 1
abbrev τ : Topo := Topo.v7x

variable {F : FTy → Type} [FloatOps F]
-- ==== Proof.Step.lean ====
/- What one grid point of the kernel computes, as functions of the arrays it reads: the weights of one tile, the
   column sums they add, one layer of the network, one iteration of the fixed point. -/
module

public import proofs.«01_k».proof.Proof.Gen.KernelIdeal.Frame
public import proofs.«01_k».proof.Proof.Gen.KernelIdeal.Skeleton
public import Idealize.ShloMosaic.Lib.Pipeline.Frame
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe
open Idealize.ShloMosaic.VecWindow

variable {F : FTy → Type} [FloatOps F]

/-- The contents of the fourteen input blocks at one grid point, in the kernel's order of operands. -/
structure Blk (F : FTy → Type) where
  k1 : Vec F S1x256x1024 .f32
  k1n : Vec F S1x256x1024 .f32
  k2 : Vec F S1x256x1024 .f32
  k3 : Vec F S1x256x1024 .f32
  k3n : Vec F S1x256x1024 .f32
  k4 : Vec F S1x256x1024 .f32
  ta : Vec F S1x256x1024 .f32
  ti : Vec F S1x256x1024 .f32
  ci : Vec F S1x256x1024 .f32
  mask : Vec F S1x256x1024 .i32
  x0 : Vec F S16x1024 .f32
  gain : Vec F S3x1x1024 .f32
  kb : Vec F S3x1x1024 .f32
  kd : Vec F S3x1x1024 .f32

/-- The contents of the four scratch buffers: the weights, the column sums, the layer input, the running total. -/
structure St (F : FTy → Type) where
  w : Vec F S3x2048x1024 .f32
  v : Vec F S3x1x1024 .f32
  x : Vec F S16x1024 .f32
  n : Vec F S16x1 .f32

/-- A whole matrix tile, as the body loads it. -/
abbrev tile {e : EltTy} (X : Vec F S1x256x1024 e) : Vec F S1x256x1024 e :=
  View.ld X (Rect.unit ![0, 0, 0] S1x256x1024.size inb_S1x256x1024_S1x256x1024_0_0_0)
/-- The whole batch of inputs, as the body loads it. -/
abbrev batch (X : Vec F S16x1024 .f32) : Vec F S16x1024 .f32 :=
  View.ld X (Rect.unit ![0, 0] S16x1024.size inb_S16x1024_S16x1024_0_0)
/-- The whole column of totals, as the body loads it. -/
abbrev column (X : Vec F S16x1 .f32) : Vec F S16x1 .f32 :=
  View.ld X (Rect.unit ![0, 0] S16x1.size inb_S16x1_S16x1_0_0)
/-- Row `l` of a three-row array. -/
abbrev row0 (X : Vec F S3x1x1024 .f32) : Vec F S1x1x1024 .f32 :=
  View.ld X (Rect.unit ![0, 0, 0] S1x1x1024.size inb_S3x1x1024_S1x1x1024_0_0_0)
abbrev row1 (X : Vec F S3x1x1024 .f32) : Vec F S1x1x1024 .f32 :=
  View.ld X (Rect.unit ![1, 0, 0] S1x1x1024.size inb_S3x1x1024_S1x1x1024_1_0_0)
abbrev row2 (X : Vec F S3x1x1024 .f32) : Vec F S1x1x1024 .f32 :=
  View.ld X (Rect.unit ![2, 0, 0] S1x1x1024.size inb_S3x1x1024_S1x1x1024_2_0_0)
/-- The weights of layer 0, and of layer 1. -/
abbrev slab0 (X : Vec F S3x2048x1024 .f32) : Vec F S1x2048x1024 .f32 :=
  View.ld X (Rect.unit ![0, 0, 0] S1x2048x1024.size inb_S3x2048x1024_S1x2048x1024_0_0_0)
abbrev slab1 (X : Vec F S3x2048x1024 .f32) : Vec F S1x2048x1024 .f32 :=
  View.ld X (Rect.unit ![1, 0, 0] S1x2048x1024.size inb_S3x2048x1024_S1x2048x1024_1_0_0)

/-- The activating rates of one tile. -/
abbrev ka (b : Blk F) : FVec F S256x1024 .f32 := k0_pay41 (tile b.mask) (tile b.k1) (tile b.k1n) (tile b.k2) (tile b.ta)
/-- Where the mask of one tile is negative. -/
abbrev neg (b : Blk F) : IVec S256x1024 1 := k0_pay42 (tile b.mask)
/-- The quotient of the inhibiting rates of one tile. -/
abbrev kq (b : Blk F) : FVec F S256x1024 .f32 := k0_pay43 (tile b.k3) (tile b.k3n) (tile b.k4)
/-- The two tiles of weights a point stores. -/
abbrev wAct (b : Blk F) : FVec F S1x256x1024 .f32 := k0_pay45 (ka b) (tile b.k2)
abbrev wInh (b : Blk F) : FVec F S1x256x1024 .f32 := k0_pay46 (neg b) (kq b) (tile b.ti) (tile b.ci)
/-- The column sums of one tile, alone, and added to a row. -/
abbrev vNew (b : Blk F) : FVec F S1x1x1024 .f32 := k0_pay48 (ka b) (neg b) (kq b) (tile b.ti)
abbrev vAdd (b : Blk F) (r : Vec F S1x1x1024 .f32) : FVec F S1x1x1024 .f32 := k0_pay49 (ka b) (neg b) (kq b) (tile b.ti) r

/-- The weights after point `i`. -/
def wStep (i : grid0.Coords) (b : Blk F) (w : Vec F S3x2048x1024 .f32) : Vec F S3x2048x1024 .f32 :=
  put (put w ![(i 0).val, 256 * (i 1).val, 0] S1x256x1024.size (wAct b)) ![(i 0).val, 256 * (i 1).val + 1024, 0] S1x256x1024.size (wInh b)
/-- The column sums after the first point of a layer. -/
def vFirst (i : grid0.Coords) (b : Blk F) (v : Vec F S3x1x1024 .f32) : Vec F S3x1x1024 .f32 :=
  put v ![(i 0).val, 0, 0] S1x1x1024.size (vNew b)
/-- The column sums after a later point of a layer. -/
def vLater (i : grid0.Coords) (hc : k0_cond2 i = 1#1) (b : Blk F) (v : Vec F S3x1x1024 .f32) : Vec F S3x1x1024 .f32 :=
  put v ![(i 0).val, 0, 0] S1x1x1024.size (vAdd b (View.ld v (Rect.unit (k0_off4 i) S1x1x1024.size (k0_off4_inb i hc))))

/-- A row laid under every row of the batch. -/
abbrev rows (r : Vec F S1x1x1024 .f32) : FVec F S16x1024 .f32 :=
  broadcastTo S16x1024 (shapeCast S1x1024 r shapeCasts_S1x1x1024_S1x1024) broadcasts_S1x1024_S16x1024
/-- A column laid beside every column of the batch. -/
abbrev cols (p : FVec F S16x1 .f32) : FVec F S16x1024 .f32 := broadcastTo S16x1024 p broadcasts_S16x1_S16x1024
/-- The batch against both halves of one layer's weights. -/
abbrev prod (X : FVec F S16x1024 .f32) (W : Vec F S1x2048x1024 .f32) : FVec F S16x2048 .f32 :=
  matmul dot_S16x1024_S2048x1024_S16x2048_1_1_0_0_n_n none X (shapeCast S2048x1024 W shapeCasts_S1x2048x1024_S2048x1024)
    (constant S16x2048 .f32 0x00000000#32)
abbrev actHalf (Y : FVec F S16x2048 .f32) : FVec F S16x1024 .f32 :=
  extractStridedSlice S16x1024 ![0, 0] Y slices_S16x2048_o0_0_S16x1024
abbrev inhHalf (Y : FVec F S16x2048 .f32) : FVec F S16x1024 .f32 :=
  extractStridedSlice S16x1024 ![0, 1024] Y slices_S16x2048_o0_1024_S16x1024
/-- What one layer adds to the total: the batch against the column sums. -/
def total (X : FVec F S16x1024 .f32) (r : Vec F S1x1x1024 .f32) : FVec F S16x1 .f32 :=
  shapeCast S16x1 (multiReduction .add [1] S16 (mulf X (rows r)) 0x00000000#32 reduces_S16x1024_S16 (.inl rfl) rfl) shapeCasts_S16_S16x1
/-- The next layer's input, at the competition `p`. -/
def next (X : FVec F S16x1024 .f32) (p : FVec F S16x1 .f32) (W : Vec F S1x2048x1024 .f32) (g d k : Vec F S1x1x1024 .f32) :
    FVec F S16x1024 .f32 :=
  divf (mulf (actHalf (prod X W)) (mulf (rows g) (cols p))) (addf (mulf (rows d) (cols (mulf p p))) (mulf (rows k) (inhHalf (prod X W))))
/-- The next layer's input, at the competition one. -/
def next1 (X : FVec F S16x1024 .f32) (W : Vec F S1x2048x1024 .f32) (g d k : Vec F S1x1x1024 .f32) : FVec F S16x1024 .f32 :=
  k0_pay4 (Scalar.ofBits .f32 0x3F800000#32) X W g d k
/-- One iteration of the fixed point from the competition `p`. -/
def iter (X0 : FVec F S16x1024 .f32) (w : Vec F S3x2048x1024 .f32) (v g d k : Vec F S3x1x1024 .f32) (p : FVec F S16x1 .f32) : FVec F S16x1 .f32 :=
  addf (broadcast S16x1 (Scalar.ofBits .f32 0x3F800000#32))
    (divf (addf (addf (addf (broadcast S16x1 (Scalar.ofBits .f32 0x00000000#32)) (total X0 (row0 v)))
        (total (next X0 p (slab0 w) (row0 g) (row0 d) (row0 k)) (row1 v)))
      (total (next (next X0 p (slab0 w) (row0 g) (row0 d) (row0 k)) p (slab1 w) (row1 g) (row1 d) (row1 k)) (row2 v))) p)

/-- The layer input and the running total after layer 0, and after layer 1, of the first iteration. -/
def x1 (b : Blk F) (w : Vec F S3x2048x1024 .f32) : FVec F S16x1024 .f32 :=
  k0_pay1 (next1 (batch b.x0) (slab0 w) (row0 b.gain) (row0 b.kd) (row0 b.kb))
def n1 (b : Blk F) (v : Vec F S3x1x1024 .f32) : FVec F S16x1 .f32 := k0_pay5 (batch b.x0) (row0 v)
def x2 (b : Blk F) (w : Vec F S3x2048x1024 .f32) (x : Vec F S16x1024 .f32) : FVec F S16x1024 .f32 :=
  k0_pay1 (next1 (batch x) (slab1 w) (row1 b.gain) (row1 b.kd) (row1 b.kb))
def n2 (v : Vec F S3x1x1024 .f32) (x : Vec F S16x1024 .f32) (n : Vec F S16x1 .f32) : FVec F S16x1 .f32 := k0_pay7 (batch x) (column n) (row1 v)
/-- The competition after five iterations, from the scratch of the last point. -/
def result (b : Blk F) (s : St F) : FVec F S16x1 .f32 :=
  let step := iter (batch b.x0) s.w s.v b.gain b.kd b.kb
  step (step (step (step (k0_pay8 (batch s.x) (row2 s.v) (column s.n)))))

/-! The kernel cuts the four iterations of the last point at other places than `iter` does. Each of them, as the kernel cuts it: -/

section Cut

variable (X0 : FVec F S16x1024 .f32) (w : Vec F S3x2048x1024 .f32) (v g d k : Vec F S3x1x1024 .f32)

/-- The input of layer 2 and the running total in the second iteration. -/
abbrev cutX (x : FVec F S16x1024 .f32) (n : FVec F S16x1 .f32) : FVec F S16x1024 .f32 :=
  k0_pay17 (k0_pay8 x (row2 v) n) (k0_pay9 x (row2 v) n) (k0_pay12 X0 (slab0 w)) (k0_pay13 X0 x (row2 v) n (slab0 w) (row0 g))
    (k0_pay14 (row0 d)) (k0_pay15 x (row2 v) n) (row0 k) (slab1 w) (row1 g) (row1 d) (row1 k)
abbrev cutN (x : FVec F S16x1024 .f32) (n : FVec F S16x1 .f32) : FVec F S16x1 .f32 :=
  k0_pay18 k0_pay10 (k0_pay11 X0 (row0 v)) (k0_pay12 X0 (slab0 w)) (k0_pay13 X0 x (row2 v) n (slab0 w) (row0 g))
    (k0_pay14 (row0 d)) (k0_pay15 x (row2 v) n) (row0 k) (row1 v)
/-- The third iteration, up to its last sum. -/
abbrev cut3 (p : FVec F S16x1 .f32) (y : FVec F S16x1024 .f32) (z : FVec F S16x1 .f32) : FVec F S16x1 .f32 :=
  k0_pay26 (k0_pay19 p y z (row2 v)) (k0_pay20 p y z (row2 v)) k0_pay21 (k0_pay22 X0 (row0 v)) (k0_pay24 X0 p y z (row2 v) (slab0 w) (row0 g))
    (k0_pay25 X0 p y z (row2 v) (slab0 w) (row0 d) (row0 k)) (row1 v) (slab1 w) (row1 g) (row1 d) (row1 k) (row2 v)
/-- The fourth iteration, and the square of its competition. -/
abbrev cut4 (q : FVec F S16x1 .f32) : FVec F S16x1 .f32 :=
  k0_pay32 (k0_pay27 q) (k0_pay28 q) (k0_pay29 X0 q (slab0 w) (row0 g) (row0 d) (row0 k)) (k0_pay30 X0 (row0 v))
    (k0_pay31 X0 q (slab0 w) (row0 g) (row0 d) (row0 k) (row1 v)) (slab1 w) (row1 g) (row1 d) (row1 k) (row2 v)
abbrev cut4s (q : FVec F S16x1 .f32) : FVec F S16x1 .f32 :=
  k0_pay33 (k0_pay27 q) (k0_pay28 q) (k0_pay29 X0 q (slab0 w) (row0 g) (row0 d) (row0 k)) (k0_pay30 X0 (row0 v))
    (k0_pay31 X0 q (slab0 w) (row0 g) (row0 d) (row0 k) (row1 v)) (slab1 w) (row1 g) (row1 d) (row1 k) (row2 v)
/-- The fifth iteration, from the competition and its square. -/
abbrev cut5 (p pp : FVec F S16x1 .f32) : FVec F S16x1 .f32 :=
  k0_pay3 p pp (k0_pay36 X0 k0_pay34 (row0 v)) (k0_pay37 X0 p pp (slab0 w) (row0 g) (row0 d) (row0 k) (row1 v))
    (k0_pay38 X0 p pp (slab0 w) (row0 g) (row0 d) (row0 k) (slab1 w)) (k0_pay39 X0 p pp (slab0 w) (row0 g) (row0 d) (row0 k) (slab1 w))
    (row1 g) (row1 d) (row1 k) (row2 v)

theorem cut2_eq (x : FVec F S16x1024 .f32) (n : FVec F S16x1 .f32) :
    k0_pay19 (k0_pay8 x (row2 v) n) (cutX X0 w v g d k x n) (cutN X0 w v g d k x n) (row2 v) = iter X0 w v g d k (k0_pay8 x (row2 v) n) := rfl
theorem cut3_eq (p : FVec F S16x1 .f32) (y : FVec F S16x1024 .f32) (z : FVec F S16x1 .f32) :
    k0_pay27 (cut3 X0 w v g d k p y z) = iter X0 w v g d k (k0_pay19 p y z (row2 v)) := rfl
theorem cut4_eq (q : FVec F S16x1 .f32) : cut4 X0 w v g d k q = iter X0 w v g d k (k0_pay27 q) := rfl
theorem cut5_eq (p : FVec F S16x1 .f32) : cut5 X0 w v g d k p (mulf p p) = iter X0 w v g d k p := rfl

end Cut

/-- The competition after five iterations, cut as the kernel cuts it. -/
def replay (b : Blk F) (s : St F) : FVec F S16x1 .f32 :=
  let q := cut3 (batch b.x0) s.w s.v b.gain b.kd b.kb (k0_pay8 (batch s.x) (row2 s.v) (column s.n))
    (cutX (batch b.x0) s.w s.v b.gain b.kd b.kb (batch s.x) (column s.n)) (cutN (batch b.x0) s.w s.v b.gain b.kd b.kb (batch s.x) (column s.n))
  cut5 (batch b.x0) s.w s.v b.gain b.kd b.kb (cut4 (batch b.x0) s.w s.v b.gain b.kd b.kb q) (cut4s (batch b.x0) s.w s.v b.gain b.kd b.kb q)

/-- The two cuts agree. -/
theorem replay_eq (b : Blk F) (s : St F) : replay b s = result b s :=
  (cut5_eq _ _ _ _ _ _ _).trans (congrArg _ ((cut4_eq _ _ _ _ _ _ _).trans (congrArg _ ((cut3_eq _ _ _ _ _ _ _ _ _).trans
    (congrArg _ (cut2_eq _ _ _ _ _ _ _ _))))))

end Cert.KernelIdeal.Hand
end
-- ==== Proof.State.lean ====
/- The scratch buffers after every grid point, in closed form: each entry of the weights and of the column sums is named
   by the blocks of the point that stores it, so that nothing depends on what the buffers held at the start. -/
module

public import proofs.«01_k».proof.Proof.Step

@[expose] public section

set_option maxRecDepth 16384

noncomputable section

namespace Cert.KernelIdeal.Hand

open Cert.KernelIdeal Cert.KernelIdeal.Gen
open Idealize.ShloMosaic Idealize.ShloMosaic.TcCoe
open Idealize.ShloMosaic.VecWindow

variable {F : FTy → Type} [FloatOps F]

/-- The place in its tile of an entry of the weights. -/
def ixT (x : S3x2048x1024.Idx) : S1x256x1024.Idx := fun
  | 0 => ⟨0, by decide⟩
  | 1 => ⟨(x 1).val % 256, Nat.mod_lt _ (by decide)⟩
  | 2 => ⟨(x 2).val, (x 2).isLt⟩
/-- The place in its row of an entry of the column sums. -/
def ixR (x : S3x1x1024.Idx) : S1x1x1024.Idx := fun
  | 0 => ⟨0, by decide⟩
  | 1 => ⟨0, by decide⟩
  | 2 => ⟨(x 2).val, (x 2).isLt⟩

/-- The point that stores an entry of the weights. -/
abbrev ptW (x : S3x2048x1024.Idx) : ℕ := 4 * (x 0).val + (x 1).val % 1024 / 256

/-- All the weights. -/
def wAll (B : ℕ → Blk F) : Vec F S3x2048x1024 .f32 := fun x =>
  if (x 1).val < 1024 then wAct (B (ptW x)) (ixT x) else wInh (B (ptW x)) (ixT x)
/-- The column sums of layer `l` after its first `k + 1` tiles. -/
def vPart (B : ℕ → Blk F) (l : ℕ) : ℕ → Vec F S1x1x1024 .f32
  | 0 => vNew (B (4 * l))
  | k + 1 => vAdd (B (4 * l + k + 1)) (vPart B l k)
/-- All the column sums. -/
def vAll (B : ℕ → Blk F) : Vec F S3x1x1024 .f32 := fun x => vPart B (x 0).val 3 (ixR x)

/-- The layer input and the total after layer 0, and after layer 1, of the first iteration. -/
abbrev xOne (B : ℕ → Blk F) : FVec F S16x1024 .f32 := x1 (B 4) (wAll B)
abbrev nOne (B : ℕ → Blk F) : FVec F S16x1 .f32 := n1 (B 4) (vAll B)
abbrev xTwo (B : ℕ → Blk F) : FVec F S16x1024 .f32 := x2 (B 8) (wAll B) (xOne B)
abbrev nTwo (B : ℕ → Blk F) : FVec F S16x1 .f32 := n2 (vAll B) (xOne B) (nOne B)
/-- What the last point stores in the output. -/
def final (B : ℕ → Blk F) : FVec F S16x1 .f32 := result (B 11) ⟨wAll B, vAll B, xTwo B, nTwo B⟩

theorem wStep_apply (i : grid0.Coords) (b : Blk F) (w : Vec F S3x2048x1024 .f32) (x : S3x2048x1024.Idx) :
    wStep i b w x = if (x 0).val = (i 0).val ∧ (x 1).val % 1024 / 256 = (i 1).val
      then (if (x 1).val < 1024 then wAct b (ixT x) else wInh b (ixT x)) else w x := by
  have h0 : (x 0).val < 3 := (x 0).isLt
  have h1 : (x 1).val < 2048 := (x 1).isLt
  have h2 : (x 2).val < 1024 := (x 2).isLt
  have hi : (i 1).val < 4 := (i 1).isLt
  have hin : ∀ off : ℕ, (∀ a : Fin 3, (![(i 0).val, off, 0] : Fin 3 → ℕ) a ≤ (x a).val ∧ (x a).val < (![(i 0).val, off, 0] : Fin 3 → ℕ) a + S1x256x1024.size a)
      ↔ (x 0).val = (i 0).val ∧ off ≤ (x 1).val ∧ (x 1).val < off + 256 := by
    intro off
    constructor
    · intro h
      have a0 : (i 0).val ≤ (x 0).val ∧ (x 0).val < (i 0).val + 1 := h 0
      have a1 : off ≤ (x 1).val ∧ (x 1).val < off + 256 := h 1
      omega
    · rintro ⟨h0', h1', h2'⟩ a
      fin_cases a
      · show (i 0).val ≤ (x 0).val ∧ (x 0).val < (i 0).val + 1; omega
      · show off ≤ (x 1).val ∧ (x 1).val < off + 256; omega
      · show 0 ≤ (x 2).val ∧ (x 2).val < 0 + 1024; omega
  have hloc : ∀ (off : ℕ) (e : off % 256 = 0) (h : ∀ a : Fin 3, (![(i 0).val, off, 0] : Fin 3 → ℕ) a ≤ (x a).val ∧ (x a).val < (![(i 0).val, off, 0] : Fin 3 → ℕ) a + S1x256x1024.size a),
      Rect.unitLocal (s := S3x2048x1024) (off := ![(i 0).val, off, 0]) (size := S1x256x1024.size) x h = ixT x := by
    intro off e h
    have h' := (hin off).1 h
    funext a
    apply Fin.ext
    fin_cases a
    · show (x 0).val - (i 0).val = 0; omega
    · show (x 1).val - off = (x 1).val % 256; omega
    · show (x 2).val - 0 = (x 2).val; omega
  unfold wStep put
  by_cases hA : (x 0).val = (i 0).val ∧ 256 * (i 1).val + 1024 ≤ (x 1).val ∧ (x 1).val < 256 * (i 1).val + 1024 + 256
  · rw [dif_pos ((hin _).2 hA), hloc _ (by omega), if_pos (by omega), if_neg (by omega)]
  · rw [dif_neg (fun h => hA ((hin _).1 h))]
    by_cases hB : (x 0).val = (i 0).val ∧ 256 * (i 1).val ≤ (x 1).val ∧ (x 1).val < 256 * (i 1).val + 256
    · rw [dif_pos ((hin _).2 hB), hloc _ (by omega), if_pos (by omega), if_pos (by omega)]
    · rw [dif_neg (fun h => hB ((hin _).1 h)), if_neg (by omega)]

/-- A put of one row over the column sums, entry by entry. -/
theorem put_row_apply (i : grid0.Coords) (v : Vec F S3x1x1024 .f32) (r : Vec F S1x1x1024 .f32) (x : S3x1x1024.Idx) :
    put v ![(i 0).val, 0, 0] S1x1x1024.size r x = if (x 0).val = (i 0).val then r (ixR x) else v x := by
  have h1 : (x 1).val < 1 := (x 1).isLt
  have h2 : (x 2).val < 1024 := (x 2).isLt
  unfold put
  by_cases hA : (x 0).val = (i 0).val
  · have h : ∀ a : Fin 3, (![(i 0).val, 0, 0] : Fin 3 → ℕ) a ≤ (x a).val ∧ (x a).val < (![(i 0).val, 0, 0] : Fin 3 → ℕ) a + S1x1x1024.size a := by
      intro a
      fin_cases a
      · show (i 0).val ≤ (x 0).val ∧ (x 0).val < (i 0).val + 1; omega
      · show 0 ≤ (x 1).val ∧ (x 1).val < 0 + 1; omega
      · show 0 ≤ (x 2).val ∧ (x 2).val < 0 + 1024; omega
    rw [dif_pos h, if_pos hA]
    refine congrArg r (funext fun a => Fin.ext ?_)
    fin_cases a
    · show (x 0).val - (i 0).val = 0; omega
    · show (x 1).val - 0 = 0; omega
    · show (x 2).val - 0 = (x 2).val; omega
  · rw [dif_neg (fun h => hA (by have a0 : (i 0).val ≤ (x 0).val ∧ (x 0).val < (i 0).val + 1 := h 0; omega)), if_neg hA]

/-- What is known of the scratch before point `t`. -/
structure Good (B : ℕ → Blk F) (t : ℕ) (s : St F) : Prop where
  w : ∀ x, ptW x < t → s.w x = wAll B x
  v : ∀ x, 4 * (x 0).val < t → s.v x = vPart B (x 0).val (min 3 (t - 1 - 4 * (x 0).val)) (ixR x)
  one : 5 ≤ t → t < 9 → s.x = xOne B ∧ s.n = nOne B
  two : 9 ≤ t → s.x = xTwo B ∧ s.n = nTwo B

section Points

variable {B : ℕ → Blk F} {t : ℕ} {s : St F} (i : grid0.Coords) (h0 : (i 0).val = t / 4) (h1 : (i 1).val = t % 4) (h : Good B t s)

include h0 h1 h

theorem good_w (x : S3x2048x1024.Idx) (hx : ptW x < t + 1) : wStep i (B t) s.w x = wAll B x := by
  have b1 : (x 1).val < 2048 := (x 1).isLt
  unfold ptW at hx
  rw [wStep_apply]
  by_cases hp : (x 0).val = (i 0).val ∧ (x 1).val % 1024 / 256 = (i 1).val
  · have e : ptW x = t := by unfold ptW; omega
    rw [if_pos hp, wAll, e]
  · rw [if_neg hp]
    exact h.w x (by unfold ptW; omega)

theorem good_vFirst (ht : t % 4 = 0) (x : S3x1x1024.Idx) (hx : 4 * (x 0).val < t + 1) :
    vFirst i (B t) s.v x = vPart B (x 0).val (min 3 (t + 1 - 1 - 4 * (x 0).val)) (ixR x) := by
  rw [vFirst, put_row_apply]
  by_cases hp : (x 0).val = (i 0).val
  · rw [if_pos hp, show min 3 (t + 1 - 1 - 4 * (x 0).val) = 0 by omega, vPart, show 4 * (x 0).val = t by omega]
  · rw [if_neg hp, h.v x (by omega), show min 3 (t + 1 - 1 - 4 * (x 0).val) = min 3 (t - 1 - 4 * (x 0).val) by omega]

theorem good_vLater (hc : k0_cond2 i = 1#1) (ht : t % 4 ≠ 0) (x : S3x1x1024.Idx) (hx : 4 * (x 0).val < t + 1) :
    vLater i hc (B t) s.v x = vPart B (x 0).val (min 3 (t + 1 - 1 - 4 * (x 0).val)) (ixR x) := by
  rw [vLater, put_row_apply]
  by_cases hp : (x 0).val = (i 0).val
  · rw [if_pos hp, show min 3 (t + 1 - 1 - 4 * (x 0).val) = (t % 4 - 1) + 1 by omega, vPart, show 4 * (x 0).val + (t % 4 - 1) + 1 = t by omega]
    refine congrFun (congrArg (vAdd (B t)) (funext fun y => ?_)) (ixR x)
    have y0 : (y 0).val < 1 := (y 0).isLt
    have y1 : (y 1).val < 1 := (y 1).isLt
    have e0 : ((Rect.unit (s := S3x1x1024) (k0_off4 i) S1x1x1024.size (k0_off4_inb i hc)).idx y 0).val = (i 0).val := by
      show k0_off4 i 0 + 1 * (y 0).val = _
      rw [k0_off4_eq]; show (i 0).val + 1 * (y 0).val = _; omega
    have e2 : ((Rect.unit (s := S3x1x1024) (k0_off4 i) S1x1x1024.size (k0_off4_inb i hc)).idx y 2).val = (y 2).val := by
      show k0_off4 i 2 + 1 * (y 2).val = _
      rw [k0_off4_eq]; show 0 + 1 * (y 2).val = _; omega
    show s.v ((Rect.unit (s := S3x1x1024) (k0_off4 i) S1x1x1024.size (k0_off4_inb i hc)).idx y) = _
    rw [h.v _ (by rw [e0]; omega), e0, ← hp, show min 3 (t - 1 - 4 * (x 0).val) = t % 4 - 1 by omega]
    refine congrArg _ (funext fun a => Fin.ext ?_)
    fin_cases a
    · show 0 = (y 0).val; omega
    · show 0 = (y 1).val; omega
    · exact e2
  · rw [if_neg hp, h.v x (by omega), show min 3 (t + 1 - 1 - 4 * (x 0).val) = min 3 (t - 1 - 4 * (x 0).val) by omega]

/-- A later point keeps what is known. -/
theorem good_later (hc : k0_cond2 i = 1#1) (ht : t % 4 ≠ 0) : Good B (t + 1) ⟨wStep i (B t) s.w, vLater i hc (B t) s.v, s.x, s.n⟩ where
  w := good_w i h0 h1 h
  v := good_vLater i h0 h1 h hc ht
  one := fun _ _ => h.one (by omega) (by omega)
  two := fun _ => h.two (by omega)

/-- So does the first point. -/
theorem good_first (ht : t = 0) : Good B (t + 1) ⟨wStep i (B t) s.w, vFirst i (B t) s.v, s.x, s.n⟩ where
  w := good_w i h0 h1 h
  v := good_vFirst i h0 h1 h (by omega)
  one := fun _ _ => by omega
  two := fun _ => by omega

/-- The first point of layer 1 leaves layer 0's results. -/
theorem good_layer0 (ht : t = 4) :
    Good B (t + 1) ⟨wStep i (B t) s.w, vFirst i (B t) s.v, x1 (B t) (wStep i (B t) s.w), n1 (B t) (vFirst i (B t) s.v)⟩ where
  w := good_w i h0 h1 h
  v := good_vFirst i h0 h1 h (by omega)
  one := fun _ _ => by
    have ew : slab0 (wStep i (B t) s.w) = slab0 (wAll B) := funext fun y => by
      refine good_w i h0 h1 h _ ?_
      have y0 : (y 0).val < 1 := (y 0).isLt
      show 4 * (0 + 1 * (y 0).val) + (0 + 1 * (y 1).val) % 1024 / 256 < t + 1
      omega
    have ev : row0 (vFirst i (B t) s.v) = row0 (vAll B) := funext fun y => by
      have y0 : (y 0).val < 1 := (y 0).isLt
      have e : ((Rect.unit (s := S3x1x1024) ![0, 0, 0] S1x1x1024.size inb_S3x1x1024_S1x1x1024_0_0_0).idx y 0).val = 0 := by
        show 0 + 1 * (y 0).val = 0; omega
      refine (good_vFirst i h0 h1 h (by omega) _ (by rw [e]; omega)).trans ?_
      rw [e, show min 3 (t + 1 - 1 - 4 * 0) = 3 by omega]
      show _ = vAll B ((Rect.unit (s := S3x1x1024) ![0, 0, 0] S1x1x1024.size inb_S3x1x1024_S1x1x1024_0_0_0).idx y)
      rw [vAll, e]
    subst ht
    exact ⟨by simp only [xOne, x1, ew], by simp only [nOne, n1, ev]⟩
  two := fun _ => by omega

/-- The first point of layer 2 leaves layer 1's results. -/
theorem good_layer1 (ht : t = 8) :
    Good B (t + 1) ⟨wStep i (B t) s.w, vFirst i (B t) s.v, x2 (B t) (wStep i (B t) s.w) s.x, n2 (vFirst i (B t) s.v) s.x s.n⟩ where
  w := good_w i h0 h1 h
  v := good_vFirst i h0 h1 h (by omega)
  one := fun _ _ => by omega
  two := fun _ => by
    have ew : slab1 (wStep i (B t) s.w) = slab1 (wAll B) := funext fun y => by
      refine good_w i h0 h1 h _ ?_
      have y0 : (y 0).val < 1 := (y 0).isLt
      show 4 * (1 + 1 * (y 0).val) + (0 + 1 * (y 1).val) % 1024 / 256 < t + 1
      omega
    have ev : row1 (vFirst i (B t) s.v) = row1 (vAll B) := funext fun y => by
      have y0 : (y 0).val < 1 := (y 0).isLt
      have e : ((Rect.unit (s := S3x1x1024) ![1, 0, 0] S1x1x1024.size inb_S3x1x1024_S1x1x1024_1_0_0).idx y 0).val = 1 := by
        show 1 + 1 * (y 0).val = 1; omega
      refine (good_vFirst i h0 h1 h (by omega) _ (by rw [e]; omega)).trans ?_
      rw [e, show min 3 (t + 1 - 1 - 4 * 1) = 3 by omega]
      show _ = vAll B ((Rect.unit (s := S3x1x1024) ![1, 0, 0] S1x1x1024.size inb_S3x1x1024_S1x1x1024_1_0_0).idx y)
      rw [vAll, e]
    obtain ⟨ex, en⟩ := h.one (by omega) (by omega)
    subst ht
    exact ⟨by simp only [xTwo, x2, ew, ex], by simp only [nTwo, n2, ev, ex, en]⟩

/-- At the last point the iterations run on the whole weights and column sums. -/
theorem good_last (hc : k0_cond2 i = 1#1) (ht : t = 11) :
    result (B t) ⟨wStep i (B t) s.w, vLater i hc (B t) s.v, s.x, s.n⟩ = final B := by
  have ew : wStep i (B t) s.w = wAll B := funext fun x => by
    refine good_w i h0 h1 h x ?_
    have b0 : (x 0).val < 3 := (x 0).isLt
    unfold ptW
    omega
  have ev : vLater i hc (B t) s.v = vAll B := funext fun x => by
    have b0 : (x 0).val < 3 := (x 0).isLt
    rw [good_vLater i h0 h1 h hc (by omega) x (by omega), show min 3 (t + 1 - 1 - 4 * (x 0).val) = 3 by omega, vAll]
  obtain ⟨ex, en⟩ := h.two (by omega)
  subst ht
  rw [ew, ev, ex, en, final]

end Points

end Cert.KernelIdeal.Hand
end
-- ==== Proof.Body.lean ====
/- The kernel's body at one grid point, run once for each way its conditions fall: the first point of a layer, a later
   point, the two points that also run a layer of the first iteration, and the last point. -/
module

public import proofs.«01_k».proof.Proof.Step
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The condition of the block that runs layer 0 in advance: the point is the first of layer 1. -/
abbrev cond3 (i : grid0.Coords) : BitVec 1 :=
  Scalar.cmpi .ne (Scalar.extui (Scalar.andi (Scalar.cmpi .eq (BitVec.ofNat 32 (i 0).val) 1#32)
    (Scalar.cmpi .eq (BitVec.ofNat 32 (i 1).val) 0#32)) : BitVec 32) 0#32
/-- The condition of the block that runs layer 1 in advance: the point is the first of layer 2. -/
abbrev cond4 (i : grid0.Coords) : BitVec 1 :=
  Scalar.cmpi .ne (Scalar.extui (Scalar.andi (Scalar.cmpi .eq (BitVec.ofNat 32 (i 0).val) 2#32)
    (Scalar.cmpi .eq (BitVec.ofNat 32 (i 1).val) 0#32)) : BitVec 32) 0#32

/-- The staging buffers one grid point is handed, each whole. -/
structure Ops where
  m2 : Memref sig .tc .vmem S1x256x1024 .f32
  h2 : m2.IsWhole
  m3 : Memref sig .tc .vmem S1x256x1024 .f32
  h3 : m3.IsWhole
  m4 : Memref sig .tc .vmem S1x256x1024 .f32
  h4 : m4.IsWhole
  m5 : Memref sig .tc .vmem S1x256x1024 .f32
  h5 : m5.IsWhole
  m6 : Memref sig .tc .vmem S1x256x1024 .f32
  h6 : m6.IsWhole
  m7 : Memref sig .tc .vmem S1x256x1024 .f32
  h7 : m7.IsWhole
  m8 : Memref sig .tc .vmem S1x256x1024 .f32
  h8 : m8.IsWhole
  m9 : Memref sig .tc .vmem S1x256x1024 .f32
  h9 : m9.IsWhole
  m10 : Memref sig .tc .vmem S1x256x1024 .f32
  h10 : m10.IsWhole
  m11 : Memref sig .tc .vmem S1x256x1024 .i32
  h11 : m11.IsWhole
  m12 : Memref sig .tc .vmem S16x1024 .f32
  h12 : m12.IsWhole
  m13 : Memref sig .tc .vmem S3x1x1024 .f32
  h13 : m13.IsWhole
  m14 : Memref sig .tc .vmem S3x1x1024 .f32
  h14 : m14.IsWhole
  m15 : Memref sig .tc .vmem S3x1x1024 .f32
  h15 : m15.IsWhole
  m16 : Memref sig .tc .vmem S16x1 .f32
  h16 : m16.IsWhole

/-- The kernel's body at one grid point on these operands. -/
abbrev Ops.body (a : Ops) (i : grid0.Coords) : Prog (TpuEff nD τ sig (Elt F) Λ₀ .tc) PUnit :=
  cc0__body i a.m2 a.h2 a.m3 a.h3 a.m4 a.h4 a.m5 a.h5 a.m6 a.h6 a.m7 a.h7 a.m8 a.h8 a.m9 a.h9 a.m10 a.h10 a.m11 a.h11
    a.m12 a.h12 a.m13 a.h13 a.m14 a.h14 a.m15 a.h15 a.m16 a.h16 (Memref.whole cc0_scratch0) (Memref.isWhole_whole _)
    (Memref.whole cc0_scratch1) (Memref.isWhole_whole _) (Memref.whole cc0_scratch2) (Memref.isWhole_whole _)
    (Memref.whole cc0_scratch3) (Memref.isWhole_whole _)

/-- Core `c` holds the fourteen input blocks at the contents `b`. -/
def held (c : Dev nD) (a : Ops) (b : Blk F) : sProp 𝕄 :=
  iprop(owns (c : Thread nD τ) a.m2 fullShare b.k1 ∗ owns (c : Thread nD τ) a.m3 fullShare b.k1n
    ∗ owns (c : Thread nD τ) a.m4 fullShare b.k2 ∗ owns (c : Thread nD τ) a.m5 fullShare b.k3
    ∗ owns (c : Thread nD τ) a.m6 fullShare b.k3n ∗ owns (c : Thread nD τ) a.m7 fullShare b.k4
    ∗ owns (c : Thread nD τ) a.m8 fullShare b.ta ∗ owns (c : Thread nD τ) a.m9 fullShare b.ti
    ∗ owns (c : Thread nD τ) a.m10 fullShare b.ci ∗ owns (c : Thread nD τ) a.m11 fullShare b.mask
    ∗ owns (c : Thread nD τ) a.m12 fullShare b.x0 ∗ owns (c : Thread nD τ) a.m13 fullShare b.gain
    ∗ owns (c : Thread nD τ) a.m14 fullShare b.kb ∗ owns (c : Thread nD τ) a.m15 fullShare b.kd)

/-- Core `c` holds the four scratch buffers at the contents `s`. -/
def scratch (c : Dev nD) (s : St F) : sProp 𝕄 :=
  iprop(owns (c : Thread nD τ) (Memref.whole cc0_scratch0) fullShare s.w
    ∗ owns (c : Thread nD τ) (Memref.whole cc0_scratch1) fullShare s.v
    ∗ owns (c : Thread nD τ) (Memref.whole cc0_scratch2) fullShare s.x
    ∗ owns (c : Thread nD τ) (Memref.whole cc0_scratch3) fullShare s.n)

/-- What one point holds: its input blocks, its output block, the scratch. -/
def have_ (c : Dev nD) (a : Ops) (b : Blk F) (o : Vec F S16x1 .f32) (s : St F) : sProp 𝕄 :=
  iprop(held c a b ∗ owns (c : Thread nD τ) a.m16 fullShare o ∗ scratch c s)

/-- The blocks fourteen buffers' contents read. -/
abbrev blkOf (a : Ops)
    (f2 : BufTy.Contents (Elt F) a.m2.view.ty)
    (f3 : BufTy.Contents (Elt F) a.m3.view.ty)
    (f4 : BufTy.Contents (Elt F) a.m4.view.ty)
    (f5 : BufTy.Contents (Elt F) a.m5.view.ty)
    (f6 : BufTy.Contents (Elt F) a.m6.view.ty)
    (f7 : BufTy.Contents (Elt F) a.m7.view.ty)
    (f8 : BufTy.Contents (Elt F) a.m8.view.ty)
    (f9 : BufTy.Contents (Elt F) a.m9.view.ty)
    (f10 : BufTy.Contents (Elt F) a.m10.view.ty)
    (f11 : BufTy.Contents (Elt F) a.m11.view.ty)
    (f12 : BufTy.Contents (Elt F) a.m12.view.ty)
    (f13 : BufTy.Contents (Elt F) a.m13.view.ty)
    (f14 : BufTy.Contents (Elt F) a.m14.view.ty)
    (f15 : BufTy.Contents (Elt F) a.m15.view.ty) : Blk F :=
  ⟨a.m2.view.read (Elt F) f2, a.m3.view.read (Elt F) f3, a.m4.view.read (Elt F) f4, a.m5.view.read (Elt F) f5, a.m6.view.read (Elt F) f6, a.m7.view.read (Elt F) f7, a.m8.view.read (Elt F) f8, a.m9.view.read (Elt F) f9, a.m10.view.read (Elt F) f10, a.m11.view.read (Elt F) f11, a.m12.view.read (Elt F) f12, a.m13.view.read (Elt F) f13, a.m14.view.read (Elt F) f14, a.m15.view.read (Elt F) f15⟩

/-- The fourteen buffers at contents that read the blocks are what a point holds of its inputs. -/
theorem held_of (c : Dev nD) (a : Ops)
    (f2 : BufTy.Contents (Elt F) a.m2.view.ty)
    (f3 : BufTy.Contents (Elt F) a.m3.view.ty)
    (f4 : BufTy.Contents (Elt F) a.m4.view.ty)
    (f5 : BufTy.Contents (Elt F) a.m5.view.ty)
    (f6 : BufTy.Contents (Elt F) a.m6.view.ty)
    (f7 : BufTy.Contents (Elt F) a.m7.view.ty)
    (f8 : BufTy.Contents (Elt F) a.m8.view.ty)
    (f9 : BufTy.Contents (Elt F) a.m9.view.ty)
    (f10 : BufTy.Contents (Elt F) a.m10.view.ty)
    (f11 : BufTy.Contents (Elt F) a.m11.view.ty)
    (f12 : BufTy.Contents (Elt F) a.m12.view.ty)
    (f13 : BufTy.Contents (Elt F) a.m13.view.ty)
    (f14 : BufTy.Contents (Elt F) a.m14.view.ty)
    (f15 : BufTy.Contents (Elt F) a.m15.view.ty) :
    iprop((a.m2.view.loc (c : Thread nD τ) ↦[a.m2.view.set]{fullShare} f2)
      ∗ (a.m3.view.loc (c : Thread nD τ) ↦[a.m3.view.set]{fullShare} f3)
      ∗ (a.m4.view.loc (c : Thread nD τ) ↦[a.m4.view.set]{fullShare} f4)
      ∗ (a.m5.view.loc (c : Thread nD τ) ↦[a.m5.view.set]{fullShare} f5)
      ∗ (a.m6.view.loc (c : Thread nD τ) ↦[a.m6.view.set]{fullShare} f6)
      ∗ (a.m7.view.loc (c : Thread nD τ) ↦[a.m7.view.set]{fullShare} f7)
      ∗ (a.m8.view.loc (c : Thread nD τ) ↦[a.m8.view.set]{fullShare} f8)
      ∗ (a.m9.view.loc (c : Thread nD τ) ↦[a.m9.view.set]{fullShare} f9)
      ∗ (a.m10.view.loc (c : Thread nD τ) ↦[a.m10.view.set]{fullShare} f10)
      ∗ (a.m11.view.loc (c : Thread nD τ) ↦[a.m11.view.set]{fullShare} f11)
      ∗ (a.m12.view.loc (c : Thread nD τ) ↦[a.m12.view.set]{fullShare} f12)
      ∗ (a.m13.view.loc (c : Thread nD τ) ↦[a.m13.view.set]{fullShare} f13)
      ∗ (a.m14.view.loc (c : Thread nD τ) ↦[a.m14.view.set]{fullShare} f14)
      ∗ (a.m15.view.loc (c : Thread nD τ) ↦[a.m15.view.set]{fullShare} f15))
      ⊢ (held c a (blkOf a f2 f3 f4 f5 f6 f7 f8 f9 f10 f11 f12 f13 f14 f15) : sProp 𝕄) := by
  unfold held owns
  iintro ⟨H2, H3, H4, H5, H6, H7, H8, H9, H10, H11, H12, H13, H14, H15⟩
  sl_close

/-- Two stores into the weights read as the tiles put there. -/
theorem read_w (i : grid0.Coords) (f : BufTy.Contents (Elt F) (Memref.whole cc0_scratch0).view.ty) (b : Blk F) :
    (Memref.whole cc0_scratch0).view.read (Elt F) ((Memref.whole cc0_scratch0).view.writes (Elt F) f
      [⟨Rect.unit (k0_off2 i) S1x256x1024.size (k0_off2_inb i), wInh b⟩, ⟨Rect.unit (k0_off1 i) S1x256x1024.size (k0_off1_inb i), wAct b⟩])
      = wStep i b ((Memref.whole cc0_scratch0).view.read (Elt F) f) := by
  rw [View.read_writes_cons_put _ _ _ _ _ (k0_off2_eq i), View.read_writes_cons_put _ _ _ _ _ (k0_off1_eq i), View.writes_nil, wStep]

/-- The store of the first point of a layer into the column sums. -/
theorem read_v3 (i : grid0.Coords) (hc : k0_cond1 i = 1#1) (f : BufTy.Contents (Elt F) (Memref.whole cc0_scratch1).view.ty) (b : Blk F) :
    (Memref.whole cc0_scratch1).view.read (Elt F) ((Memref.whole cc0_scratch1).view.writes (Elt F) f
      [⟨Rect.unit (k0_off3 i) S1x1x1024.size (k0_off3_inb i hc), vNew b⟩])
      = vFirst i b ((Memref.whole cc0_scratch1).view.read (Elt F) f) := by
  rw [View.read_writes_cons_put _ _ _ _ _ (k0_off3_eq i), View.writes_nil, vFirst]

/-- The store of a later point of a layer into the column sums. -/
theorem read_v4 (i : grid0.Coords) (hc : k0_cond2 i = 1#1) (f : BufTy.Contents (Elt F) (Memref.whole cc0_scratch1).view.ty) (b : Blk F) :
    (Memref.whole cc0_scratch1).view.read (Elt F) ((Memref.whole cc0_scratch1).view.writes (Elt F) f
      [⟨Rect.unit (k0_off4 i) S1x1x1024.size (k0_off4_inb i hc),
        vAdd b (View.ld ((Memref.whole cc0_scratch1).view.read (Elt F) f) (Rect.unit (k0_off4 i) S1x1x1024.size (k0_off4_inb i hc)))⟩])
      = vLater i hc b ((Memref.whole cc0_scratch1).view.read (Elt F) f) := by
  rw [View.read_writes_cons_put _ _ _ _ _ (k0_off4_eq i), View.writes_nil]; rfl

attribute [local irreducible] put wStep vFirst vLater

/-- The first point of layer 0: the tile's weights and column sums are stored. -/
theorem run_first (c : Dev nD) (i : grid0.Coords) (a : Ops) (b : Blk F) (o : Vec F S16x1 .f32) (s : St F)
    (hc1 : k0_cond1 i = 1#1) (hc2 : ¬ k0_cond2 i = 1#1) (hc3 : ¬ cond3 i = 1#1) (hc4 : ¬ cond4 i = 1#1) (hc5 : ¬ k0_cond5 i = 1#1) :
    have_ c a b o s
      ⊢ wp frame (wpE (defs₀ (F := F)) Variants.none c none) Set.univ (a.body i)
          (fun _ => have_ c a b o ⟨wStep i b s.w, vFirst i b s.v, s.x, s.n⟩) := by
  generalize hQ : have_ c a b o ⟨wStep i b s.w, vFirst i b s.v, s.x, s.n⟩ = Q
  obtain ⟨x2, x3, x4, x5, x6, x7, x8, x9, x10, x11, x12, x13, x14, x15⟩ := b
  obtain ⟨sw, sv, sx, sn⟩ := s
  simp only [have_, held, scratch, Ops.body, cc0__body_eq_skeleton]
  unfold cc0__body_skel owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩⟩,
    ⟨%fo, %eo, HO⟩, ⟨%fw, %ew, HW⟩, ⟨%fv, %ev, HV⟩, ⟨%fx, %ex, HX⟩, ⟨%fn, %en, HN⟩⟩
  subst e2 e3 e4 e5 e6 e7 e8 e9 e10 e11 e12 e13 e14 e15 eo ew ev ex en
  sl_exec (disch := first | sl_exact hc1 | sl_exact hc2 | sl_exact hc3 | sl_exact hc4 | sl_exact hc5)
  sl_step
  subst hQ
  unfold have_ scratch owns
  isplitl [H2 H3 H4 H5 H6 H7 H8 H9 H10 H11 H12 H13 H14 H15]
  · iapply (held_of c a f2 f3 f4 f5 f6 f7 f8 f9 f10 f11 f12 f13 f14 f15)
    iframe
  isplitl [HO]
  · iexists _; isplitr; swap; · iexact HO
    ipureintro; rfl
  isplitl [HW]
  · iexists _; isplitr; swap; · iexact HW
    ipureintro; refine Eq.trans ?_ (read_w i fw _); rfl
  isplitl [HV]
  · iexists _; isplitr; swap; · iexact HV
    ipureintro; refine Eq.trans ?_ (read_v3 i hc1 fv _); rfl
  isplitl [HX]
  · iexists _; isplitr; swap; · iexact HX
    ipureintro; rfl
  iexists _; isplitr; swap; · iexact HN
  ipureintro; rfl

/-- A later point of a layer, but the last: the tile's weights are stored and its column sums added. -/
theorem run_later (c : Dev nD) (i : grid0.Coords) (a : Ops) (b : Blk F) (o : Vec F S16x1 .f32) (s : St F)
    (hc1 : ¬ k0_cond1 i = 1#1) (hc2 : k0_cond2 i = 1#1) (hc3 : ¬ cond3 i = 1#1) (hc4 : ¬ cond4 i = 1#1) (hc5 : ¬ k0_cond5 i = 1#1) :
    have_ c a b o s
      ⊢ wp frame (wpE (defs₀ (F := F)) Variants.none c none) Set.univ (a.body i)
          (fun _ => have_ c a b o ⟨wStep i b s.w, vLater i hc2 b s.v, s.x, s.n⟩) := by
  generalize hQ : have_ c a b o ⟨wStep i b s.w, vLater i hc2 b s.v, s.x, s.n⟩ = Q
  obtain ⟨x2, x3, x4, x5, x6, x7, x8, x9, x10, x11, x12, x13, x14, x15⟩ := b
  obtain ⟨sw, sv, sx, sn⟩ := s
  simp only [have_, held, scratch, Ops.body, cc0__body_eq_skeleton]
  unfold cc0__body_skel owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩⟩,
    ⟨%fo, %eo, HO⟩, ⟨%fw, %ew, HW⟩, ⟨%fv, %ev, HV⟩, ⟨%fx, %ex, HX⟩, ⟨%fn, %en, HN⟩⟩
  subst e2 e3 e4 e5 e6 e7 e8 e9 e10 e11 e12 e13 e14 e15 eo ew ev ex en
  sl_exec (disch := first | sl_exact hc1 | sl_exact hc2 | sl_exact hc3 | sl_exact hc4 | sl_exact hc5)
  sl_step
  subst hQ
  unfold have_ scratch owns
  isplitl [H2 H3 H4 H5 H6 H7 H8 H9 H10 H11 H12 H13 H14 H15]
  · iapply (held_of c a f2 f3 f4 f5 f6 f7 f8 f9 f10 f11 f12 f13 f14 f15)
    iframe
  isplitl [HO]
  · iexists _; isplitr; swap; · iexact HO
    ipureintro; rfl
  isplitl [HW]
  · iexists _; isplitr; swap; · iexact HW
    ipureintro; refine Eq.trans ?_ (read_w i fw _); rfl
  isplitl [HV]
  · iexists _; isplitr; swap; · iexact HV
    ipureintro; refine Eq.trans ?_ (read_v4 i hc2 fv _); rfl
  isplitl [HX]
  · iexists _; isplitr; swap; · iexact HX
    ipureintro; rfl
  iexists _; isplitr; swap; · iexact HN
  ipureintro; rfl

/-- The first point of layer 1: besides, layer 0 of the first iteration is run. -/
theorem run_layer0 (c : Dev nD) (i : grid0.Coords) (a : Ops) (b : Blk F) (o : Vec F S16x1 .f32) (s : St F)
    (hc1 : k0_cond1 i = 1#1) (hc2 : ¬ k0_cond2 i = 1#1) (hc3 : cond3 i = 1#1) (hc4 : ¬ cond4 i = 1#1) (hc5 : ¬ k0_cond5 i = 1#1) :
    have_ c a b o s
      ⊢ wp frame (wpE (defs₀ (F := F)) Variants.none c none) Set.univ (a.body i)
          (fun _ => have_ c a b o ⟨wStep i b s.w, vFirst i b s.v, x1 b (wStep i b s.w), n1 b (vFirst i b s.v)⟩) := by
  generalize hQ : have_ c a b o ⟨wStep i b s.w, vFirst i b s.v, x1 b (wStep i b s.w), n1 b (vFirst i b s.v)⟩ = Q
  obtain ⟨x2, x3, x4, x5, x6, x7, x8, x9, x10, x11, x12, x13, x14, x15⟩ := b
  obtain ⟨sw, sv, sx, sn⟩ := s
  simp only [have_, held, scratch, Ops.body, cc0__body_eq_skeleton]
  unfold cc0__body_skel owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩⟩,
    ⟨%fo, %eo, HO⟩, ⟨%fw, %ew, HW⟩, ⟨%fv, %ev, HV⟩, ⟨%fx, %ex, HX⟩, ⟨%fn, %en, HN⟩⟩
  subst e2 e3 e4 e5 e6 e7 e8 e9 e10 e11 e12 e13 e14 e15 eo ew ev ex en
  sl_exec (disch := first | sl_exact hc1 | sl_exact hc2 | sl_exact hc3 | sl_exact hc4 | sl_exact hc5)
  sl_step
  subst hQ
  unfold have_ scratch owns
  isplitl [H2 H3 H4 H5 H6 H7 H8 H9 H10 H11 H12 H13 H14 H15]
  · iapply (held_of c a f2 f3 f4 f5 f6 f7 f8 f9 f10 f11 f12 f13 f14 f15)
    iframe
  isplitl [HO]
  · iexists _; isplitr; swap; · iexact HO
    ipureintro; rfl
  isplitl [HW]
  · iexists _; isplitr; swap; · iexact HW
    ipureintro; refine Eq.trans ?_ (read_w i fw _); rfl
  isplitl [HV]
  · iexists _; isplitr; swap; · iexact HV
    ipureintro; refine Eq.trans ?_ (read_v3 i hc1 fv _); rfl
  isplitl [HX]
  · iexists _; isplitr; swap; · iexact HX
    ipureintro; refine (View.read_writes_full _ _ _ _ _).trans ?_; rw [← read_w i fw]; rfl
  iexists _; isplitr; swap; · iexact HN
  ipureintro; refine (View.read_writes_full _ _ _ _ _).trans ?_; rw [← read_v3 i hc1 fv]; rfl

/-- The first point of layer 2: besides, layer 1 of the first iteration is run. -/
theorem run_layer1 (c : Dev nD) (i : grid0.Coords) (a : Ops) (b : Blk F) (o : Vec F S16x1 .f32) (s : St F)
    (hc1 : k0_cond1 i = 1#1) (hc2 : ¬ k0_cond2 i = 1#1) (hc3 : ¬ cond3 i = 1#1) (hc4 : cond4 i = 1#1) (hc5 : ¬ k0_cond5 i = 1#1) :
    have_ c a b o s
      ⊢ wp frame (wpE (defs₀ (F := F)) Variants.none c none) Set.univ (a.body i)
          (fun _ => have_ c a b o ⟨wStep i b s.w, vFirst i b s.v, x2 b (wStep i b s.w) s.x, n2 (vFirst i b s.v) s.x s.n⟩) := by
  generalize hQ : have_ c a b o ⟨wStep i b s.w, vFirst i b s.v, x2 b (wStep i b s.w) s.x, n2 (vFirst i b s.v) s.x s.n⟩ = Q
  obtain ⟨x2, x3, x4, x5, x6, x7, x8, x9, x10, x11, x12, x13, x14, x15⟩ := b
  obtain ⟨sw, sv, sx, sn⟩ := s
  simp only [have_, held, scratch, Ops.body, cc0__body_eq_skeleton]
  unfold cc0__body_skel owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩⟩,
    ⟨%fo, %eo, HO⟩, ⟨%fw, %ew, HW⟩, ⟨%fv, %ev, HV⟩, ⟨%fx, %ex, HX⟩, ⟨%fn, %en, HN⟩⟩
  subst e2 e3 e4 e5 e6 e7 e8 e9 e10 e11 e12 e13 e14 e15 eo ew ev ex en
  sl_exec (disch := first | sl_exact hc1 | sl_exact hc2 | sl_exact hc3 | sl_exact hc4 | sl_exact hc5)
  sl_step
  subst hQ
  unfold have_ scratch owns
  isplitl [H2 H3 H4 H5 H6 H7 H8 H9 H10 H11 H12 H13 H14 H15]
  · iapply (held_of c a f2 f3 f4 f5 f6 f7 f8 f9 f10 f11 f12 f13 f14 f15)
    iframe
  isplitl [HO]
  · iexists _; isplitr; swap; · iexact HO
    ipureintro; rfl
  isplitl [HW]
  · iexists _; isplitr; swap; · iexact HW
    ipureintro; refine Eq.trans ?_ (read_w i fw _); rfl
  isplitl [HV]
  · iexists _; isplitr; swap; · iexact HV
    ipureintro; refine Eq.trans ?_ (read_v3 i hc1 fv _); rfl
  isplitl [HX]
  · iexists _; isplitr; swap; · iexact HX
    ipureintro; refine (View.read_writes_full _ _ _ _ _).trans ?_; rw [← read_w i fw]; rfl
  iexists _; isplitr; swap; · iexact HN
  ipureintro; refine (View.read_writes_full _ _ _ _ _).trans ?_; rw [← read_v3 i hc1 fv]; rfl

end Cert.KernelIdeal.Hand
end
-- ==== Proof.Last.lean ====
/- The kernel's body at the last grid point, which also runs the remaining iterations and stores the output. The run is
   cut where the kernel cuts its iterations, so that each cut's value is named once. -/
module

public import proofs.«01_k».proof.Proof.Body
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

attribute [local irreducible] put wStep vFirst vLater

attribute [local irreducible] k0_pay3 k0_pay4 k0_pay5 k0_pay6 k0_pay7 k0_pay8 k0_pay9 k0_pay10 k0_pay11
  k0_pay12 k0_pay13 k0_pay14 k0_pay15 k0_pay16 k0_pay17 k0_pay18 k0_pay19 k0_pay20 k0_pay21 k0_pay22 k0_pay23 k0_pay24
  k0_pay25 k0_pay26 k0_pay27 k0_pay28 k0_pay29 k0_pay30 k0_pay31 k0_pay32 k0_pay33 k0_pay34 k0_pay35 k0_pay36 k0_pay37
  k0_pay38 k0_pay39 k0_pay40 k0_pay41 k0_pay42 k0_pay43 k0_pay44 k0_pay45 k0_pay46 k0_pay47 k0_pay48 k0_pay49

set_option maxHeartbeats 4000000 in
/-- The last point: besides a later point's stores, the four remaining iterations are run and the output stored. -/
theorem run_last (c : Dev nD) (i : grid0.Coords) (a : Ops) (b : Blk F) (o : Vec F S16x1 .f32) (s : St F)
    (hc1 : ¬ k0_cond1 i = 1#1) (hc2 : k0_cond2 i = 1#1) (hc3 : ¬ cond3 i = 1#1) (hc4 : ¬ cond4 i = 1#1) (hc5 : k0_cond5 i = 1#1) :
    have_ c a b o s
      ⊢ wp frame (wpE (defs₀ (F := F)) Variants.none c none) Set.univ (a.body i)
          (fun _ => have_ c a b (result b ⟨wStep i b s.w, vLater i hc2 b s.v, s.x, s.n⟩) ⟨wStep i b s.w, vLater i hc2 b s.v, s.x, s.n⟩) := by
  generalize hQ : have_ c a b (result b ⟨wStep i b s.w, vLater i hc2 b s.v, s.x, s.n⟩) ⟨wStep i b s.w, vLater i hc2 b s.v, s.x, s.n⟩ = Q
  obtain ⟨x2, x3, x4, x5, x6, x7, x8, x9, x10, x11, x12, x13, x14, x15⟩ := b
  obtain ⟨sw, sv, sx, sn⟩ := s
  simp only [have_, held, scratch, Ops.body, cc0__body_eq_skeleton]
  unfold cc0__body_skel owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩⟩,
    ⟨%fo, %eo, HO⟩, ⟨%fw, %ew, HW⟩, ⟨%fv, %ev, HV⟩, ⟨%fx, %ex, HX⟩, ⟨%fn, %en, HN⟩⟩
  subst e2 e3 e4 e5 e6 e7 e8 e9 e10 e11 e12 e13 e14 e15 eo ew ev ex en
  set_option sl_exec.stopBefore "k0_part3" in
  sl_exec (disch := first | sl_exact hc1 | sl_exact hc2 | sl_exact hc3 | sl_exact hc4 | sl_exact hc5)
  generalize hgw : (Memref.whole cc0_scratch0).view.writes (Elt F) fw _ = gw
  generalize hgv : (Memref.whole cc0_scratch1).view.writes (Elt F) fv _ = gv
  set_option sl_exec.stopBefore "k0_part5" in
  sl_exec (disch := first | sl_exact hc1 | sl_exact hc2 | sl_exact hc3 | sl_exact hc4 | sl_exact hc5)
  generalize hy : run_last.sl.r_12 (F := F) _ _ _ _ _ _ _ _ _ _ = y
  generalize hz : run_last.sl.r_13 (F := F) _ _ _ _ _ _ _ _ _ _ = z
  generalize hp : run_last.sl.r_5 (F := F) _ _ _ _ = p
  set_option sl_exec.stopBefore "k0_part7" in
  sl_exec (disch := first | sl_exact hc1 | sl_exact hc2 | sl_exact hc3 | sl_exact hc4 | sl_exact hc5)
  generalize hq : run_last.sl.r_19 (F := F) _ _ _ _ _ _ _ _ _ _ _ = q
  set_option sl_exec.stopBefore "k0_part9" in
  sl_exec (disch := first | sl_exact hc1 | sl_exact hc2 | sl_exact hc3 | sl_exact hc4 | sl_exact hc5)
  generalize hu : run_last.sl.r_23 (F := F) _ _ _ _ _ _ _ _ _ = u
  generalize huu : run_last.sl.r_24 (F := F) _ _ _ _ _ _ _ _ _ = uu
  rw [k0_part9_eq_skeleton]
  unfold k0_part9_skel
  sl_exec (disch := first | sl_exact hc1 | sl_exact hc2 | sl_exact hc3 | sl_exact hc4 | sl_exact hc5)
  sl_step
  subst hQ
  have rw_w : ((Memref.whole cc0_scratch0).view.read (Elt F) gw) = wStep i (blkOf a f2 f3 f4 f5 f6 f7 f8 f9 f10 f11 f12 f13 f14 f15) ((Memref.whole cc0_scratch0).view.read (Elt F) fw) := by
    rw [← hgw]; refine Eq.trans ?_ (read_w i fw (blkOf a f2 f3 f4 f5 f6 f7 f8 f9 f10 f11 f12 f13 f14 f15)); rfl
  have rw_v : ((Memref.whole cc0_scratch1).view.read (Elt F) gv) = vLater i hc2 (blkOf a f2 f3 f4 f5 f6 f7 f8 f9 f10 f11 f12 f13 f14 f15) ((Memref.whole cc0_scratch1).view.read (Elt F) fv) := by
    rw [← hgv]; refine Eq.trans ?_ (read_v4 i hc2 fv (blkOf a f2 f3 f4 f5 f6 f7 f8 f9 f10 f11 f12 f13 f14 f15)); rfl
  have ep : k0_pay8 (batch ((Memref.whole cc0_scratch2).view.read (Elt F) fx)) (row2 ((Memref.whole cc0_scratch1).view.read (Elt F) gv)) (column ((Memref.whole cc0_scratch3).view.read (Elt F) fn)) = p := by rw [← hp]; rfl
  have ey : cutX (batch (blkOf a f2 f3 f4 f5 f6 f7 f8 f9 f10 f11 f12 f13 f14 f15).x0) ((Memref.whole cc0_scratch0).view.read (Elt F) gw) ((Memref.whole cc0_scratch1).view.read (Elt F) gv) (blkOf a f2 f3 f4 f5 f6 f7 f8 f9 f10 f11 f12 f13 f14 f15).gain (blkOf a f2 f3 f4 f5 f6 f7 f8 f9 f10 f11 f12 f13 f14 f15).kd (blkOf a f2 f3 f4 f5 f6 f7 f8 f9 f10 f11 f12 f13 f14 f15).kb (batch ((Memref.whole cc0_scratch2).view.read (Elt F) fx)) (column ((Memref.whole cc0_scratch3).view.read (Elt F) fn)) = y := by rw [← hy]; rfl
  have ez : cutN (batch (blkOf a f2 f3 f4 f5 f6 f7 f8 f9 f10 f11 f12 f13 f14 f15).x0) ((Memref.whole cc0_scratch0).view.read (Elt F) gw) ((Memref.whole cc0_scratch1).view.read (Elt F) gv) (blkOf a f2 f3 f4 f5 f6 f7 f8 f9 f10 f11 f12 f13 f14 f15).gain (blkOf a f2 f3 f4 f5 f6 f7 f8 f9 f10 f11 f12 f13 f14 f15).kd (blkOf a f2 f3 f4 f5 f6 f7 f8 f9 f10 f11 f12 f13 f14 f15).kb (batch ((Memref.whole cc0_scratch2).view.read (Elt F) fx)) (column ((Memref.whole cc0_scratch3).view.read (Elt F) fn)) = z := by rw [← hz]; rfl
  have eq : cut3 (batch (blkOf a f2 f3 f4 f5 f6 f7 f8 f9 f10 f11 f12 f13 f14 f15).x0) ((Memref.whole cc0_scratch0).view.read (Elt F) gw) ((Memref.whole cc0_scratch1).view.read (Elt F) gv) (blkOf a f2 f3 f4 f5 f6 f7 f8 f9 f10 f11 f12 f13 f14 f15).gain (blkOf a f2 f3 f4 f5 f6 f7 f8 f9 f10 f11 f12 f13 f14 f15).kd (blkOf a f2 f3 f4 f5 f6 f7 f8 f9 f10 f11 f12 f13 f14 f15).kb p y z = q := by rw [← hq]; rfl
  have eu : cut4 (batch (blkOf a f2 f3 f4 f5 f6 f7 f8 f9 f10 f11 f12 f13 f14 f15).x0) ((Memref.whole cc0_scratch0).view.read (Elt F) gw) ((Memref.whole cc0_scratch1).view.read (Elt F) gv) (blkOf a f2 f3 f4 f5 f6 f7 f8 f9 f10 f11 f12 f13 f14 f15).gain (blkOf a f2 f3 f4 f5 f6 f7 f8 f9 f10 f11 f12 f13 f14 f15).kd (blkOf a f2 f3 f4 f5 f6 f7 f8 f9 f10 f11 f12 f13 f14 f15).kb q = u := by rw [← hu]; rfl
  have euu : cut4s (batch (blkOf a f2 f3 f4 f5 f6 f7 f8 f9 f10 f11 f12 f13 f14 f15).x0) ((Memref.whole cc0_scratch0).view.read (Elt F) gw) ((Memref.whole cc0_scratch1).view.read (Elt F) gv) (blkOf a f2 f3 f4 f5 f6 f7 f8 f9 f10 f11 f12 f13 f14 f15).gain (blkOf a f2 f3 f4 f5 f6 f7 f8 f9 f10 f11 f12 f13 f14 f15).kd (blkOf a f2 f3 f4 f5 f6 f7 f8 f9 f10 f11 f12 f13 f14 f15).kb q = uu := by rw [← huu]; rfl
  unfold have_ scratch owns
  isplitl [H2 H3 H4 H5 H6 H7 H8 H9 H10 H11 H12 H13 H14 H15]
  · iapply (held_of c a f2 f3 f4 f5 f6 f7 f8 f9 f10 f11 f12 f13 f14 f15)
    iframe
  isplitl [HO]
  · iexists _; isplitr; swap; · iexact HO
    ipureintro
    refine (View.read_writes_full _ _ _ _ _).trans ?_
    rw [← replay_eq, ← rw_w, ← rw_v]
    unfold replay
    simp only [ep, ey, ez, eq, eu, euu]
    rfl
  isplitl [HW]
  · iexists _; isplitr; swap; · iexact HW
    ipureintro; exact rw_w
  isplitl [HV]
  · iexists _; isplitr; swap; · iexact HV
    ipureintro; exact rw_v
  isplitl [HX]
  · iexists _; isplitr; swap; · iexact HX
    ipureintro; rfl
  iexists _; isplitr; swap; · iexact HN
  ipureintro; rfl

end Cert.KernelIdeal.Hand
end
-- ==== Proof.Cases.lean ====
/- Every grid point's body, by the way its conditions fall, on the blocks that point is handed. -/
module

public import proofs.«01_k».proof.Proof.State
public import proofs.«01_k».proof.Proof.Last
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.VecWindow
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem coords0 : ∀ t : Fin grid0.N, (grid0.coords t 0).val = t.val / 4 := by decide +kernel
theorem coords1 : ∀ t : Fin grid0.N, (grid0.coords t 1).val = t.val % 4 := by decide +kernel
theorem cond1_iff : ∀ t : Fin grid0.N, k0_cond1 (grid0.coords t) = 1#1 ↔ t.val % 4 = 0 := by decide +kernel
theorem cond2_iff : ∀ t : Fin grid0.N, k0_cond2 (grid0.coords t) = 1#1 ↔ t.val % 4 ≠ 0 := by decide +kernel
theorem cond3_iff : ∀ t : Fin grid0.N, cond3 (grid0.coords t) = 1#1 ↔ t.val = 4 := by decide +kernel
theorem cond4_iff : ∀ t : Fin grid0.N, cond4 (grid0.coords t) = 1#1 ↔ t.val = 8 := by decide +kernel
theorem cond5_iff : ∀ t : Fin grid0.N, k0_cond5 (grid0.coords t) = 1#1 ↔ t.val = 11 := by decide +kernel
theorem lt12 (t : Fin cfg0.N) : t.val < 12 := N_0 ▸ t.isLt

/-- The blocks of point `t`, and of the point numbered `k`. -/
noncomputable def blkAt (c : Dev nD) (t : Fin cfg0.N) : Blk F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩
noncomputable def blks (c : Dev nD) (k : ℕ) : Blk F := blkAt m c ⟨k % 12, by show k % 12 < grid0.N; rw [N_0]; exact Nat.mod_lt _ (by decide)⟩

theorem blks_val (c : Dev nD) (t : Fin cfg0.N) : blks m c t.val = blkAt m c t :=
  congrArg (blkAt m c) (Fin.ext (Nat.mod_eq_of_lt (lt12 t)))

/-- The staging buffers of point `t`. -/
noncomputable def opsAt (t : Fin cfg0.N) : Ops :=
  ⟨st0_0 t, hstage0_0 ((cfg0.slots t 0).cast nbuf0_0), st0_1 t, hstage0_1 ((cfg0.slots t 1).cast nbuf0_1), st0_2 t, hstage0_2 ((cfg0.slots t 2).cast nbuf0_2), st0_3 t, hstage0_3 ((cfg0.slots t 3).cast nbuf0_3), st0_4 t, hstage0_4 ((cfg0.slots t 4).cast nbuf0_4), st0_5 t, hstage0_5 ((cfg0.slots t 5).cast nbuf0_5), st0_6 t, hstage0_6 ((cfg0.slots t 6).cast nbuf0_6), st0_7 t, hstage0_7 ((cfg0.slots t 7).cast nbuf0_7), st0_8 t, hstage0_8 ((cfg0.slots t 8).cast nbuf0_8), st0_9 t, hstage0_9 ((cfg0.slots t 9).cast nbuf0_9), st0_10 t, hstage0_10 ((cfg0.slots t 10).cast nbuf0_10), st0_11 t, hstage0_11 ((cfg0.slots t 11).cast nbuf0_11), st0_12 t, hstage0_12 ((cfg0.slots t 12).cast nbuf0_12), st0_13 t, hstage0_13 ((cfg0.slots t 13).cast nbuf0_13), st0_14 t, hstage0_14 ((cfg0.slots t 14).cast nbuf0_14)⟩

/-- The body at point `t`: what is known of the scratch is carried on, and the last point stores the result. -/
theorem body_run (c : Dev nD) (t : Fin cfg0.N) (o : Vec F S16x1 .f32) (s : St F) (h : Good (blks m c) t.val s) :
    have_ c (opsAt t) (blks m c t.val) o s
      ⊢ wp frame (wpE (defs₀ (F := F)) Variants.none c none) Set.univ ((opsAt t).body (grid0.coords t))
          (fun _ => iprop(∃ s', ⌜Good (blks m c) (t.val + 1) s'⌝
            ∗ have_ c (opsAt t) (blks m c t.val) (if t.val = 11 then final (blks m c) else o) s')) := by
  have k (o' : Vec F S16x1 .f32) (s' : St F) (hs : Good (blks m c) (t.val + 1) s') (ho : o' = if t.val = 11 then final (blks m c) else o) :
      have_ c (opsAt t) (blks m c t.val) o' s' ⊢ (iprop(∃ s', ⌜Good (blks m c) (t.val + 1) s'⌝
            ∗ have_ c (opsAt t) (blks m c t.val) (if t.val = 11 then final (blks m c) else o) s') : sProp 𝕄) := by
    subst ho
    iintro H
    iexists s'
    isplitr
    · ipureintro; exact hs
    iexact H
  have c0 := coords0 t; have c1 := coords1 t; have l := lt12 t
  have i1 := cond1_iff t; have i2 := cond2_iff t; have i3 := cond3_iff t; have i4 := cond4_iff t; have i5 := cond5_iff t
  by_cases h4 : t.val % 4 = 0
  · by_cases e4 : t.val = 4
    · refine (run_layer0 c _ _ _ o s (i1.2 h4) (fun e => i2.1 e h4) (i3.2 e4) (fun e => by have := i4.1 e; omega) (fun e => by have := i5.1 e; omega)).trans
        (wp_mono _ _ _ fun _ => k _ _ (good_layer0 _ c0 c1 h e4) (if_neg (by omega)).symm)
    · by_cases e8 : t.val = 8
      · refine (run_layer1 c _ _ _ o s (i1.2 h4) (fun e => i2.1 e h4) (fun e => e4 (i3.1 e)) (i4.2 e8) (fun e => by have := i5.1 e; omega)).trans
          (wp_mono _ _ _ fun _ => k _ _ (good_layer1 _ c0 c1 h e8) (if_neg (by omega)).symm)
      · refine (run_first c _ _ _ o s (i1.2 h4) (fun e => i2.1 e h4) (fun e => e4 (i3.1 e)) (fun e => e8 (i4.1 e)) (fun e => by have := i5.1 e; omega)).trans
          (wp_mono _ _ _ fun _ => k _ _ (good_first _ c0 c1 h (by omega)) (if_neg (by omega)).symm)
  · have n3 : ¬ cond3 (grid0.coords t) = 1#1 := fun e => by have := i3.1 e; omega
    have n4 : ¬ cond4 (grid0.coords t) = 1#1 := fun e => by have := i4.1 e; omega
    by_cases e11 : t.val = 11
    · refine (run_last c _ _ _ o s (fun e => h4 (i1.1 e)) (i2.2 h4) n3 n4 (i5.2 e11)).trans
        (wp_mono _ _ _ fun _ => k _ _ (good_later _ c0 c1 h (i2.2 h4) h4) ((good_last _ c0 c1 h (i2.2 h4) e11).trans (if_pos e11).symm))
    · refine (run_later c _ _ _ o s (fun e => h4 (i1.1 e)) (i2.2 h4) n3 n4 (fun e => e11 (i5.1 e))).trans
        (wp_mono _ _ _ fun _ => k _ _ (good_later _ c0 c1 h (i2.2 h4) h4) (if_neg e11).symm)

end Cert.KernelIdeal.Hand
end
-- ==== Proof.Run.lean ====
/- The launch: the scratch known point by point, and @main run from any memory: the arguments unchanged, the counters at
   zero, the output what the last point stores. -/
module

public import proofs.«01_k».proof.Proof.Cases
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.VecWindow
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is held between points: the scratch at contents known as far as the points have gone, and the generator's register. -/
noncomputable def inv (c : Dev nD) (t : ℕ) : sProp 𝕄 := iprop((∃ s, ⌜Good (blks m c) t s⌝ ∗ scratch c s) ∗ ∃ r, prngReg c r)

/-- The proof data on core `c`: every input left in place, the output at its last value. -/
noncomputable def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | 10 => iblk m c 10 t
    | 11 => iblk m c 11 t
    | 12 => iblk m c 12 t
    | 13 => iblk m c 13 t
    | 14 => final (blks m c)
  Φ t := inv m c t.val
  q _ := fullShare
  owed _ := 0

theorem A_eq (c : Dev nD) (w : Fin cfg0.W) : (dats m 0 c).A w = V m c (Pipeline.arrRef spec0 w) := by dsimp only [dats]

theorem idle14 : ∀ t : Fin cfg0.N, t.val ≠ 11 → cfg0.idle 14 (cfg0.grid.coords t) = true := by decide +kernel
theorem flush14 (t : Fin cfg0.N) (h : t.val ≠ 11) : (cfg0.win 14).flush t = false := by
  have := flush0_14 t; have l := lt12 t
  cases e : (cfg0.win 14).flush t with
  | false => rfl
  | true => have := this.1 e; omega

/-- What the body leaves of the output's staging buffer. -/
noncomputable def outPost (c : Dev nD) (t : Fin cfg0.N) : sProp 𝕄 :=
  match cfg0.idle 14 (cfg0.grid.coords t) with
  | true =>
    match (cfg0.win 14).flush t with
    | false => iprop(∃ d, owns (c : Thread nD τ) (st0_14 t) fullShare ((dats m 0 c).before 14 t d))
    | true => owns (c : Thread nD τ) (st0_14 t) fullShare ((dats m 0 c).after 14 t)
  | false => owns (c : Thread nD τ) (st0_14 t) fullShare ((dats m 0 c).after 14 t)

/-- What the body is called with at point `t`, and what it returns. -/
noncomputable def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))
noncomputable def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ owns (c : Thread nD τ) (st0_9 t) fullShare (iblk m c 9 t)
    ∗ owns (c : Thread nD τ) (st0_10 t) fullShare (iblk m c 10 t)
    ∗ owns (c : Thread nD τ) (st0_11 t) fullShare (iblk m c 11 t)
    ∗ owns (c : Thread nD τ) (st0_12 t) fullShare (iblk m c 12 t)
    ∗ owns (c : Thread nD τ) (st0_13 t) fullShare (iblk m c 13 t)
    ∗ outPost m c t)

set_option maxHeartbeats 4000000 in
/-- The body at one point, between what the launch hands it and what it takes back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).owesAt () t.succ = (dats m 0 c).owesAt () t.castSucc from rfl,
    show (dats m 0 c).Φ t.castSucc = inv m c t.val from rfl, show (dats m 0 c).Φ t.succ = inv m c (t.val + 1) from rfl]
  simp only [before0_0_of m (dats m 0 c) rfl (fun _ => rfl) t, before0_1_of m (dats m 0 c) rfl (fun _ => rfl) t, before0_2_of m (dats m 0 c) rfl (fun _ => rfl) t, before0_3_of m (dats m 0 c) rfl (fun _ => rfl) t, before0_4_of m (dats m 0 c) rfl (fun _ => rfl) t, before0_5_of m (dats m 0 c) rfl (fun _ => rfl) t, before0_6_of m (dats m 0 c) rfl (fun _ => rfl) t, before0_7_of m (dats m 0 c) rfl (fun _ => rfl) t, before0_8_of m (dats m 0 c) rfl (fun _ => rfl) t, before0_9_of m (dats m 0 c) rfl (fun _ => rfl) t, before0_10_of m (dats m 0 c) rfl (fun _ => rfl) t, before0_11_of m (dats m 0 c) rfl (fun _ => rfl) t, before0_12_of m (dats m 0 c) rfl (fun _ => rfl) t, before0_13_of m (dats m 0 c) rfl (fun _ => rfl) t]
  unfold inv
  iintro ⟨⟨⟨%s, %hs, HS⟩, HR⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (wp_wand_r frame (wpE (defs₀ (F := F)) Variants.none c none) Set.univ)
  isplitl [HS H0 H1 H2 H3 H4 H5 H6 H7 H8 H9 H10 H11 H12 H13 H14]
  · iapply (body_run m c t ((dats m 0 c).before 14 t d14) s hs)
    rw [blks_val]
    unfold have_ held
    isplitl [H0 H1 H2 H3 H4 H5 H6 H7 H8 H9 H10 H11 H12 H13]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    isplitl [H14]
    · iexact H14
    iexact HS
  iintro %_ ⟨%s', %hs', H⟩
  rw [blks_val]
  unfold have_ held
  icases H with ⟨⟨H0, H1, H2, H3, H4, H5, H6, H7, H8, H9, H10, H11, H12, H13⟩, H14, HS⟩
  isplitl [HS HR]
  · isplitl [HS]
    · iexists s'
      isplitr
      · ipureintro; exact hs'
      iexact HS
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  unfold outPost
  by_cases e : t.val = 11
  · rw [if_pos e]
    cases cfg0.idle 14 (cfg0.grid.coords t) with
    | false => iexact H14
    | true =>
      rw [(flush0_14 t).2 (by omega)]
      iexact H14
  · rw [if_neg e, idle14 t e, flush14 t e]
    iexists d14
    iexact H14

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

set_option maxHeartbeats 4000000 in
/-- The body obligation: the triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem good_zero (B : ℕ → Blk F) (s : St F) : Good B 0 s where
  w := fun _ h => absurd h (Nat.not_lt_zero _)
  v := fun _ h => absurd h (Nat.not_lt_zero _)
  one := fun h => absurd h (by omega)
  two := fun h => absurd h (by omega)

/-- At the start the scratch holds some contents, of which nothing is known. -/
theorem inv_first (c : Dev nD) : Pipeline.ΦA spec0 c ⊢ (inv m c 0 : sProp 𝕄) := by
  unfold Pipeline.ΦA inv scratch
  rw [scopedRest0_eq]
  simp only [owns_whole]
  iintro ⟨⟨⟨%fw, HW⟩, ⟨%fv, HV⟩, ⟨%fx, HX⟩, ⟨%fn, HN⟩⟩, HR⟩
  isplitr [HR]
  · iexists (⟨fw, fv, fx, fn⟩ : St F)
    isplitr
    · ipureintro; exact good_zero _ _
    isplitl [HW]; · iexact HW
    isplitl [HV]; · iexact HV
    isplitl [HX]; · iexact HX
    iexact HN
  iexact HR

/-- At the end what is known of the scratch is forgotten. -/
theorem inv_last (c : Dev nD) (t : ℕ) : inv m c t ⊢ (Pipeline.ΦA spec0 c : sProp 𝕄) := by
  unfold Pipeline.ΦA inv scratch
  rw [scopedRest0_eq]
  simp only [owns_whole]
  iintro ⟨⟨%s, -, HW, HV, HX, HN⟩, HR⟩
  isplitr [HR]
  · isplitl [HW]; · iexists _; iexact HW
    isplitl [HV]; · iexists _; iexact HV
    isplitl [HX]; · iexists _; iexact HX
    iexists _; iexact HN
  iexact HR

set_option backward.isDefEq.respectTransparency.types false in
/-- From any memory with zero counters @main terminates; its windows' arrays are what the points leave, every other
    buffer is as the call found it, and every counter is at zero. -/
theorem run_main :
    θ_run defs (onTc (τ := τ) (main (F := F))) (s₀ m ρ)
      (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := Gen.hmain m Variants.none) (hA := A_eq m)
    (hin := fun c => inv_first m c) (hout := fun c => inv_last m c _)

end Cert.KernelIdeal.Hand
end
-- ==== Proof.Same.lean ====
/- The kernel and its idealization are one program: no operation was replaced, so the two texts differ in nothing but the
   names of their definitions, and each definition of the one equals that of the other. -/
module

public import proofs.«01_k».proof.Proof.Gen.KernelIdeal.Frame
public import proofs.«01_k».proof.Proof.Gen.Kernel.Frame

@[expose] public section

set_option maxRecDepth 16384

noncomputable section

namespace Cert.Same

open Idealize.ShloMosaic

variable {F : FTy → Type} [FloatOps F]

set_option maxHeartbeats 4000000 in
/-- One body at every grid point. -/
theorem body_eq : @Cert.Kernel.cc0__body F _ Cert.Kernel.Gen.facts = @Cert.KernelIdeal.cc0__body F _ Cert.KernelIdeal.Gen.facts := rfl

set_option maxHeartbeats 4000000 in
/-- One table of the launch's bodies. -/
theorem defs₀_eq : @Cert.Kernel.defs₀ F _ Cert.Kernel.Gen.facts = @Cert.KernelIdeal.defs₀ F _ Cert.KernelIdeal.Gen.facts := by
  refine congrArg Defs.onTc (funext fun l => funext fun x => ?_)
  match l, x with
  | 0, (t, s) =>
    simp only
    rw [body_eq]
    rfl
  | ⟨_ + 1, h⟩, _ => exact absurd h (Nat.not_lt.2 (Nat.le_add_left _ _))

set_option maxHeartbeats 4000000 in
/-- One table of definitions. -/
theorem defs_eq : @Cert.Kernel.defs F _ Cert.Kernel.Gen.facts = @Cert.KernelIdeal.defs F _ Cert.KernelIdeal.Gen.facts :=
  congrArg (Pipeline.defs (Cert.KernelIdeal.pcfgs (F := F))) defs₀_eq

set_option maxHeartbeats 4000000 in
/-- One program. -/
theorem main_eq : @Cert.Kernel.main F _ Cert.Kernel.Gen.facts = @Cert.KernelIdeal.main F _ Cert.KernelIdeal.Gen.facts := rfl

end Cert.Same
end
-- ==== Proof.Frames.lean ====
/- The three frame claims: each program ends, leaves its arguments as they were and every semaphore counter at zero. -/
module

public import proofs.«01_k».proof.Defs
public import proofs.«01_k».proof.Proof.Run
public import proofs.«01_k».proof.Proof.Same
public import proofs.«01_k».proof.Proof.Gen.ReferenceIdeal.Run
public import Idealize.ShloMosaic.Lib.Claim

@[expose] public section

noncomputable section

namespace Cert.Proof

open Idealize.ShloMosaic Idealize.SL.Sem

/-- The idealized kernel's frame. -/
theorem quiet_KernelIdeal : Cert.quiescent_KernelIdeal (hKernelIdeal := Cert.KernelIdeal.Gen.facts) := fun m ρ _ =>
  θ_run_and
    (Cert.KernelIdeal.Gen.frame_of m ρ (Cert.KernelIdeal.Hand.dats m) (Cert.KernelIdeal.Hand.A_eq m)
      ((θ_run _ _ _).mono (fun _ h => h.1) (Cert.KernelIdeal.Hand.run_main m ρ)))
    ((θ_run _ _ _).mono (fun _ h => h.2) (Cert.KernelIdeal.Hand.run_main m ρ))

set_option maxHeartbeats 4000000 in
/-- The kernel's frame. No operation was replaced, so the two programs are one text, and what is proved of the idealized
    one in every float model holds of the kernel in the float model of the machine. -/
theorem quiet_Kernel : Cert.quiescent_Kernel (hKernel := Cert.Kernel.Gen.facts) := fun m ρ _ => by
  have h := θ_run_and
    (Cert.KernelIdeal.Gen.frame_of (F := Bits) m ρ (Cert.KernelIdeal.Hand.dats m) (Cert.KernelIdeal.Hand.A_eq m)
      ((θ_run _ _ _).mono (fun _ h => h.1) (Cert.KernelIdeal.Hand.run_main m ρ)))
    ((θ_run _ _ _).mono (fun _ h => h.2) (Cert.KernelIdeal.Hand.run_main (F := Bits) m ρ))
  rw [Cert.Same.defs_eq, Cert.Same.main_eq]
  exact h

/-- The reference's frame: it names no semaphore. -/
theorem quiet_ReferenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Model.lean ====
/- The fixed point over the extended reals: the rates, one layer, one iteration, five iterations; in which range its values
   stay; and that the kernel's way of grouping a layer and an iteration gives the same values. -/
module

public import Idealize.ShloMosaic.Lib.Pointwise
public import Idealize.ShloMosaic.Lib.IdealHost

@[expose] public section

noncomputable section

namespace Cert.Model

open Idealize.ShloMosaic

/-! The range: `⊥`, which the quotient of zero by zero gives, and all that is not negative. -/

/-- `⊥`, or not negative. -/
def Rng (x : EReal) : Prop := x = ⊥ ∨ 0 ≤ x

namespace Rng

variable {x y : EReal}

theorem add (hx : Rng x) (hy : Rng y) : Rng (x + y) := by
  rcases hx with rfl | hx
  · exact Or.inl (EReal.bot_add y)
  rcases hy with rfl | hy
  · exact Or.inl (EReal.add_bot x)
  · exact Or.inr (add_nonneg hx hy)
theorem bot_mul (hy : Rng y) : Rng (⊥ * y) := by
  rcases hy with rfl | hy
  · exact Or.inr (by rw [EReal.bot_mul_bot]; exact le_top)
  rcases hy.eq_or_lt with rfl | hy
  · exact Or.inr (mul_zero _).ge
  · exact Or.inl (EReal.bot_mul_of_pos hy)
theorem mul (hx : Rng x) (hy : Rng y) : Rng (x * y) := by
  rcases hx with rfl | hx
  · exact bot_mul hy
  rcases hy with rfl | hy
  · exact mul_comm x ⊥ ▸ bot_mul (Or.inr hx)
  · exact Or.inr (mul_nonneg hx hy)
theorem inv (hx : Rng x) : Rng x⁻¹ := by
  rcases hx with rfl | hx
  · exact Or.inr EReal.inv_bot.ge
  · exact Or.inr (EReal.inv_nonneg_of_nonneg hx)
theorem div (hx : Rng x) (hy : Rng y) : Rng (Ideal.div x y) := by
  unfold Ideal.div
  split
  · split
    · exact Or.inr le_top
    · exact Or.inl rfl
  · exact mul hx (inv hy)
theorem sum {ι : Type} [Fintype ι] {f : ι → EReal} (hf : ∀ i, Rng (f i)) : Rng (∑ i, f i) := by
  classical
  refine Finset.induction_on (Finset.univ : Finset ι) (Or.inr le_rfl) fun a s ha ih => ?_
  rw [Finset.sum_insert ha]
  exact add (hf a) ih
theorem select (c : BitVec 1) (hx : Rng x) : Rng (Scalar.select c x 0) := by
  unfold Scalar.select
  split
  · exact hx
  · exact Or.inr le_rfl

end Rng

/-- A competition: `⊥`, or at least one. -/
def Comp (p : EReal) : Prop := p = ⊥ ∨ 1 ≤ p

theorem Comp.one : Comp 1 := Or.inr le_rfl
theorem Comp.rng {p : EReal} (hp : Comp p) : Rng p := hp.imp_right zero_le_one.trans
theorem Comp.one_add {x : EReal} (hx : Rng x) : Comp (1 + x) := by
  rcases hx with rfl | hx
  · exact Or.inl (EReal.add_bot 1)
  · exact Or.inr (le_add_of_nonneg_right hx)
/-- It is infinite, and then its square is `⊤` and a quotient by it is zero; or it is a positive real number. -/
theorem Comp.cases {p : EReal} (hp : Comp p) : (p ≠ 0 ∧ p⁻¹ = 0 ∧ p * p = ⊤) ∨ ∃ r : ℝ, 0 < r ∧ p = r := by
  rcases hp with rfl | hp
  · exact Or.inl ⟨EReal.bot_ne_zero, EReal.inv_bot, EReal.bot_mul_bot⟩
  induction p with
  | bot => exact absurd (le_bot_iff.1 hp) (EReal.coe_ne_bot 1)
  | top => exact Or.inl ⟨EReal.top_ne_zero, EReal.inv_top, EReal.top_mul_top⟩
  | coe r => exact Or.inr ⟨r, lt_of_lt_of_le one_pos (by exact_mod_cast hp), rfl⟩

theorem div_of_ne {x y : EReal} (h : y ≠ 0) : Ideal.div x y = x * y⁻¹ := if_neg h
theorem div_one (x : EReal) : Ideal.div x 1 = x := by
  rw [div_of_ne one_ne_zero, inv_one, mul_one]

/-- A sum of three quotients by a competition is the quotient of the sum. -/
theorem div_add_add {p : EReal} (hp : Comp p) (x y z : EReal) :
    Ideal.div (x + y + z) p = Ideal.div x p + Ideal.div y p + Ideal.div z p := by
  rcases hp.cases with ⟨h0, hi, -⟩ | ⟨r, hr, rfl⟩
  · simp only [div_of_ne h0, hi, mul_zero, add_zero]
  · have hc : (0 : EReal) ≤ ((1 / r : ℝ) : EReal) := by exact_mod_cast (one_div_pos.2 hr).le
    rw [Ideal.div_coe hr.ne', Ideal.div_coe hr.ne', Ideal.div_coe hr.ne', Ideal.div_coe hr.ne',
      EReal.right_distrib_of_nonneg_of_ne_top hc (EReal.coe_ne_top _), EReal.right_distrib_of_nonneg_of_ne_top hc (EReal.coe_ne_top _)]

theorem pos_add {x ε : EReal} (hx : 0 ≤ x) (hε : 0 < ε) : 0 < x + ε := lt_of_lt_of_le hε (le_add_of_nonneg_left hx)
/-- A denominator, `⊥` or above the small number, is not zero. -/
theorem add_ne_zero {x ε : EReal} (hx : Rng x) (hε : 0 < ε) : x + ε ≠ 0 := by
  rcases hx with rfl | hx
  · rw [EReal.bot_add]
    exact EReal.bot_ne_zero
  · exact (pos_add hx hε).ne'

/-- One entry of a layer: the kernel multiplies the competition into numerator and denominator, where the reference divides by it. -/
theorem layer_eq {y g e p d k i w ε : EReal} (hp : Comp p) (hd : 0 ≤ d) (hk : 0 ≤ k) (he : 0 ≤ e) (hi : 0 < i) (hw : Rng w) (hε : 0 < ε) :
    Ideal.div (y * (g * e * p)) ((d + ε) * (p * p) + Ideal.div (k * e) i * w)
      = Ideal.div (Ideal.div (y * e * g) p) (d + Ideal.div (k * Ideal.div (w * e) (p * p)) i + ε) := by
  have hz : Rng (k * e * i⁻¹ * w) := Rng.mul (.inr (mul_nonneg (mul_nonneg hk he) (EReal.inv_nonneg_of_nonneg hi.le))) hw
  have hdε : 0 < d + ε := pos_add hd hε
  rw [div_of_ne (x := k * e) hi.ne', div_of_ne (x := k * _) hi.ne']
  rcases hp.cases with ⟨h0, hi0, hpp⟩ | ⟨r, hr, rfl⟩
  · rw [hpp, div_of_ne h0, hi0, div_of_ne EReal.top_ne_zero, EReal.inv_top, mul_zero, mul_zero, mul_zero, zero_mul, add_zero,
      div_of_ne hdε.ne', zero_mul, EReal.mul_top_of_pos hdε]
    have hden : (⊤ + k * e * i⁻¹ * w : EReal) = ⊥ ∨ (⊤ + k * e * i⁻¹ * w : EReal) = ⊤ := by
      rcases hz with hz | hz
      · exact Or.inl (by rw [hz, EReal.add_bot])
      · exact Or.inr (EReal.top_add_of_ne_bot (ne_of_gt (lt_of_lt_of_le EReal.bot_lt_zero hz)))
    rcases hden with h | h
    · rw [h, div_of_ne EReal.bot_ne_zero, EReal.inv_bot, mul_zero]
    · rw [h, div_of_ne EReal.top_ne_zero, EReal.inv_top, mul_zero]
  · have hrr : 0 < r * r := mul_pos hr hr
    have hc : (0 : EReal) ≤ ((r * r : ℝ) : EReal) := by exact_mod_cast hrr.le
    have hc' : Rng ((1 / (r * r) : ℝ) : EReal) := Or.inr (by exact_mod_cast (one_div_pos.2 hrr).le)
    have one : ((1 / (r * r) : ℝ) : EReal) * ((r * r : ℝ) : EReal) = 1 := by
      rw [← EReal.coe_mul, one_div_mul_cancel hrr.ne', EReal.coe_one]
    have inv : (r : EReal) * ((r * r : ℝ) : EReal)⁻¹ = ((1 / r : ℝ) : EReal) := by
      rw [← EReal.coe_inv, ← EReal.coe_mul]
      congr 1
      field_simp
    rw [← EReal.coe_mul, Ideal.div_coe hr.ne', Ideal.div_coe hrr.ne']
    have e1 : k * (w * e * ((1 / (r * r) : ℝ) : EReal)) * i⁻¹ = k * e * i⁻¹ * w * ((1 / (r * r) : ℝ) : EReal) := by
      ac_rfl
    have hD : d + k * e * i⁻¹ * w * ((1 / (r * r) : ℝ) : EReal) + ε ≠ 0 := add_ne_zero (Rng.add (Or.inr hd) (hz.mul hc')) hε
    have e2 : (d + ε) * ((r * r : ℝ) : EReal) + k * e * i⁻¹ * w
        = (d + k * e * i⁻¹ * w * ((1 / (r * r) : ℝ) : EReal) + ε) * ((r * r : ℝ) : EReal) := by
      rw [add_right_comm d, EReal.right_distrib_of_nonneg_of_ne_top hc (EReal.coe_ne_top _) (d + ε), mul_assoc _ _ ((r * r : ℝ) : EReal), one, mul_one]
    have hD2 : (d + k * e * i⁻¹ * w * ((1 / (r * r) : ℝ) : EReal) + ε) * ((r * r : ℝ) : EReal) ≠ 0 :=
      mul_ne_zero hD (by exact_mod_cast hrr.ne')
    rw [e1, e2, div_of_ne hD2, div_of_ne hD, EReal.mul_inv, ← inv]
    ac_rfl

/-- The arguments entry by entry. -/
structure Par where
  x0 : Fin 16 → Fin 1024 → EReal
  k1 : Fin 3 → Fin 1024 → Fin 1024 → EReal
  k1n : Fin 3 → Fin 1024 → Fin 1024 → EReal
  k2 : Fin 3 → Fin 1024 → Fin 1024 → EReal
  k3 : Fin 3 → Fin 1024 → Fin 1024 → EReal
  k3n : Fin 3 → Fin 1024 → Fin 1024 → EReal
  k4 : Fin 3 → Fin 1024 → Fin 1024 → EReal
  ta : Fin 3 → Fin 1024 → Fin 1024 → EReal
  ti : Fin 3 → Fin 1024 → Fin 1024 → EReal
  ci : Fin 3 → Fin 1024 → Fin 1024 → EReal
  mask : Fin 3 → Fin 1024 → Fin 1024 → BitVec 32
  k5 : Fin 3 → Fin 1024 → EReal
  k5n : Fin 3 → Fin 1024 → EReal
  k6 : Fin 3 → Fin 1024 → EReal
  kdI : Fin 3 → Fin 1024 → EReal
  kdT : Fin 3 → Fin 1024 → EReal
  e0 : EReal

/-- No argument is negative. -/
structure Par.Ok (P : Par) : Prop where
  x0 : ∀ b i, 0 ≤ P.x0 b i
  k1 : ∀ l u i, 0 ≤ P.k1 l u i
  k1n : ∀ l u i, 0 ≤ P.k1n l u i
  k2 : ∀ l u i, 0 ≤ P.k2 l u i
  k3 : ∀ l u i, 0 ≤ P.k3 l u i
  k3n : ∀ l u i, 0 ≤ P.k3n l u i
  k4 : ∀ l u i, 0 ≤ P.k4 l u i
  ta : ∀ l u i, 0 ≤ P.ta l u i
  ti : ∀ l u i, 0 ≤ P.ti l u i
  ci : ∀ l u i, 0 ≤ P.ci l u i
  k5 : ∀ l u, 0 ≤ P.k5 l u
  k5n : ∀ l u, 0 ≤ P.k5n l u
  k6 : ∀ l u, 0 ≤ P.k6 l u
  kdI : ∀ l u, 0 ≤ P.kdI l u
  kdT : ∀ l u, 0 ≤ P.kdT l u
  e0 : 0 ≤ P.e0

/-- The small number that the program adds to a denominator. -/
def eps : EReal := Ideal.ofBits .f32 0x358637BD#32
theorem eps_pos : 0 < eps := by
  obtain ⟨r, hr, h⟩ : ∃ r : ℝ, 0 < r ∧ eps = (r : EReal) := by
    simp [eps, Ideal.ofBits, Ideal.ieee, -EReal.coe_mul]
  rw [h]
  exact_mod_cast hr

namespace Par

variable (P : Par)

/-- The activating and the inhibiting rates. -/
def ka (l : Fin 3) (u i : Fin 1024) : EReal :=
  Scalar.select (IntOp.cmpi .sgt (P.mask l u i) 0#32) (Ideal.div (P.k1 l u i) (P.k1n l u i + P.k2 l u i) * P.ta l u i) 0
def ki (l : Fin 3) (u i : Fin 1024) : EReal :=
  Scalar.select (IntOp.cmpi .slt (P.mask l u i) 0#32) (Ideal.div (P.k3 l u i) (P.k3n l u i + P.k4 l u i) * P.ti l u i) 0
/-- The sums of the rates over the units. -/
def col (l : Fin 3) (i : Fin 1024) : EReal := ∑ u, (P.ka l u i + P.ki l u i)
/-- The batch against the activating weights, and against the inhibiting weights. -/
def yA (l : Fin 3) (x : Fin 16 → Fin 1024 → EReal) (b : Fin 16) (u : Fin 1024) : EReal := ∑ i, x b i * (P.k2 l u i * P.ka l u i)
def yI (l : Fin 3) (x : Fin 16 → Fin 1024 → EReal) (b : Fin 16) (u : Fin 1024) : EReal := ∑ i, x b i * (P.ci l u i * P.ki l u i)
def gain (l : Fin 3) (u : Fin 1024) : EReal := Ideal.div (P.k5 l u) (P.k5 l u + P.k5n l u)
/-- The next layer's input at the competition `p`. -/
def next (l : Fin 3) (p : Fin 16 → EReal) (x : Fin 16 → Fin 1024 → EReal) (b : Fin 16) (u : Fin 1024) : EReal :=
  Ideal.div (Ideal.div (P.yA l x b u * P.e0 * P.gain l u) (p b))
    (P.kdT l u + Ideal.div (P.k6 l u * Ideal.div (P.yI l x b u * P.e0) (p b * p b)) (P.kdI l u + eps) + eps)
/-- What a layer adds to the competition, before the division by it. -/
def add (l : Fin 3) (x : Fin 16 → Fin 1024 → EReal) (b : Fin 16) : EReal := ∑ i, x b i * P.col l i
/-- The inputs of layers 1 and 2 at the competition `p`. -/
def x1 (p : Fin 16 → EReal) : Fin 16 → Fin 1024 → EReal := P.next 0 p P.x0
def x2 (p : Fin 16 → EReal) : Fin 16 → Fin 1024 → EReal := P.next 1 p (P.x1 p)
/-- One iteration. -/
def iter (p : Fin 16 → EReal) (b : Fin 16) : EReal :=
  1 + Ideal.div (P.add 0 P.x0 b) (p b) + Ideal.div (P.add 1 (P.x1 p) b) (p b) + Ideal.div (P.add 2 (P.x2 p) b) (p b)
/-- The competition after five iterations from one. -/
def res : Fin 16 → EReal := P.iter (P.iter (P.iter (P.iter (P.iter fun _ => 1))))

variable {P} (h : P.Ok)
include h

/-! Every value stays in the range. -/

theorem ka_rng (l : Fin 3) (u i : Fin 1024) : Rng (P.ka l u i) :=
  Rng.select _ (.mul (.div (.inr (h.k1 l u i)) (.add (.inr (h.k1n l u i)) (.inr (h.k2 l u i)))) (.inr (h.ta l u i)))
theorem ki_rng (l : Fin 3) (u i : Fin 1024) : Rng (P.ki l u i) :=
  Rng.select _ (.mul (.div (.inr (h.k3 l u i)) (.add (.inr (h.k3n l u i)) (.inr (h.k4 l u i)))) (.inr (h.ti l u i)))
theorem col_rng (l : Fin 3) (i : Fin 1024) : Rng (P.col l i) := .sum fun u => .add (ka_rng h l u i) (ki_rng h l u i)
theorem gain_rng (l : Fin 3) (u : Fin 1024) : Rng (P.gain l u) := .div (.inr (h.k5 l u)) (.add (.inr (h.k5 l u)) (.inr (h.k5n l u)))
theorem kdI_pos (l : Fin 3) (u : Fin 1024) : 0 < P.kdI l u + eps := pos_add (h.kdI l u) eps_pos

section Layer

variable {x : Fin 16 → Fin 1024 → EReal} (hx : ∀ b i, Rng (x b i))
include hx

theorem add_rng (l : Fin 3) (b : Fin 16) : Rng (P.add l x b) := .sum fun i => .mul (hx b i) (col_rng h l i)
theorem yA_rng (l : Fin 3) (b : Fin 16) (u : Fin 1024) : Rng (P.yA l x b u) :=
  .sum fun i => .mul (hx b i) (.mul (.inr (h.k2 l u i)) (ka_rng h l u i))
theorem yI_rng (l : Fin 3) (b : Fin 16) (u : Fin 1024) : Rng (P.yI l x b u) :=
  .sum fun i => .mul (hx b i) (.mul (.inr (h.ci l u i)) (ki_rng h l u i))

variable {p : Fin 16 → EReal} (hp : ∀ b, Comp (p b))
include hp

theorem next_rng (l : Fin 3) (b : Fin 16) (u : Fin 1024) : Rng (P.next l p x b u) :=
  .div (.div (.mul (.mul (yA_rng h hx l b u) (.inr h.e0)) (gain_rng h l u)) (hp b).rng)
    (.add (.add (.inr (h.kdT l u)) (.div (.mul (.inr (h.k6 l u)) (.div (.mul (yI_rng h hx l b u) (.inr h.e0)) (.mul (hp b).rng (hp b).rng)))
      (.inr (kdI_pos h l u).le))) (.inr eps_pos.le))
/-- The kernel's layer. -/
theorem next_eq (l : Fin 3) (b : Fin 16) (u : Fin 1024) :
    Ideal.div (P.yA l x b u * (P.gain l u * P.e0 * p b))
      ((P.kdT l u + eps) * (p b * p b) + Ideal.div (P.k6 l u * P.e0) (P.kdI l u + eps) * P.yI l x b u) = P.next l p x b u :=
  layer_eq (hp b) (h.kdT l u) (h.k6 l u) h.e0 (kdI_pos h l u) (yI_rng h hx l b u) eps_pos

end Layer

variable {p : Fin 16 → EReal} (hp : ∀ b, Comp (p b))
include hp

theorem x1_rng (b : Fin 16) (i : Fin 1024) : Rng (P.x1 p b i) := next_rng h (fun b i => .inr (h.x0 b i)) hp 0 b i
theorem x2_rng (b : Fin 16) (i : Fin 1024) : Rng (P.x2 p b i) := next_rng h (x1_rng h hp) hp 1 b i
theorem iter_comp (b : Fin 16) : Comp (P.iter p b) := by
  unfold iter
  rw [add_assoc, add_assoc]
  exact Comp.one_add (.add (.div (add_rng h (fun b i => .inr (h.x0 b i)) 0 b) (hp b).rng)
    (.add (.div (add_rng h (x1_rng h hp) 1 b) (hp b).rng) (.div (add_rng h (x2_rng h hp) 2 b) (hp b).rng)))
omit h in
/-- The kernel's iteration divides the sum of the three layers once. -/
theorem iter_eq (b : Fin 16) :
    1 + Ideal.div (P.add 0 P.x0 b + P.add 1 (P.x1 p) b + P.add 2 (P.x2 p) b) (p b) = P.iter p b := by
  rw [div_add_add (hp b), iter, add_assoc, add_assoc, add_assoc]
omit h hp in
/-- The kernel's first iteration does not divide at all. -/
theorem first_eq (b : Fin 16) :
    1 + (P.add 0 P.x0 b + P.add 1 (P.x1 fun _ => 1) b) + P.add 2 (P.x2 fun _ => 1) b = P.iter (fun _ => 1) b := by
  rw [iter, div_one, div_one, div_one, add_assoc 1 (P.add 0 _ _)]

end Par

end Cert.Model

end
-- ==== Proof.KVal.lean ====
/- The kernel over the extended reals: where its blocks hold the numbers of `P`, it computes the fixed point of `P`, entry by entry. -/
module

public import proofs.«01_k».proof.Proof.State
public import proofs.«01_k».proof.Proof.Model

@[expose] public section

set_option maxRecDepth 16384

noncomputable section

namespace Cert.KernelIdeal.Hand

open Cert.KernelIdeal Cert.KernelIdeal.Gen Idealize.ShloMosaic
open Cert.Model

/-! What the body loads, entry by entry. -/

theorem tile_apply {e : EltTy} (X : Vec Ideal S1x256x1024 e) (r : Fin 256) (i : Fin 1024) : tile X (ix3 0 r i) = X (ix3 0 r i) := by
  unfold tile
  pointwise []
theorem batch_apply (X : Vec Ideal S16x1024 .f32) (b : Fin 16) (i : Fin 1024) : batch X (ix2 b i) = X (ix2 b i) := by
  unfold batch
  pointwise []
theorem column_apply (X : Vec Ideal S16x1 .f32) (b : Fin 16) : column X (ix2 b 0) = X (ix2 b 0) := by
  unfold column
  pointwise []
theorem row0_apply (X : Vec Ideal S3x1x1024 .f32) (i : Fin 1024) : row0 X (ix3 0 0 i) = X (ix3 0 0 i) := by
  unfold row0
  pointwise []
theorem row1_apply (X : Vec Ideal S3x1x1024 .f32) (i : Fin 1024) : row1 X (ix3 0 0 i) = X (ix3 1 0 i) := by
  unfold row1
  pointwise []
theorem row2_apply (X : Vec Ideal S3x1x1024 .f32) (i : Fin 1024) : row2 X (ix3 0 0 i) = X (ix3 2 0 i) := by
  unfold row2
  pointwise []
theorem slab0_apply (X : Vec Ideal S3x2048x1024 .f32) (u : Fin 2048) (i : Fin 1024) : slab0 X (ix3 0 u i) = X (ix3 0 u i) := by
  unfold slab0
  pointwise []
theorem slab1_apply (X : Vec Ideal S3x2048x1024 .f32) (u : Fin 2048) (i : Fin 1024) : slab1 X (ix3 0 u i) = X (ix3 1 u i) := by
  unfold slab1
  pointwise []

/-- Unit `r` of tile `t`. -/
def un (t : Fin 4) (r : Fin 256) : Fin 1024 := ⟨t.val * 256 + r.val, by omega⟩

/-- The blocks of one tile of one layer hold the numbers of `P`. -/
structure Blk.Reads (b : Blk Ideal) (P : Par) (l : Fin 3) (t : Fin 4) : Prop where
  k1 : ∀ r i, b.k1 (ix3 0 r i) = P.k1 l (un t r) i
  k1n : ∀ r i, b.k1n (ix3 0 r i) = P.k1n l (un t r) i
  k2 : ∀ r i, b.k2 (ix3 0 r i) = P.k2 l (un t r) i
  k3 : ∀ r i, b.k3 (ix3 0 r i) = P.k3 l (un t r) i
  k3n : ∀ r i, b.k3n (ix3 0 r i) = P.k3n l (un t r) i
  k4 : ∀ r i, b.k4 (ix3 0 r i) = P.k4 l (un t r) i
  ta : ∀ r i, b.ta (ix3 0 r i) = P.ta l (un t r) i
  ti : ∀ r i, b.ti (ix3 0 r i) = P.ti l (un t r) i
  ci : ∀ r i, b.ci (ix3 0 r i) = P.ci l (un t r) i
  mask : ∀ r i, b.mask (ix3 0 r i) = P.mask l (un t r) i
/-- The blocks that are the same at every point hold the numbers of `P`, and the combinations the host forms of them. -/
structure Blk.Shared (b : Blk Ideal) (P : Par) : Prop where
  x0 : ∀ a i, b.x0 (ix2 a i) = P.x0 a i
  gain : ∀ l u, b.gain (ix3 l 0 u) = P.gain l u * P.e0
  kb : ∀ l u, b.kb (ix3 l 0 u) = Ideal.div (P.k6 l u * P.e0) (P.kdI l u + eps)
  kd : ∀ l u, b.kd (ix3 l 0 u) = P.kdT l u + eps

section Tile

variable {b : Blk Ideal} {P : Par} {l : Fin 3} {t : Fin 4} (hb : b.Reads P l t)
include hb

theorem ka_apply (r : Fin 256) (i : Fin 1024) : ka b (ix2 r i) = P.ka l (un t r) i := by
  unfold ka
  pointwise [k0_pay41, k0_pay40]
  rw [tile_apply b.mask, tile_apply b.k1, tile_apply b.k1n, tile_apply b.k2, tile_apply b.ta]
  simp only [hb.k1, hb.k1n, hb.k2, hb.ta, hb.mask]
  rfl
/-- The activating weights and the inhibiting weights of a tile. -/
theorem wAct_apply (r : Fin 256) (i : Fin 1024) : wAct b (ix3 0 r i) = P.k2 l (un t r) i * P.ka l (un t r) i := by
  unfold wAct
  pointwise [k0_pay45]
  rw [tile_apply, hb.k2, ka_apply hb]
theorem wInh_apply (r : Fin 256) (i : Fin 1024) : wInh b (ix3 0 r i) = P.ci l (un t r) i * P.ki l (un t r) i := by
  unfold wInh neg kq
  pointwise [k0_pay46, k0_pay44, k0_pay42, k0_pay43, k0_pay40]
  rw [tile_apply b.mask, tile_apply b.ci, tile_apply b.k3, tile_apply b.k3n, tile_apply b.k4, tile_apply b.ti]
  simp only [hb.k3, hb.k3n, hb.k4, hb.ti, hb.ci, hb.mask]
  rw [Par.ki, Scalar.select, Scalar.select, mul_ite, mul_zero]
/-- The column sums of a tile, alone and added to a row. -/
theorem ki_apply (r : Fin 256) (i : Fin 1024) :
    Scalar.select (IntOp.cmpi CmpIPredicate.slt (tile b.mask (ix3 0 r i)) 0#32)
      (Ideal.div (tile b.k3 (ix3 0 r i)) (tile b.k3n (ix3 0 r i) + tile b.k4 (ix3 0 r i)) * tile b.ti (ix3 0 r i)) 0 = P.ki l (un t r) i := by
  rw [tile_apply b.mask, tile_apply b.k3, tile_apply b.k3n, tile_apply b.k4, tile_apply b.ti]
  simp only [hb.k3, hb.k3n, hb.k4, hb.ti, hb.mask]
  rfl
theorem vNew_apply (i : Fin 1024) : vNew b (ix3 0 0 i) = ∑ r : Fin 256, (P.ka l (un t r) i + P.ki l (un t r) i) := by
  unfold vNew neg kq
  pointwise [k0_pay48, k0_pay47, k0_pay44, k0_pay42, k0_pay43, k0_pay40]
  exact Finset.sum_congr rfl fun r _ => by rw [ka_apply hb, ← ki_apply hb]
theorem vAdd_apply (v : Vec Ideal S1x1x1024 .f32) (i : Fin 1024) :
    vAdd b v (ix3 0 0 i) = v (ix3 0 0 i) + ∑ r : Fin 256, (P.ka l (un t r) i + P.ki l (un t r) i) := by
  unfold vAdd neg kq
  pointwise [k0_pay49, k0_pay47, k0_pay44, k0_pay42, k0_pay43, k0_pay40]
  exact congrArg _ (Finset.sum_congr rfl fun r _ => by rw [ka_apply hb, ← ki_apply hb])

end Tile

section Store

variable {B : ℕ → Blk Ideal} {P : Par} (hB : ∀ (l : Fin 3) (t : Fin 4), (B (4 * l.val + t.val)).Reads P l t)
include hB

/-- All the weights, the activating half and the inhibiting half, and all the column sums. -/
theorem wAll_act (l : Fin 3) (u i : Fin 1024) (hu : u.val < 2048) : wAll B (ix3 l ⟨u.val, hu⟩ i) = P.k2 l u i * P.ka l u i := by
  have ht : u.val / 256 < 4 := by omega
  have e : ptW (ix3 l ⟨u.val, hu⟩ i) = 4 * l.val + u.val / 256 := by
    show 4 * l.val + u.val % 1024 / 256 = _
    omega
  have e' : ixT (ix3 l ⟨u.val, hu⟩ i) = ix3 0 ⟨u.val % 256, Nat.mod_lt _ (by decide)⟩ i := by
    funext a
    fin_cases a <;> rfl
  have eu : un ⟨u.val / 256, ht⟩ ⟨u.val % 256, Nat.mod_lt _ (by decide)⟩ = u := Fin.ext (by show u.val / 256 * 256 + u.val % 256 = _; omega)
  refine (if_pos (show u.val < 1024 from u.isLt)).trans ?_
  rw [e, e']
  exact (wAct_apply (hB l ⟨u.val / 256, ht⟩) _ i).trans (by rw [eu])
theorem wAll_inh (l : Fin 3) (u i : Fin 1024) (hu : 1024 + u.val < 2048) : wAll B (ix3 l ⟨1024 + u.val, hu⟩ i) = P.ci l u i * P.ki l u i := by
  have ht : u.val / 256 < 4 := by omega
  have e : ptW (ix3 l ⟨1024 + u.val, hu⟩ i) = 4 * l.val + u.val / 256 := by
    show 4 * l.val + (1024 + u.val) % 1024 / 256 = _
    omega
  have e' : ixT (ix3 l ⟨1024 + u.val, hu⟩ i) = ix3 0 ⟨u.val % 256, Nat.mod_lt _ (by decide)⟩ i := by
    funext a
    fin_cases a
    · rfl
    · exact Fin.ext (show (1024 + u.val) % 256 = u.val % 256 by omega)
    · rfl
  have eu : un ⟨u.val / 256, ht⟩ ⟨u.val % 256, Nat.mod_lt _ (by decide)⟩ = u := Fin.ext (by show u.val / 256 * 256 + u.val % 256 = _; omega)
  refine (if_neg (show ¬ 1024 + u.val < 1024 by omega)).trans ?_
  rw [e, e']
  exact (wInh_apply (hB l ⟨u.val / 256, ht⟩) _ i).trans (by rw [eu])
theorem vAll_apply (l : Fin 3) (i : Fin 1024) : vAll B (ix3 l 0 i) = P.col l i := by
  have e : ixR (ix3 l 0 i) = ix3 0 0 i := by
    funext a
    fin_cases a <;> rfl
  have es : P.col l i = ∑ t : Fin 4, ∑ r : Fin 256, (P.ka l (un t r) i + P.ki l (un t r) i) :=
    Fin.sum_univ_tiles 4 256 rfl fun u : Fin 1024 => P.ka l u i + P.ki l u i
  have h1 := vAdd_apply (hB l 1) (vPart B l.val 0) i
  have h2 := vAdd_apply (hB l 2) (vPart B l.val 1) i
  have h3 := vAdd_apply (hB l 3) (vPart B l.val 2) i
  have h0 := vNew_apply (hB l 0) i
  show vPart B l.val 3 (ixR (ix3 l 0 i)) = _
  rw [e, es, Fin.sum_univ_four, ← h0]
  refine h3.trans (congrArg (· + _) (h2.trans (congrArg (· + _) h1)))

end Store

section Layer

variable {P : Par} {l : Fin 3}
  {X : FVec Ideal S16x1024 .f32} {x : Fin 16 → Fin 1024 → EReal} (hX : ∀ b i, X (ix2 b i) = x b i)
include hX

/-- What one layer adds to the total. -/
theorem total_apply {v : Vec Ideal S1x1x1024 .f32} (hv : ∀ i, v (ix3 0 0 i) = P.col l i) (b : Fin 16) : total X v (ix2 b 0) = P.add l x b := by
  unfold total
  pointwise []
  simp only [hX, hv]
  rfl

variable (h : P.Ok) {W : Vec Ideal S1x2048x1024 .f32}
  (hA : ∀ (u i : Fin 1024) (hu : u.val < 2048), W (ix3 0 ⟨u.val, hu⟩ i) = P.k2 l u i * P.ka l u i)
  (hI : ∀ (u i : Fin 1024) (hu : 1024 + u.val < 2048), W (ix3 0 ⟨1024 + u.val, hu⟩ i) = P.ci l u i * P.ki l u i)
  {g d k : Vec Ideal S1x1x1024 .f32} (hg : ∀ u, g (ix3 0 0 u) = P.gain l u * P.e0) (hd : ∀ u, d (ix3 0 0 u) = P.kdT l u + eps)
  (hk : ∀ u, k (ix3 0 0 u) = Ideal.div (P.k6 l u * P.e0) (P.kdI l u + eps))
include h hA hI hg hd hk

/-- The next layer's input at the competition `p`, and at the competition one. -/
theorem next_apply {p : FVec Ideal S16x1 .f32} {q : Fin 16 → EReal} (hp : ∀ b, p (ix2 b 0) = q b) (hq : ∀ b, Comp (q b))
    (hx : ∀ b i, Rng (x b i)) (b : Fin 16) (u : Fin 1024) : next X p W g d k (ix2 b u) = P.next l q x b u := by
  unfold next
  pointwise []
  simp only [hX, hp, hA, hI, hg, hd, hk]
  exact Par.next_eq h hx hq l b u
theorem next1_apply (hx : ∀ b i, Rng (x b i)) (b : Fin 16) (u : Fin 1024) : next1 X W g d k (ix2 b u) = P.next l (fun _ => 1) x b u := by
  have he := Par.next_eq h hx (fun _ => Comp.one) l b u
  simp only [mul_one] at he
  unfold next1
  pointwise [k0_pay4]
  simp only [hX, hA, hI, hg, hd, hk]
  exact he

end Layer

/-- The three places where the kernel adds a layer to the running total of its first iteration. -/
theorem pay5_apply (X : FVec Ideal S16x1024 .f32) (v : Vec Ideal S1x1x1024 .f32) (b : Fin 16) :
    k0_pay5 (F := Ideal) X v (ix2 b 0) = total X v (ix2 b 0) := by
  unfold total
  pointwise [k0_pay5]
theorem pay7_apply (X : FVec Ideal S16x1024 .f32) (n : FVec Ideal S16x1 .f32) (v : Vec Ideal S1x1x1024 .f32) (b : Fin 16) :
    k0_pay7 (F := Ideal) X n v (ix2 b 0) = n (ix2 b 0) + total X v (ix2 b 0) := by
  unfold total
  pointwise [k0_pay7]
theorem pay8_apply (X : FVec Ideal S16x1024 .f32) (n : FVec Ideal S16x1 .f32) (v : Vec Ideal S1x1x1024 .f32) (b : Fin 16) :
    k0_pay8 (F := Ideal) X v n (ix2 b 0) = 1 + n (ix2 b 0) + total X v (ix2 b 0) := by
  unfold total
  pointwise [k0_pay8]

section Whole

variable {B : ℕ → Blk Ideal} {P : Par} (hB : ∀ (l : Fin 3) (t : Fin 4), (B (4 * l.val + t.val)).Reads P l t)
  (hS : ∀ n, (B n).Shared P) (h : P.Ok)
include hB hS h

/-- One iteration of the last point is one of the fixed point. -/
theorem iter_apply {p : FVec Ideal S16x1 .f32} {q : Fin 16 → EReal} (hp : ∀ b, p (ix2 b 0) = (q b)) (hq : ∀ b, Comp (q b)) (b : Fin 16) :
    iter (batch (B 11).x0) (wAll B) (vAll B) (B 11).gain (B 11).kd (B 11).kb p (ix2 b 0) = (P.iter q b) := by
  have hx0 : ∀ b i, batch (B 11).x0 (ix2 b i) = (P.x0 b i) := fun b i => (batch_apply _ b i).trans ((hS 11).x0 b i)
  have hx1 := next_apply hx0 h (fun u i hu => (slab0_apply _ _ i).trans (wAll_act hB 0 u i hu)) (fun u i hu => (slab0_apply _ _ i).trans (wAll_inh hB 0 u i hu))
    (fun u => (row0_apply _ u).trans ((hS 11).gain 0 u)) (fun u => (row0_apply _ u).trans ((hS 11).kd 0 u)) (fun u => (row0_apply _ u).trans ((hS 11).kb 0 u)) hp hq (fun b i => .inr (h.x0 b i))
  have hx2 := next_apply hx1 h (fun u i hu => (slab1_apply _ _ i).trans (wAll_act hB 1 u i hu)) (fun u i hu => (slab1_apply _ _ i).trans (wAll_inh hB 1 u i hu))
    (fun u => (row1_apply _ u).trans ((hS 11).gain 1 u)) (fun u => (row1_apply _ u).trans ((hS 11).kd 1 u)) (fun u => (row1_apply _ u).trans ((hS 11).kb 1 u)) hp hq (Par.x1_rng h hq)
  have a0 := total_apply hx0 (fun i => (row0_apply _ i).trans (vAll_apply hB 0 i)) b
  have a1 := total_apply hx1 (fun i => (row1_apply _ i).trans (vAll_apply hB 1 i)) b
  have a2 := total_apply hx2 (fun i => (row2_apply _ i).trans (vAll_apply hB 2 i)) b
  unfold iter
  pointwise []
  rw [a0, a1, a2, hp]
  exact Par.iter_eq hq b

/-- The first iteration, spread over the first points of layers 1 and 2 and the last point. -/
theorem first_apply (b : Fin 16) : k0_pay8 (batch (xTwo B)) (row2 (vAll B)) (column (nTwo B)) (ix2 b 0) = (P.iter (fun _ => 1) b) := by
  have h1 : ∀ b, Comp ((fun _ => 1 : Fin 16 → EReal) b) := fun _ => Comp.one
  have hx0 : ∀ b i, batch (B 4).x0 (ix2 b i) = (P.x0 b i) := fun b i => (batch_apply _ b i).trans ((hS 4).x0 b i)
  have hx1 : ∀ b i, batch (xOne B) (ix2 b i) = (P.x1 (fun _ => 1) b i) := fun b i => by
    rw [batch_apply, xOne, x1]
    pointwise [k0_pay1]
    exact next1_apply hx0 h (fun u i hu => (slab0_apply _ _ i).trans (wAll_act hB 0 u i hu)) (fun u i hu => (slab0_apply _ _ i).trans (wAll_inh hB 0 u i hu))
      (fun u => (row0_apply _ u).trans ((hS 4).gain 0 u)) (fun u => (row0_apply _ u).trans ((hS 4).kd 0 u)) (fun u => (row0_apply _ u).trans ((hS 4).kb 0 u)) (fun b i => .inr (h.x0 b i)) b i
  have hx2 : ∀ b i, batch (xTwo B) (ix2 b i) = (P.x2 (fun _ => 1) b i) := fun b i => by
    rw [batch_apply, xTwo, x2]
    pointwise [k0_pay1]
    exact next1_apply hx1 h (fun u i hu => (slab1_apply _ _ i).trans (wAll_act hB 1 u i hu)) (fun u i hu => (slab1_apply _ _ i).trans (wAll_inh hB 1 u i hu))
      (fun u => (row1_apply _ u).trans ((hS 8).gain 1 u)) (fun u => (row1_apply _ u).trans ((hS 8).kd 1 u)) (fun u => (row1_apply _ u).trans ((hS 8).kb 1 u)) (Par.x1_rng h h1) b i
  have a0 := total_apply hx0 (fun i => (row0_apply _ i).trans (vAll_apply hB 0 i)) b
  have a1 := total_apply hx1 (fun i => (row1_apply _ i).trans (vAll_apply hB 1 i)) b
  have a2 := total_apply hx2 (fun i => (row2_apply _ i).trans (vAll_apply hB 2 i)) b
  have s0 := pay5_apply (batch (B 4).x0) (row0 (vAll B)) b
  have s1 := pay7_apply (batch (xOne B)) (column (nOne B)) (row1 (vAll B)) b
  rw [a1, column_apply] at s1
  rw [a0] at s0
  rw [pay8_apply, a2, column_apply, show nTwo B (ix2 b 0) = _ from s1, show nOne B (ix2 b 0) = _ from s0, Par.first_eq]

/-- What the kernel stores in its output. -/
theorem final_apply (b : Fin 16) : final B (ix2 b 0) = (P.res b) := by
  have g0 : ∀ b, Comp ((fun _ => 1 : Fin 16 → EReal) b) := fun _ => Comp.one
  have g1 := Par.iter_comp h g0
  have g2 := Par.iter_comp h g1
  have g3 := Par.iter_comp h g2
  have g4 := Par.iter_comp h g3
  exact iter_apply hB hS h (iter_apply hB hS h (iter_apply hB hS h (iter_apply hB hS h (first_apply hB hS h) g1) g2) g3) g4 b

end Whole

end Cert.KernelIdeal.Hand

end
-- ==== Proof.Args.lean ====
/- The arguments of the programs, and their entries. -/
module

public import proofs.«01_k».proof.Proof.Model

@[expose] public section

noncomputable section

namespace Cert.Model

open Idealize.ShloMosaic

/-- The shapes of the arguments. -/
abbrev Sx : Shape := ⟨2, ![16, 1024]⟩
abbrev Sm : Shape := ⟨3, ![3, 1024, 1024]⟩
abbrev Sv : Shape := ⟨2, ![3, 1024]⟩
abbrev Ss : Shape := ⟨0, ![]⟩

/-- The arguments over the extended reals, in the programs' order. -/
@[ext]
structure Args where
  x0 : FVec Ideal Sx .f32
  k1 : FVec Ideal Sm .f32
  k1n : FVec Ideal Sm .f32
  k2 : FVec Ideal Sm .f32
  k3 : FVec Ideal Sm .f32
  k3n : FVec Ideal Sm .f32
  k4 : FVec Ideal Sm .f32
  k5 : FVec Ideal Sv .f32
  k5n : FVec Ideal Sv .f32
  k6 : FVec Ideal Sv .f32
  kdI : FVec Ideal Sv .f32
  kdT : FVec Ideal Sv .f32
  ta : FVec Ideal Sm .f32
  ti : FVec Ideal Sm .f32
  ci : FVec Ideal Sm .f32
  mask : IVec Sm 32
  e0 : FVec Ideal Ss .f32

/-- The entries of the arguments are those of `P`. -/
structure Args.Hold (A : Args) (P : Par) : Prop where
  x0 : ∀ b i, A.x0 (ix2 b i) = P.x0 b i
  k1 : ∀ l u i, A.k1 (ix3 l u i) = P.k1 l u i
  k1n : ∀ l u i, A.k1n (ix3 l u i) = P.k1n l u i
  k2 : ∀ l u i, A.k2 (ix3 l u i) = P.k2 l u i
  k3 : ∀ l u i, A.k3 (ix3 l u i) = P.k3 l u i
  k3n : ∀ l u i, A.k3n (ix3 l u i) = P.k3n l u i
  k4 : ∀ l u i, A.k4 (ix3 l u i) = P.k4 l u i
  ta : ∀ l u i, A.ta (ix3 l u i) = P.ta l u i
  ti : ∀ l u i, A.ti (ix3 l u i) = P.ti l u i
  ci : ∀ l u i, A.ci (ix3 l u i) = P.ci l u i
  mask : ∀ l u i, A.mask (ix3 l u i) = P.mask l u i
  k5 : ∀ l u, A.k5 (ix2 l u) = P.k5 l u
  k5n : ∀ l u, A.k5n (ix2 l u) = P.k5n l u
  k6 : ∀ l u, A.k6 (ix2 l u) = P.k6 l u
  kdI : ∀ l u, A.kdI (ix2 l u) = P.kdI l u
  kdT : ∀ l u, A.kdT (ix2 l u) = P.kdT l u
  e0 : A.e0 ix0 = P.e0

/-- The arguments entry by entry. -/
def Args.par (A : Args) : Par where
  x0 b i := A.x0 (ix2 b i)
  k1 l u i := A.k1 (ix3 l u i)
  k1n l u i := A.k1n (ix3 l u i)
  k2 l u i := A.k2 (ix3 l u i)
  k3 l u i := A.k3 (ix3 l u i)
  k3n l u i := A.k3n (ix3 l u i)
  k4 l u i := A.k4 (ix3 l u i)
  ta l u i := A.ta (ix3 l u i)
  ti l u i := A.ti (ix3 l u i)
  ci l u i := A.ci (ix3 l u i)
  mask l u i := A.mask (ix3 l u i)
  k5 l u := A.k5 (ix2 l u)
  k5n l u := A.k5n (ix2 l u)
  k6 l u := A.k6 (ix2 l u)
  kdI l u := A.kdI (ix2 l u)
  kdT l u := A.kdT (ix2 l u)
  e0 := A.e0 ix0

/-- They hold their own entries. -/
theorem Args.hold (A : Args) : A.Hold A.par :=
  ⟨fun _ _ => rfl, fun _ _ _ => rfl, fun _ _ _ => rfl, fun _ _ _ => rfl, fun _ _ _ => rfl, fun _ _ _ => rfl, fun _ _ _ => rfl, fun _ _ _ => rfl,
   fun _ _ _ => rfl, fun _ _ _ => rfl, fun _ _ _ => rfl, fun _ _ => rfl, fun _ _ => rfl, fun _ _ => rfl, fun _ _ => rfl, fun _ _ => rfl, rfl⟩

end Cert.Model

end
-- ==== Proof.KHost.lean ====
/- The blocks the kernel is handed: which entries of the arguments each of them holds, and what the host computes before. -/
module

public import proofs.«01_k».proof.Proof.Run
public import proofs.«01_k».proof.Proof.KVal
public import proofs.«01_k».proof.Proof.Args
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe
open Cert.Model

variable (m : (ℓ : Loc nD τ sig) → Buf (Elt Ideal) ℓ) (c : Dev nD)

/-- The arguments of the kernel. -/
def args : Args :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8),
   m ((c.tc : Thread nD τ).loc main_arg9), m ((c.tc : Thread nD τ).loc main_arg10), m ((c.tc : Thread nD τ).loc main_arg11),
   m ((c.tc : Thread nD τ).loc main_arg12), m ((c.tc : Thread nD τ).loc main_arg13), m ((c.tc : Thread nD τ).loc main_arg14),
   m ((c.tc : Thread nD τ).loc main_arg15), m ((c.tc : Thread nD τ).loc main_arg16)⟩

/-- What the host computes before the launch. -/
theorem V_gain : V m c main_v4 = shapeCast S3x1x1024 (mulf (Host.divf (args m c).k5 (addf (args m c).k5 (args m c).k5n))
    (broadcastInDim S3x1024 ![] bcast_S_S3x1024 (args m c).e0)) shapeCasts_S3x1024_S3x1x1024 := by
  show StableHlo.after hostOps0 _ (Proc.devRef .tc main_v4) = _
  unfold hostOps0
  after_results
  rfl
theorem V_kb : V m c main_v10 = shapeCast S3x1x1024 (Host.divf (mulf (args m c).k6 (broadcastInDim S3x1024 ![] bcast_S_S3x1024 (args m c).e0))
    (addf (args m c).kdI (broadcastInDim S3x1024 ![] bcast_S_S3x1024 (constant S_ .f32 0x358637BD#32)))) shapeCasts_S3x1024_S3x1x1024 := by
  show StableHlo.after hostOps0 _ (Proc.devRef .tc main_v10) = _
  unfold hostOps0
  after_results
  rfl
theorem V_kd : V m c main_v13 = shapeCast S3x1x1024 (addf (args m c).kdT (broadcastInDim S3x1024 ![] bcast_S_S3x1024 (constant S_ .f32 0x358637BD#32)))
    shapeCasts_S3x1024_S3x1x1024 := by
  show StableHlo.after hostOps0 _ (Proc.devRef .tc main_v13) = _
  unfold hostOps0
  after_results
  rfl

/-- Which block each window takes at a point: a tile of a layer, or the whole array. -/
theorem index_tile : ∀ t : Fin grid0.N, (win0_0.index t = ![t.val / 4, t.val % 4, 0] ∧ win0_1.index t = ![t.val / 4, t.val % 4, 0]
    ∧ win0_2.index t = ![t.val / 4, t.val % 4, 0] ∧ win0_3.index t = ![t.val / 4, t.val % 4, 0] ∧ win0_4.index t = ![t.val / 4, t.val % 4, 0])
    ∧ win0_5.index t = ![t.val / 4, t.val % 4, 0] ∧ win0_6.index t = ![t.val / 4, t.val % 4, 0] ∧ win0_7.index t = ![t.val / 4, t.val % 4, 0]
    ∧ win0_8.index t = ![t.val / 4, t.val % 4, 0] ∧ win0_9.index t = ![t.val / 4, t.val % 4, 0] := by decide +kernel
theorem index_whole : ∀ t : Fin grid0.N, win0_10.index t = ![0, 0] ∧ win0_11.index t = ![0, 0, 0] ∧ win0_12.index t = ![0, 0, 0]
    ∧ win0_13.index t = ![0, 0, 0] := by decide +kernel

/-- Where in its array an entry of a block sits. -/
theorem emb_tile (t : Fin cfg0.N) (l : Fin 3) (s : Fin 4) (ht : t.val = 4 * l.val + s.val) (r : Fin 256) (i : Fin 1024) :
    ((win0_0.blk t).view.emb (ix3 0 r i) = ix3 l (un s r) i ∧ (win0_1.blk t).view.emb (ix3 0 r i) = ix3 l (un s r) i
      ∧ (win0_2.blk t).view.emb (ix3 0 r i) = ix3 l (un s r) i ∧ (win0_3.blk t).view.emb (ix3 0 r i) = ix3 l (un s r) i
      ∧ (win0_4.blk t).view.emb (ix3 0 r i) = ix3 l (un s r) i)
    ∧ (win0_5.blk t).view.emb (ix3 0 r i) = ix3 l (un s r) i ∧ (win0_6.blk t).view.emb (ix3 0 r i) = ix3 l (un s r) i
    ∧ (win0_7.blk t).view.emb (ix3 0 r i) = ix3 l (un s r) i ∧ (win0_8.blk t).view.emb (ix3 0 r i) = ix3 l (un s r) i
    ∧ (win0_9.blk t).view.emb (ix3 0 r i) = ix3 l (un s r) i := by
  have hu : (un s r).val = s.val * 256 + r.val := rfl
  obtain ⟨⟨e0, e1, e2, e3, e4⟩, e5, e6, e7, e8, e9⟩ := index_tile t
  refine ⟨⟨?_, ?_, ?_, ?_, ?_⟩, ?_, ?_, ?_, ?_, ?_⟩ <;> blk_ext [e0, e1, e2, e3, e4, e5, e6, e7, e8, e9]
theorem emb_whole (t : Fin cfg0.N) (l : Fin 3) (b : Fin 16) (i : Fin 1024) :
    (win0_10.blk t).view.emb (ix2 b i) = ix2 b i ∧ (win0_11.blk t).view.emb (ix3 l 0 i) = ix3 l 0 i
    ∧ (win0_12.blk t).view.emb (ix3 l 0 i) = ix3 l 0 i ∧ (win0_13.blk t).view.emb (ix3 l 0 i) = ix3 l 0 i := by
  obtain ⟨e10, e11, e12, e13⟩ := index_whole t
  refine ⟨?_, ?_, ?_, ?_⟩ <;> blk_ext [e10, e11, e12, e13]

variable {m c} {P : Par} (hA : (args m c).Hold P)
include hA

set_option maxHeartbeats 4000000 in
/-- The blocks of point `4 * l + s` hold tile `s` of layer `l`. -/
theorem reads_at (t : Fin cfg0.N) (l : Fin 3) (s : Fin 4) (ht : t.val = 4 * l.val + s.val) : (blkAt m c t).Reads P l s := by
  have h (r i) := emb_tile t l s ht r i
  exact ⟨fun r i => (congrArg (V m c main_arg1) (h r i).1.1).trans ((congrFun (V_main_arg1 m c) _).trans (hA.k1 l _ i)),
    fun r i => (congrArg (V m c main_arg2) (h r i).1.2.1).trans ((congrFun (V_main_arg2 m c) _).trans (hA.k1n l _ i)),
    fun r i => (congrArg (V m c main_arg3) (h r i).1.2.2.1).trans ((congrFun (V_main_arg3 m c) _).trans (hA.k2 l _ i)),
    fun r i => (congrArg (V m c main_arg4) (h r i).1.2.2.2.1).trans ((congrFun (V_main_arg4 m c) _).trans (hA.k3 l _ i)),
    fun r i => (congrArg (V m c main_arg5) (h r i).1.2.2.2.2).trans ((congrFun (V_main_arg5 m c) _).trans (hA.k3n l _ i)),
    fun r i => (congrArg (V m c main_arg6) (h r i).2.1).trans ((congrFun (V_main_arg6 m c) _).trans (hA.k4 l _ i)),
    fun r i => (congrArg (V m c main_arg12) (h r i).2.2.1).trans ((congrFun (V_main_arg12 m c) _).trans (hA.ta l _ i)),
    fun r i => (congrArg (V m c main_arg13) (h r i).2.2.2.1).trans ((congrFun (V_main_arg13 m c) _).trans (hA.ti l _ i)),
    fun r i => (congrArg (V m c main_arg14) (h r i).2.2.2.2.1).trans ((congrFun (V_main_arg14 m c) _).trans (hA.ci l _ i)),
    fun r i => (congrArg (V m c main_arg15) (h r i).2.2.2.2.2).trans ((congrFun (V_main_arg15 m c) _).trans (hA.mask l _ i))⟩
theorem reads (l : Fin 3) (s : Fin 4) : (blks m c (4 * l.val + s.val)).Reads P l s :=
  reads_at hA _ l s (show (4 * l.val + s.val) % 12 = _ by omega)

theorem gain_apply (l : Fin 3) (u : Fin 1024) : V m c main_v4 (ix3 l 0 u) = P.gain l u * P.e0 := by
  rw [V_gain]
  pointwise []
  rw [hA.k5, hA.k5n, hA.e0, Par.gain]
theorem kb_apply (l : Fin 3) (u : Fin 1024) : V m c main_v10 (ix3 l 0 u) = Ideal.div (P.k6 l u * P.e0) (P.kdI l u + eps) := by
  rw [V_kb]
  pointwise []
  rw [hA.k6, hA.kdI, hA.e0]
  rfl
theorem kd_apply (l : Fin 3) (u : Fin 1024) : V m c main_v13 (ix3 l 0 u) = P.kdT l u + eps := by
  rw [V_kd]
  pointwise []
  rw [hA.kdT]
  rfl

/-- The blocks that every point shares. -/
theorem shared (n : ℕ) : (blks m c n).Shared P := by
  have e (l b i) := emb_whole ⟨n % 12, by show _ < grid0.N; rw [N_0]; exact Nat.mod_lt _ (by decide)⟩ l b i
  exact ⟨fun b i => (congrArg (V m c main_arg0) (e 0 b i).1).trans ((congrFun (V_main_arg0 m c) _).trans (hA.x0 b i)),
    fun l u => (congrArg (V m c main_v4) (e l 0 u).2.1).trans (gain_apply hA l u),
    fun l u => (congrArg (V m c main_v10) (e l 0 u).2.2.1).trans (kb_apply hA l u),
    fun l u => (congrArg (V m c main_v13) (e l 0 u).2.2.2).trans (kd_apply hA l u)⟩

/-- What the kernel leaves in its output. -/
theorem output_apply (h : P.Ok) (b : Fin 16) : (dats m 0 c).arrAt 14 cfg0.N (ix2 b 0) = P.res b := by
  have ho : (dats m 0 c).arrAt 14 cfg0.N = final (blks m c) :=
    (dats m 0 c).arrAt_eq_of_after_last 14 ⟨11, by decide +kernel⟩ (by decide +kernel) (final (blks m c)) fun j => rfl
  rw [ho]
  exact final_apply (reads hA) (shared hA) h b

end Cert.KernelIdeal.Hand

end
-- ==== Proof.Range.lean ====
/- What the precondition says of the arguments over the extended reals: no entry is negative. -/
module

public import proofs.«01_k».proof.Defs
public import proofs.«01_k».proof.Proof.KHost

@[expose] public section

set_option maxRecDepth 16384

noncomputable section

namespace Cert.Proof

open Idealize.ShloMosaic Cert.Model

theorem pre_facts : Cert.Pre_rates.Facts := ⟨by decide, by decide, by decide⟩

/-- An array that is nowhere below a broadcast zero. -/
theorem nonneg_of {s : Shape} {x z : FVec Ideal s .f32} (hz : ∀ j, z j = (0 : EReal)) (h : cmpf .oge x z = fun _ => 1#1) (j : s.Idx) :
    (0 : EReal) ≤ x j := by
  have h2 : Ideal.cmp .oge (x j) (z j) = 1#1 := congrFun h j
  rw [hz] at h2
  by_contra hn
  simp [Ideal.cmp, hn] at h2
theorem zero_apply {s : Shape} (h : Ss.BroadcastsInDim s (![] : Fin 0 → Fin s.rank)) (j : s.Idx) :
    broadcastInDim s ![] h (constant (F := Ideal) Ss .f32 0x00000000#32) j = (0 : EReal) := Ideal.ofBits_zero_f32

set_option maxHeartbeats 4000000 in
/-- The precondition, entry by entry. -/
theorem good (m : (ℓ : Loc Cert.KernelIdeal.nD Cert.KernelIdeal.τ Cert.KernelIdeal.sig) → Buf (Elt Ideal) ℓ)
    (h : Cert.Pre_KernelIdeal_rates (hPre_rates := pre_facts) m) (c : Dev Cert.KernelIdeal.nD) : (Cert.KernelIdeal.Hand.args m c).par.Ok := by
  obtain ⟨h0, h1, h2, h3, h4, h5, h6, h7, h8, h9, h10, h11, h12, h13, h14, h16⟩ := h c
  haveI := pre_facts
  have zm := zero_apply (s := Sm) Cert.Pre_rates.Facts.bcast_S_S3x1024x1024
  have zv := zero_apply (s := Sv) Cert.Pre_rates.Facts.bcast_S_S3x1024
  exact {
    x0 := fun _ _ => nonneg_of (zero_apply (s := Sx) Cert.Pre_rates.Facts.bcast_S_S16x1024) h0 _
    k1 := fun _ _ _ => nonneg_of zm h1 _
    k1n := fun _ _ _ => nonneg_of zm h2 _
    k2 := fun _ _ _ => nonneg_of zm h3 _
    k3 := fun _ _ _ => nonneg_of zm h4 _
    k3n := fun _ _ _ => nonneg_of zm h5 _
    k4 := fun _ _ _ => nonneg_of zm h6 _
    k5 := fun _ _ => nonneg_of zv h7 _
    k5n := fun _ _ => nonneg_of zv h8 _
    k6 := fun _ _ => nonneg_of zv h9 _
    kdI := fun _ _ => nonneg_of zv h10 _
    kdT := fun _ _ => nonneg_of zv h11 _
    ta := fun _ _ _ => nonneg_of zm h12 _
    ti := fun _ _ _ => nonneg_of zm h13 _
    ci := fun _ _ _ => nonneg_of zm h14 _
    e0 := nonneg_of (z := constant Ss .f32 0x00000000#32) (fun _ => Ideal.ofBits_zero_f32) h16 _ }

end Cert.Proof

end
-- ==== Proof.Ref.lean ====
/- What the reference computes: one layer and one iteration as functions of a layer's arrays, and the whole program as five
   iterations of them. -/
module

public import proofs.«01_k».proof.Proof.Gen.ReferenceIdeal.Run

@[expose] public section

set_option maxRecDepth 16384

noncomputable section

namespace Cert.ReferenceIdeal.Hand

open Idealize.SL.Sem Idealize.ShloMosaic.StableHlo
open Cert.ReferenceIdeal Cert.ReferenceIdeal.Gen Cert.ReferenceIdeal.Value Idealize.ShloMosaic Idealize.ShloMosaic.TcCoe

variable {F : FTy → Type} [FloatOps F]

/-- The arrays of one layer. -/
structure Lay (F : FTy → Type) where
  k1 : FVec F S1024x1024 .f32
  k1n : FVec F S1024x1024 .f32
  k2 : FVec F S1024x1024 .f32
  k3 : FVec F S1024x1024 .f32
  k3n : FVec F S1024x1024 .f32
  k4 : FVec F S1024x1024 .f32
  ta : FVec F S1024x1024 .f32
  ti : FVec F S1024x1024 .f32
  ci : FVec F S1024x1024 .f32
  mask : IVec S1024x1024 32
  k5 : FVec F S1024 .f32
  k5n : FVec F S1024 .f32
  k6 : FVec F S1024 .f32
  kdI : FVec F S1024 .f32
  kdT : FVec F S1024 .f32

namespace Lay

variable (L : Lay F)

/-- The activating and the inhibiting rates. -/
def ka : FVec F S1024x1024 .f32 :=
  select (cmpi .sgt L.mask (broadcastInDim S1024x1024 ![] bcast_S_S1024x1024 (constantI S_ 32 0#32)))
    (mulf (Host.divf L.k1 (addf L.k1n L.k2)) L.ta) (broadcastInDim S1024x1024 ![] bcast_S_S1024x1024 (id (constant S_ .f32 0x00000000#32)))
def ki : FVec F S1024x1024 .f32 :=
  select (cmpi .slt L.mask (broadcastInDim S1024x1024 ![] bcast_S_S1024x1024 (constantI S_ 32 0#32)))
    (mulf (Host.divf L.k3 (addf L.k3n L.k4)) L.ti) (broadcastInDim S1024x1024 ![] bcast_S_S1024x1024 (id (constant S_ .f32 0x00000000#32)))
/-- A vector laid under every row of the batch, a column beside every column of it. -/
abbrev rows (r : FVec F S1024 .f32) : FVec F S16x1024 .f32 :=
  broadcastInDim S16x1024 ![0, 1] bcast_S1x1024_S16x1024_0_1 (broadcastInDim S1x1024 ![1] bcast_S1024_S1x1024_1 r)
abbrev cols (p : FVec F S16x1 .f32) : FVec F S16x1024 .f32 := broadcastInDim S16x1024 ![0, 1] bcast_S16x1_S16x1024_0_1 p
/-- The batch against weights, times the enzyme. -/
abbrev prod (e : FVec F S_ .f32) (X : FVec F S16x1024 .f32) (W : FVec F S1024x1024 .f32) : FVec F S16x1024 .f32 :=
  mulf (Host.dotGeneral dot_S16x1024_S1024x1024_S16x1024_1_0_0_1_n_n none X (transpose S1024x1024 [1, 0] W transposes_S1024x1024_S1024x1024_1_0))
    (broadcastInDim S16x1024 ![] bcast_S_S16x1024 e)
/-- The next layer's input at the competition `p`. -/
def next (e : FVec F S_ .f32) (p : FVec F S16x1 .f32) (X : FVec F S16x1024 .f32) : FVec F S16x1024 .f32 :=
  Host.divf (Host.divf (mulf (prod e X (mulf L.k2 L.ka)) (rows (Host.divf L.k5 (addf L.k5 L.k5n)))) (cols p))
    (addf (addf (rows L.kdT) (Host.divf (mulf (rows L.k6) (Host.divf (prod e X (mulf L.ci L.ki)) (cols (mulf p p))))
        (broadcastInDim S16x1024 ![0, 1] bcast_S1x1024_S16x1024_0_1
          (addf (broadcastInDim S1x1024 ![1] bcast_S1024_S1x1024_1 L.kdI) (broadcastInDim S1x1024 ![] bcast_S_S1x1024 (constant S_ .f32 0x358637BD#32))))))
      (broadcastInDim S16x1024 ![] bcast_S_S16x1024 (constant S_ .f32 0x358637BD#32)))
/-- What the layer adds to the competition. -/
def add (p : FVec F S16x1 .f32) (X : FVec F S16x1024 .f32) : FVec F S16x1 .f32 :=
  Host.divf (broadcastInDim S16x1 ![0] bcast_S16_S16x1_0 (Host.dotGeneral dot_S16x1024_S1024_S16_1_0_0_n_n_n none X
    (Host.reduceAdd (addf L.ka L.ki) (constant S_ .f32 0x00000000#32) reducesTo_S1024x1024_S1024_d0 h_S_))) p

end Lay

/-- The column of ones. -/
abbrev ones : FVec F S16x1 .f32 := broadcastInDim S16x1 ![] bcast_S_S16x1 (constant S_ .f32 0x3F800000#32)

/-- One iteration over three layers, from the competition `p`. -/
def iter (L0 L1 L2 : Lay F) (e : FVec F S_ .f32) (X : FVec F S16x1024 .f32) (p : FVec F S16x1 .f32) : FVec F S16x1 .f32 :=
  addf (addf (addf ones (L0.add p X)) (L1.add p (L0.next e p X))) (L2.add p (L1.next e p (L0.next e p X)))

section Whole

variable (V0 : Valuation τ sig (Elt F))

/-- The arrays of the three layers, cut out of the arguments. -/
abbrev mat (e : EltTy) (l : ℕ) (h : S3x1024x1024.Slices ![l, 0, 0] S1x1024x1024) (x : S3x1024x1024.Idx → Elt F e) : S1024x1024.Idx → Elt F e :=
  shapeCast S1024x1024 (extractStridedSlice S1x1024x1024 ![l, 0, 0] x h) shapeCasts_S1x1024x1024_S1024x1024
abbrev vec (l : ℕ) (h : S3x1024.Slices ![l, 0] S1x1024) (x : FVec F S3x1024 .f32) : FVec F S1024 .f32 :=
  shapeCast S1024 (extractStridedSlice S1x1024 ![l, 0] x h) shapeCasts_S1x1024_S1024
def lay (l : ℕ) (h : S3x1024x1024.Slices ![l, 0, 0] S1x1024x1024) (h' : S3x1024.Slices ![l, 0] S1x1024) : Lay F :=
  ⟨mat .f32 l h (V0 (Proc.devRef .tc main_arg1)), mat .f32 l h (V0 (Proc.devRef .tc main_arg2)), mat .f32 l h (V0 (Proc.devRef .tc main_arg3)),
   mat .f32 l h (V0 (Proc.devRef .tc main_arg4)), mat .f32 l h (V0 (Proc.devRef .tc main_arg5)), mat .f32 l h (V0 (Proc.devRef .tc main_arg6)),
   mat .f32 l h (V0 (Proc.devRef .tc main_arg12)), mat .f32 l h (V0 (Proc.devRef .tc main_arg13)), mat .f32 l h (V0 (Proc.devRef .tc main_arg14)),
   mat .i32 l h (V0 (Proc.devRef .tc main_arg15)),
   vec l h' (V0 (Proc.devRef .tc main_arg7)), vec l h' (V0 (Proc.devRef .tc main_arg8)), vec l h' (V0 (Proc.devRef .tc main_arg9)),
   vec l h' (V0 (Proc.devRef .tc main_arg10)), vec l h' (V0 (Proc.devRef .tc main_arg11))⟩
abbrev lay0 : Lay F := lay V0 0 slices_S3x1024x1024_S1x1024x1024_0_0_0 slices_S3x1024_S1x1024_0_0
abbrev lay1 : Lay F := lay V0 1 slices_S3x1024x1024_S1x1024x1024_1_0_0 slices_S3x1024_S1x1024_1_0
abbrev lay2 : Lay F := lay V0 2 slices_S3x1024x1024_S1x1024x1024_2_0_0 slices_S3x1024_S1x1024_2_0
/-- One iteration of the program. -/
abbrev step (p : FVec F S16x1 .f32) : FVec F S16x1 .f32 :=
  iter (lay0 V0) (lay1 V0) (lay2 V0) (V0 (Proc.devRef .tc main_arg16)) (V0 (Proc.devRef .tc main_arg0)) p

theorem res1 : res_main_v215 V0 = step V0 ones := rfl
theorem res2 : res_main_v480 V0 = step V0 (res_main_v215 V0) := rfl
theorem res3 : res_main_v745 V0 = step V0 (res_main_v480 V0) := rfl
theorem res4 : res_main_v1010 V0 = step V0 (res_main_v745 V0) := rfl

end Whole

set_option maxHeartbeats 4000000 in
/-- From any memory with zero counters the program ends with its output five iterations from the column of ones. -/
theorem run_step (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1275) = step (launchContents m c) (res_main_v1010 (launchContents m c)) :=
  (θ_run defs _ _).mono (fun r h c => (h c).1) (run m ρ)

end Cert.ReferenceIdeal.Hand

end
-- ==== Proof.RefVal.lean ====
/- The reference over the extended reals: entry by entry, it computes the fixed point. -/
module

public import proofs.«01_k».proof.Proof.Ref
public import proofs.«01_k».proof.Proof.Model

@[expose] public section

set_option maxRecDepth 16384

noncomputable section

namespace Cert.ReferenceIdeal.Hand

open Cert.ReferenceIdeal Cert.ReferenceIdeal.Gen Idealize.ShloMosaic
open Cert.Model

/-- The arrays of a layer hold the numbers of layer `l` of `P`. -/
structure Lay.Reads (L : Lay Ideal) (P : Par) (l : Fin 3) : Prop where
  k1 : ∀ u i : Fin 1024, L.k1 (ix2 u i) = P.k1 l u i
  k1n : ∀ u i : Fin 1024, L.k1n (ix2 u i) = P.k1n l u i
  k2 : ∀ u i : Fin 1024, L.k2 (ix2 u i) = P.k2 l u i
  k3 : ∀ u i : Fin 1024, L.k3 (ix2 u i) = P.k3 l u i
  k3n : ∀ u i : Fin 1024, L.k3n (ix2 u i) = P.k3n l u i
  k4 : ∀ u i : Fin 1024, L.k4 (ix2 u i) = P.k4 l u i
  ta : ∀ u i : Fin 1024, L.ta (ix2 u i) = P.ta l u i
  ti : ∀ u i : Fin 1024, L.ti (ix2 u i) = P.ti l u i
  ci : ∀ u i : Fin 1024, L.ci (ix2 u i) = P.ci l u i
  mask : ∀ u i : Fin 1024, L.mask (ix2 u i) = P.mask l u i
  k5 : ∀ u : Fin 1024, L.k5 (ix1 u) = P.k5 l u
  k5n : ∀ u : Fin 1024, L.k5n (ix1 u) = P.k5n l u
  k6 : ∀ u : Fin 1024, L.k6 (ix1 u) = P.k6 l u
  kdI : ∀ u : Fin 1024, L.kdI (ix1 u) = P.kdI l u
  kdT : ∀ u : Fin 1024, L.kdT (ix1 u) = P.kdT l u

variable {L : Lay Ideal} {P : Par} {l : Fin 3} (hL : L.Reads P l)
include hL

theorem ka_apply (u i : Fin 1024) : L.ka (ix2 u i) = P.ka l u i := by
  unfold Lay.ka
  pointwise []
  simp only [cmpi, hL.k1, hL.k1n, hL.k2, hL.ta, hL.mask]
  exact congrArg (Scalar.select _ _) Ideal.ofBits_zero_f32
theorem ki_apply (u i : Fin 1024) : L.ki (ix2 u i) = P.ki l u i := by
  unfold Lay.ki
  pointwise []
  simp only [cmpi, hL.k3, hL.k3n, hL.k4, hL.ti, hL.mask]
  exact congrArg (Scalar.select _ _) Ideal.ofBits_zero_f32

variable {X : FVec Ideal S16x1024 .f32} {x : Fin 16 → Fin 1024 → EReal} (hX : ∀ b i, X (ix2 b i) = x b i)
  {p : FVec Ideal S16x1 .f32} {q : Fin 16 → EReal} (hp : ∀ b, p (ix2 b 0) = q b)
include hX hp

theorem add_apply (b : Fin 16) : L.add p X (ix2 b 0) = Ideal.div (P.add l x b) (q b) := by
  unfold Lay.add
  pointwise []
  simp only [ka_apply hL, ki_apply hL, hX, hp]
  rfl

variable {e : FVec Ideal S_ .f32} (he : e ix0 = P.e0)
include he

theorem next_apply (b : Fin 16) (u : Fin 1024) : L.next e p X (ix2 b u) = P.next l q x b u := by
  unfold Lay.next
  pointwise []
  simp only [ka_apply hL, ki_apply hL, hX, hp, he, hL.k2, hL.ci, hL.k5, hL.k5n, hL.k6, hL.kdI, hL.kdT]
  rfl

omit hL hX hp he in
/-- One iteration. -/
theorem iter_apply {L0 L1 L2 : Lay Ideal} (h0 : L0.Reads P 0) (h1 : L1.Reads P 1) (h2 : L2.Reads P 2) {e : FVec Ideal S_ .f32} (he : e ix0 = P.e0)
    {X : FVec Ideal S16x1024 .f32} (hX : ∀ b i, X (ix2 b i) = P.x0 b i) {p : FVec Ideal S16x1 .f32} {q : Fin 16 → EReal}
    (hp : ∀ b, p (ix2 b 0) = q b) (b : Fin 16) : iter L0 L1 L2 e X p (ix2 b 0) = P.iter q b := by
  have hx1 : ∀ b i, L0.next e p X (ix2 b i) = P.x1 q b i := next_apply h0 hX hp he
  have hx2 : ∀ b i, L1.next e p (L0.next e p X) (ix2 b i) = P.x2 q b i := next_apply h1 hx1 hp he
  unfold iter
  pointwise []
  rw [add_apply h0 hX hp, add_apply h1 hx1 hp, add_apply h2 hx2 hp]
  rfl

end Cert.ReferenceIdeal.Hand

end
-- ==== Proof.RefWhole.lean ====
/- The reference as a whole, over the extended reals: five iterations of the fixed point. -/
module

public import proofs.«01_k».proof.Proof.RefVal
public import proofs.«01_k».proof.Proof.Args

@[expose] public section

set_option maxRecDepth 16384

noncomputable section

namespace Cert.ReferenceIdeal.Hand

open Cert.ReferenceIdeal Cert.ReferenceIdeal.Gen Cert.ReferenceIdeal.Value Idealize.ShloMosaic Idealize.ShloMosaic.TcCoe
open Cert.Model

/-- The arguments of the reference. -/
def args (V0 : Valuation τ sig (Elt Ideal)) : Args :=
  ⟨V0 (Proc.devRef .tc main_arg0), V0 (Proc.devRef .tc main_arg1), V0 (Proc.devRef .tc main_arg2), V0 (Proc.devRef .tc main_arg3),
   V0 (Proc.devRef .tc main_arg4), V0 (Proc.devRef .tc main_arg5), V0 (Proc.devRef .tc main_arg6), V0 (Proc.devRef .tc main_arg7),
   V0 (Proc.devRef .tc main_arg8), V0 (Proc.devRef .tc main_arg9), V0 (Proc.devRef .tc main_arg10), V0 (Proc.devRef .tc main_arg11),
   V0 (Proc.devRef .tc main_arg12), V0 (Proc.devRef .tc main_arg13), V0 (Proc.devRef .tc main_arg14), V0 (Proc.devRef .tc main_arg15),
   V0 (Proc.devRef .tc main_arg16)⟩

/-- Layer `l` of an array of matrices, and of an array of vectors. -/
theorem mat_apply (e : EltTy) (l : Fin 3) (h : S3x1024x1024.Slices ![l.val, 0, 0] S1x1024x1024) (x : S3x1024x1024.Idx → Elt Ideal e) (u i : Fin 1024) :
    mat e l.val h x (ix2 u i) = x (ix3 l u i) := by
  unfold mat
  pointwise []
theorem vec_apply (l : Fin 3) (h : S3x1024.Slices ![l.val, 0] S1x1024) (x : FVec Ideal S3x1024 .f32) (u : Fin 1024) :
    vec l.val h x (ix1 u) = x (ix2 l u) := by
  unfold vec
  pointwise []

variable {V0 : Valuation τ sig (Elt Ideal)} {P : Par} (hA : (args V0).Hold P)
include hA

/-- Each layer reads its numbers. -/
theorem lay_reads (l : Fin 3) (h : S3x1024x1024.Slices ![l.val, 0, 0] S1x1024x1024) (h' : S3x1024.Slices ![l.val, 0] S1x1024) :
    (lay V0 l.val h h').Reads P l :=
  ⟨fun u i => (mat_apply _ l h _ u i).trans (hA.k1 l u i), fun u i => (mat_apply _ l h _ u i).trans (hA.k1n l u i),
   fun u i => (mat_apply _ l h _ u i).trans (hA.k2 l u i), fun u i => (mat_apply _ l h _ u i).trans (hA.k3 l u i),
   fun u i => (mat_apply _ l h _ u i).trans (hA.k3n l u i), fun u i => (mat_apply _ l h _ u i).trans (hA.k4 l u i),
   fun u i => (mat_apply _ l h _ u i).trans (hA.ta l u i), fun u i => (mat_apply _ l h _ u i).trans (hA.ti l u i),
   fun u i => (mat_apply _ l h _ u i).trans (hA.ci l u i), fun u i => (mat_apply _ l h _ u i).trans (hA.mask l u i),
   fun u => (vec_apply l h' _ u).trans (hA.k5 l u), fun u => (vec_apply l h' _ u).trans (hA.k5n l u),
   fun u => (vec_apply l h' _ u).trans (hA.k6 l u), fun u => (vec_apply l h' _ u).trans (hA.kdI l u),
   fun u => (vec_apply l h' _ u).trans (hA.kdT l u)⟩

/-- One iteration of the program is one of the fixed point. -/
theorem step_apply {p : FVec Ideal S16x1 .f32} {q : Fin 16 → EReal} (hp : ∀ b, p (ix2 b 0) = q b) (b : Fin 16) :
    step V0 p (ix2 b 0) = P.iter q b :=
  iter_apply (lay_reads hA 0 _ _) (lay_reads hA 1 _ _) (lay_reads hA 2 _ _) hA.e0 hA.x0 hp b

/-- The reference's result. -/
theorem result_apply (b : Fin 16) : step V0 (res_main_v1010 V0) (ix2 b 0) = P.res b := by
  have h0 : ∀ b : Fin 16, ones (F := Ideal) (ix2 b 0) = (1 : EReal) := fun b => by
    unfold ones
    pointwise []
  rw [res4, res3, res2, res1]
  exact step_apply hA (step_apply hA (step_apply hA (step_apply hA (step_apply hA h0)))) b

end Cert.ReferenceIdeal.Hand

end
-- ==== Proof.Algebra.lean ====
/- The algebraic claim: over the extended reals, where the precondition holds, the kernel and the reference end with the same
   output, five iterations of the fixed point. -/
module

public import proofs.«01_k».proof.Proof.Range
public import proofs.«01_k».proof.Proof.RefWhole
public import proofs.«01_k».proof.Proof.Frames

@[expose] public section

set_option maxRecDepth 16384

noncomputable section

namespace Cert.Proof

open Idealize.ShloMosaic Idealize.SL.Sem Cert.Model

/-- What the kernel leaves in its output. -/
abbrev output (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v14) :=
  (Cert.KernelIdeal.Hand.dats m 0 c).arrAt 14 Cert.KernelIdeal.cfg0.N

/-- It is what the reference computes from the same arguments. -/
theorem output_eq (m : (ℓ : Loc Cert.KernelIdeal.nD Cert.KernelIdeal.τ Cert.KernelIdeal.sig) → Buf (Elt Ideal) ℓ)
    (h : Cert.Pre_KernelIdeal_rates (hPre_rates := pre_facts) m) (c : Dev Cert.KernelIdeal.nD)
    (V0 : Valuation Cert.ReferenceIdeal.τ Cert.ReferenceIdeal.sig (Elt Ideal))
    (hV : Cert.ReferenceIdeal.Hand.args V0 = Cert.KernelIdeal.Hand.args m c) :
    Cert.ReferenceIdeal.Hand.step V0 (Cert.ReferenceIdeal.Value.res_main_v1010 V0) = output m c := by
  have hA := (Cert.KernelIdeal.Hand.args m c).hold
  funext j
  have ej : j = ix2 (j 0) (0 : Fin 1) := by
    funext a
    fin_cases a
    · rfl
    · exact Fin.ext (by have := (j 1).isLt; show (j 1).val = 0; exact Nat.lt_one_iff.1 this)
  rw [ej]
  exact (Cert.ReferenceIdeal.Hand.result_apply (hV ▸ hA) (j 0)).trans (Cert.KernelIdeal.Hand.output_apply hA (good m h c) (j 0)).symm

/-- The kernel leaves it. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩
      fun r => ∀ c : Dev Cert.KernelIdeal.nD,
        r.2.mem ((c.tc : Thread Cert.KernelIdeal.nD Cert.KernelIdeal.τ).loc Cert.KernelIdeal.main_v14) = output m c :=
  (θ_run _ _ _).mono (fun r h c => (h.1 c).1 14) (Cert.KernelIdeal.Hand.run_main m g)

/-- From arguments that agree and satisfy the precondition, the two programs end with the same output and their arguments unchanged. -/
theorem algebraic : Cert.algebraic_KernelIdeal_ReferenceIdeal_pre_rates (hKernelIdeal := Cert.KernelIdeal.Gen.facts)
    (hReferenceIdeal := Cert.ReferenceIdeal.Gen.facts) (hPre_rates := pre_facts) := fun m g m' g' hpre hagree => by
  refine ⟨output m, ?_, ?_⟩
  · refine (θ_run _ _ _).mono (fun r h c => And.intro (h.1 c) (h.2.1 c)) (θ_run_and (kernel_run m g) (quiet_KernelIdeal m g trivial))
  · refine (θ_run _ _ _).mono (fun r h c => And.intro ((h.1 c).trans (output_eq m hpre c _ ?_)) (h.2.1 c))
      (θ_run_and (Cert.ReferenceIdeal.Hand.run_step (F := Ideal) m' g') (quiet_ReferenceIdeal m' g' trivial))
    obtain ⟨a0, a1, a2, a3, a4, a5, a6, a7, a8, a9, a10, a11, a12, a13, a14, a15, a16⟩ := hagree c
    exact Args.ext a0 a1 a2 a3 a4 a5 a6 a7 a8 a9 a10 a11 a12 a13 a14 a15 a16

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebra

@[expose] public section

noncomputable section

namespace Cert.Proof

/-- Every claim of the certificate. -/
theorem claim : Cert.Claim :=
  ⟨Cert.Kernel.Gen.facts, Cert.KernelIdeal.Gen.facts, Cert.ReferenceIdeal.Gen.facts, pre_facts,
    quiet_Kernel, quiet_KernelIdeal, fun m g _ => quiet_KernelIdeal m g trivial,
    quiet_ReferenceIdeal, fun m g _ => quiet_ReferenceIdeal m g trivial, trivial, algebraic⟩

end Cert.Proof

end
